-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_on_boxes_inside_pre_finite_inputs [hKernelIdeal : Cert.KernelIdeal.Facts] [hReferenceIdeal : Cert.ReferenceIdeal.Facts] [hPre_finite_inputs : Cert.Pre_finite_inputs.Facts] [hOn_boxes_inside : Cert.On_boxes_inside.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 50, 256]⟩ : Shape).Idx, (Cert.On_boxes_inside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) i = 1#1 → r.2.mem ((c.tc : Thread Cert.KernelIdeal.nD Cert.KernelIdeal.τ).loc Cert.KernelIdeal.main_v62) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 50, 256]⟩ : Shape).Idx, (Cert.On_boxes_inside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) i = 1#1 → r.2.mem ((c.tc : Thread Cert.ReferenceIdeal.nD Cert.ReferenceIdeal.τ).loc Cert.ReferenceIdeal.main_v517) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts) (hOn_boxes_inside : Cert.On_boxes_inside.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_on_boxes_inside_pre_finite_inputs (hKernelIdeal := hKernelIdeal) (hReferenceIdeal := hReferenceIdeal) (hPre_finite_inputs := hPre_finite_inputs) (hOn_boxes_inside := hOn_boxes_inside)
-- ==== On_boxes_inside.lean ====
abbrev S8x64x100x352 : Shape := ⟨4, ![8, 64, 100, 352]⟩
abbrev S8x50x4 : Shape := ⟨3, ![8, 50, 4]⟩
abbrev S128x64x3x3 : Shape := ⟨4, ![128, 64, 3, 3]⟩
abbrev S128 : Shape := ⟨1, ![128]⟩
abbrev S128x128x3x3 : Shape := ⟨4, ![128, 128, 3, 3]⟩
abbrev S256x128x3x3 : Shape := ⟨4, ![256, 128, 3, 3]⟩
abbrev S256 : Shape := ⟨1, ![256]⟩
abbrev S256x256x3x3 : Shape := ⟨4, ![256, 256, 3, 3]⟩
abbrev S256x256x1x1 : Shape := ⟨4, ![256, 256, 1, 1]⟩
abbrev S8x50x1 : Shape := ⟨3, ![8, 50, 1]⟩
abbrev S8x50 : Shape := ⟨2, ![8, 50]⟩
abbrev S_ : Shape := ⟨0, ![]⟩
abbrev S8x50x256 : Shape := ⟨3, ![8, 50, 256]⟩

class Facts : Prop where
  slices_S8x50x4_S8x50x1_0_0_0 : S8x50x4.Slices ![0, 0, 0] S8x50x1
  shapeCasts_S8x50x1_S8x50 : S8x50x1.ShapeCasts S8x50
  slices_S8x50x4_S8x50x1_0_0_1 : S8x50x4.Slices ![0, 0, 1] S8x50x1
  slices_S8x50x4_S8x50x1_0_0_2 : S8x50x4.Slices ![0, 0, 2] S8x50x1
  slices_S8x50x4_S8x50x1_0_0_3 : S8x50x4.Slices ![0, 0, 3] S8x50x1
  bcast_S_S8x50 : S_.BroadcastsInDim S8x50 (![] : Fin 0 → Fin S8x50.rank)
  bcast_S8x50_S8x50x1_0_1 : S8x50.BroadcastsInDim S8x50x1 (![0, 1] : Fin 2 → Fin S8x50x1.rank)
  bcast_S8x50x1_S8x50x256_0_1_2 : S8x50x1.BroadcastsInDim S8x50x256 (![0, 1, 2] : Fin 3 → Fin S8x50x256.rank)

variable [Facts]

def fn_part1 {F : FTy → Type} [FloatOps F] (main_v7 : IVec S8x50 32) (main_v19 : IVec S8x50 1) (main_c_2 : IVec S_ 32) : IVec S8x50x256 1 :=
  let main_v20 : IVec S8x50 32 := broadcastInDim S8x50 ![] bcast_S_S8x50 main_c_2
  let main_v21 : IVec S8x50 1 := cmpi .sle main_v7 main_v20
  let main_v22 : IVec S8x50 1 := andi main_v19 main_v21
  let main_v23 : IVec S8x50x1 1 := broadcastInDim S8x50x1 ![0, 1] bcast_S8x50_S8x50x1_0_1 main_v22
  let main_v24 : IVec S8x50x256 1 := broadcastInDim S8x50x256 ![0, 1, 2] bcast_S8x50x1_S8x50x256_0_1_2 main_v23
  main_v24

def fn {F : FTy → Type} [FloatOps F] (main_arg0 : FVec F S8x64x100x352 .f32) (main_arg1 : IVec S8x50x4 32) (main_arg2 : FVec F S128x64x3x3 .f32) (main_arg3 : FVec F S128 .f32) (main_arg4 : FVec F S128x128x3x3 .f32) (main_arg5 : FVec F S128 .f32) (main_arg6 : FVec F S128x128x3x3 .f32) (main_arg7 : FVec F S128 .f32) (main_arg8 : FVec F S128x128x3x3 .f32) (main_arg9 : FVec F S128 .f32) (main_arg10 : FVec F S256x128x3x3 .f32) (main_arg11 : FVec F S256 .f32) (main_arg12 : FVec F S256x256x3x3 .f32) (main_arg13 : FVec F S256 .f32) (main_arg14 : FVec F S256x256x3x3 .f32) (main_arg15 : FVec F S256 .f32) (main_arg16 : FVec F S256x256x1x1 .f32) (main_arg17 : FVec F S256 .f32) (main_arg18 : FVec F S256x256x1x1 .f32) (main_arg19 : FVec F S256 .f32) : IVec S8x50x256 1 :=
  let main_v0 : IVec S8x50x1 32 := (extractStridedSlice S8x50x1 ![0, 0, 0] · slices_S8x50x4_S8x50x1_0_0_0) main_arg1
  let main_v1 : IVec S8x50 32 := shapeCast S8x50 main_v0 shapeCasts_S8x50x1_S8x50
  let main_v2 : IVec S8x50x1 32 := (extractStridedSlice S8x50x1 ![0, 0, 1] · slices_S8x50x4_S8x50x1_0_0_1) main_arg1
  let main_v3 : IVec S8x50 32 := shapeCast S8x50 main_v2 shapeCasts_S8x50x1_S8x50
  let main_v4 : IVec S8x50x1 32 := (extractStridedSlice S8x50x1 ![0, 0, 2] · slices_S8x50x4_S8x50x1_0_0_2) main_arg1
  let main_v5 : IVec S8x50 32 := shapeCast S8x50 main_v4 shapeCasts_S8x50x1_S8x50
  let main_v6 : IVec S8x50x1 32 := (extractStridedSlice S8x50x1 ![0, 0, 3] · slices_S8x50x4_S8x50x1_0_0_3) main_arg1
  let main_v7 : IVec S8x50 32 := shapeCast S8x50 main_v6 shapeCasts_S8x50x1_S8x50
  let main_c : IVec S_ 32 := constantI S_ 32 6#32
  let main_v8 : IVec S8x50 32 := broadcastInDim S8x50 ![] bcast_S_S8x50 main_c
  let main_v9 : IVec S8x50 1 := cmpi .sge main_v1 main_v8
  let main_v10 : IVec S8x50 1 := cmpi .slt main_v1 main_v3
  let main_v11 : IVec S8x50 1 := andi main_v9 main_v10
  let main_c_0 : IVec S_ 32 := constantI S_ 32 346#32
  let main_v12 : IVec S8x50 32 := broadcastInDim S8x50 ![] bcast_S_S8x50 main_c_0
  let main_v13 : IVec S8x50 1 := cmpi .sle main_v3 main_v12
  let main_v14 : IVec S8x50 1 := andi main_v11 main_v13
  let main_c_1 : IVec S_ 32 := constantI S_ 32 0#32
  let main_v15 : IVec S8x50 32 := broadcastInDim S8x50 ![] bcast_S_S8x50 main_c_1
  let main_v16 : IVec S8x50 1 := cmpi .sge main_v5 main_v15
  let main_v17 : IVec S8x50 1 := andi main_v14 main_v16
  let main_v18 : IVec S8x50 1 := cmpi .slt main_v5 main_v7
  let main_v19 : IVec S8x50 1 := andi main_v17 main_v18
  let main_c_2 : IVec S_ 32 := constantI S_ 32 100#32
  fn_part1 (F := F) main_v7 main_v19 main_c_2
-- ==== Pre_finite_inputs.lean ====
abbrev S8x64x100x352 : Shape := ⟨4, ![8, 64, 100, 352]⟩
abbrev S8x50x4 : Shape := ⟨3, ![8, 50, 4]⟩
abbrev S128x64x3x3 : Shape := ⟨4, ![128, 64, 3, 3]⟩
abbrev S128 : Shape := ⟨1, ![128]⟩
abbrev S128x128x3x3 : Shape := ⟨4, ![128, 128, 3, 3]⟩
abbrev S256x128x3x3 : Shape := ⟨4, ![256, 128, 3, 3]⟩
abbrev S256 : Shape := ⟨1, ![256]⟩
abbrev S256x256x3x3 : Shape := ⟨4, ![256, 256, 3, 3]⟩
abbrev S256x256x1x1 : Shape := ⟨4, ![256, 256, 1, 1]⟩
abbrev S_ : Shape := ⟨0, ![]⟩

class Facts : Prop where
  bcast_S_S8x64x100x352 : S_.BroadcastsInDim S8x64x100x352 (![] : Fin 0 → Fin S8x64x100x352.rank)
  bcast_S_S128x64x3x3 : S_.BroadcastsInDim S128x64x3x3 (![] : Fin 0 → Fin S128x64x3x3.rank)
  bcast_S_S128x128x3x3 : S_.BroadcastsInDim S128x128x3x3 (![] : Fin 0 → Fin S128x128x3x3.rank)
  bcast_S_S256x128x3x3 : S_.BroadcastsInDim S256x128x3x3 (![] : Fin 0 → Fin S256x128x3x3.rank)
  bcast_S_S256x256x3x3 : S_.BroadcastsInDim S256x256x3x3 (![] : Fin 0 → Fin S256x256x3x3.rank)
  bcast_S_S256x256x1x1 : S_.BroadcastsInDim S256x256x1x1 (![] : Fin 0 → Fin S256x256x1x1.rank)
  bcast_S_S128 : S_.BroadcastsInDim S128 (![] : Fin 0 → Fin S128.rank)
  bcast_S_S256 : S_.BroadcastsInDim S256 (![] : Fin 0 → Fin S256.rank)

variable [Facts]

def fn_part3 {F : FTy → Type} [FloatOps F] (main_arg15 : FVec F S256 .f32) (main_arg17 : FVec F S256 .f32) (main_arg19 : FVec F S256 .f32) (main_v2 : IVec S8x64x100x352 1) (main_v5 : IVec S128x64x3x3 1) (main_v16 : IVec S128x128x3x3 1) (main_v19 : IVec S256x128x3x3 1) (main_v26 : IVec S256x256x3x3 1) (main_v33 : IVec S256x256x1x1 1) (main_v48 : IVec S128 1) (main_v55 : IVec S256 1) : IVec S8x64x100x352 1 × IVec S128x64x3x3 1 × IVec S128x128x3x3 1 × IVec S256x128x3x3 1 × IVec S256x256x3x3 1 × IVec S256x256x1x1 1 × IVec S128 1 × IVec S256 1 :=
  let main_v56 : FVec F S256 .f32 := Host.absf main_arg15
  let main_cst_15 : FVec F S_ .f32 := constant S_ .f32 0x7F800000#32
  let main_v57 : FVec F S256 .f32 := broadcastInDim S256 ![] bcast_S_S256 main_cst_15
  let main_v58 : IVec S256 1 := cmpf .olt main_v56 main_v57
  let main_v59 : IVec S256 1 := andi main_v55 main_v58
  let main_v60 : FVec F S256 .f32 := Host.absf main_arg17
  let main_cst_16 : FVec F S_ .f32 := constant S_ .f32 0x7F800000#32
  let main_v61 : FVec F S256 .f32 := broadcastInDim S256 ![] bcast_S_S256 main_cst_16
  let main_v62 : IVec S256 1 := cmpf .olt main_v60 main_v61
  let main_v63 : IVec S256 1 := andi main_v59 main_v62
  let main_v64 : FVec F S256 .f32 := Host.absf main_arg19
  let main_cst_17 : FVec F S_ .f32 := constant S_ .f32 0x7F800000#32
  let main_v65 : FVec F S256 .f32 := broadcastInDim S256 ![] bcast_S_S256 main_cst_17
  let main_v66 : IVec S256 1 := cmpf .olt main_v64 main_v65
  let main_v67 : IVec S256 1 := andi main_v63 main_v66
  (main_v2, main_v5, main_v16, main_v19, main_v26, main_v33, main_v48, main_v67)

def fn_part2 {F : FTy → Type} [FloatOps F] (main_arg5 : FVec F S128 .f32) (main_arg7 : FVec F S128 .f32) (main_arg9 : FVec F S128 .f32) (main_arg11 : FVec F S256 .f32) (main_arg13 : FVec F S256 .f32) (main_arg15 : FVec F S256 .f32) (main_arg17 : FVec F S256 .f32) (main_arg19 : FVec F S256 .f32) (main_v2 : IVec S8x64x100x352 1) (main_v5 : IVec S128x64x3x3 1) (main_v16 : IVec S128x128x3x3 1) (main_v19 : IVec S256x128x3x3 1) (main_v26 : IVec S256x256x3x3 1) (main_v33 : IVec S256x256x1x1 1) (main_v36 : IVec S128 1) : IVec S8x64x100x352 1 × IVec S128x64x3x3 1 × IVec S128x128x3x3 1 × IVec S256x128x3x3 1 × IVec S256x256x3x3 1 × IVec S256x256x1x1 1 × IVec S128 1 × IVec S256 1 :=
  let main_v37 : FVec F S128 .f32 := Host.absf main_arg5
  let main_cst_10 : FVec F S_ .f32 := constant S_ .f32 0x7F800000#32
  let main_v38 : FVec F S128 .f32 := broadcastInDim S128 ![] bcast_S_S128 main_cst_10
  let main_v39 : IVec S128 1 := cmpf .olt main_v37 main_v38
  let main_v40 : IVec S128 1 := andi main_v36 main_v39
  let main_v41 : FVec F S128 .f32 := Host.absf main_arg7
  let main_cst_11 : FVec F S_ .f32 := constant S_ .f32 0x7F800000#32
  let main_v42 : FVec F S128 .f32 := broadcastInDim S128 ![] bcast_S_S128 main_cst_11
  let main_v43 : IVec S128 1 := cmpf .olt main_v41 main_v42
  let main_v44 : IVec S128 1 := andi main_v40 main_v43
  let main_v45 : FVec F S128 .f32 := Host.absf main_arg9
  let main_cst_12 : FVec F S_ .f32 := constant S_ .f32 0x7F800000#32
  let main_v46 : FVec F S128 .f32 := broadcastInDim S128 ![] bcast_S_S128 main_cst_12
  let main_v47 : IVec S128 1 := cmpf .olt main_v45 main_v46
  let main_v48 : IVec S128 1 := andi main_v44 main_v47
  let main_v49 : FVec F S256 .f32 := Host.absf main_arg11
  let main_cst_13 : FVec F S_ .f32 := constant S_ .f32 0x7F800000#32
  let main_v50 : FVec F S256 .f32 := broadcastInDim S256 ![] bcast_S_S256 main_cst_13
  let main_v51 : IVec S256 1 := cmpf .olt main_v49 main_v50
  let main_v52 : FVec F S256 .f32 := Host.absf main_arg13
  let main_cst_14 : FVec F S_ .f32 := constant S_ .f32 0x7F800000#32
  let main_v53 : FVec F S256 .f32 := broadcastInDim S256 ![] bcast_S_S256 main_cst_14
  let main_v54 : IVec S256 1 := cmpf .olt main_v52 main_v53
  let main_v55 : IVec S256 1 := andi main_v51 main_v54
  fn_part3 (F := F) main_arg15 main_arg17 main_arg19 main_v2 main_v5 main_v16 main_v19 main_v26 main_v33 main_v48 main_v55

def fn_part1 {F : FTy → Type} [FloatOps F] (main_arg3 : FVec F S128 .f32) (main_arg5 : FVec F S128 .f32) (main_arg7 : FVec F S128 .f32) (main_arg9 : FVec F S128 .f32) (main_arg11 : FVec F S256 .f32) (main_arg12 : FVec F S256x256x3x3 .f32) (main_arg13 : FVec F S256 .f32) (main_arg14 : FVec F S256x256x3x3 .f32) (main_arg15 : FVec F S256 .f32) (main_arg16 : FVec F S256x256x1x1 .f32) (main_arg17 : FVec F S256 .f32) (main_arg18 : FVec F S256x256x1x1 .f32) (main_arg19 : FVec F S256 .f32) (main_v2 : IVec S8x64x100x352 1) (main_v5 : IVec S128x64x3x3 1) (main_v16 : IVec S128x128x3x3 1) (main_v17 : FVec F S256x128x3x3 .f32) (main_cst_4 : FVec F S_ .f32) : IVec S8x64x100x352 1 × IVec S128x64x3x3 1 × IVec S128x128x3x3 1 × IVec S256x128x3x3 1 × IVec S256x256x3x3 1 × IVec S256x256x1x1 1 × IVec S128 1 × IVec S256 1 :=
  let main_v18 : FVec F S256x128x3x3 .f32 := broadcastInDim S256x128x3x3 ![] bcast_S_S256x128x3x3 main_cst_4
  let main_v19 : IVec S256x128x3x3 1 := cmpf .olt main_v17 main_v18
  let main_v20 : FVec F S256x256x3x3 .f32 := Host.absf main_arg12
  let main_cst_5 : FVec F S_ .f32 := constant S_ .f32 0x7F800000#32
  let main_v21 : FVec F S256x256x3x3 .f32 := broadcastInDim S256x256x3x3 ![] bcast_S_S256x256x3x3 main_cst_5
  let main_v22 : IVec S256x256x3x3 1 := cmpf .olt main_v20 main_v21
  let main_v23 : FVec F S256x256x3x3 .f32 := Host.absf main_arg14
  let main_cst_6 : FVec F S_ .f32 := constant S_ .f32 0x7F800000#32
  let main_v24 : FVec F S256x256x3x3 .f32 := broadcastInDim S256x256x3x3 ![] bcast_S_S256x256x3x3 main_cst_6
  let main_v25 : IVec S256x256x3x3 1 := cmpf .olt main_v23 main_v24
  let main_v26 : IVec S256x256x3x3 1 := andi main_v22 main_v25
  let main_v27 : FVec F S256x256x1x1 .f32 := Host.absf main_arg16
  let main_cst_7 : FVec F S_ .f32 := constant S_ .f32 0x7F800000#32
  let main_v28 : FVec F S256x256x1x1 .f32 := broadcastInDim S256x256x1x1 ![] bcast_S_S256x256x1x1 main_cst_7
  let main_v29 : IVec S256x256x1x1 1 := cmpf .olt main_v27 main_v28
  let main_v30 : FVec F S256x256x1x1 .f32 := Host.absf main_arg18
  let main_cst_8 : FVec F S_ .f32 := constant S_ .f32 0x7F800000#32
  let main_v31 : FVec F S256x256x1x1 .f32 := broadcastInDim S256x256x1x1 ![] bcast_S_S256x256x1x1 main_cst_8
  let main_v32 : IVec S256x256x1x1 1 := cmpf .olt main_v30 main_v31
  let main_v33 : IVec S256x256x1x1 1 := andi main_v29 main_v32
  let main_v34 : FVec F S128 .f32 := Host.absf main_arg3
  let main_cst_9 : FVec F S_ .f32 := constant S_ .f32 0x7F800000#32
  let main_v35 : FVec F S128 .f32 := broadcastInDim S128 ![] bcast_S_S128 main_cst_9
  let main_v36 : IVec S128 1 := cmpf .olt main_v34 main_v35
  fn_part2 (F := F) main_arg5 main_arg7 main_arg9 main_arg11 main_arg13 main_arg15 main_arg17 main_arg19 main_v2 main_v5 main_v16 main_v19 main_v26 main_v33 main_v36

def fn {F : FTy → Type} [FloatOps F] (main_arg0 : FVec F S8x64x100x352 .f32) (main_arg1 : IVec S8x50x4 32) (main_arg2 : FVec F S128x64x3x3 .f32) (main_arg3 : FVec F S128 .f32) (main_arg4 : FVec F S128x128x3x3 .f32) (main_arg5 : FVec F S128 .f32) (main_arg6 : FVec F S128x128x3x3 .f32) (main_arg7 : FVec F S128 .f32) (main_arg8 : FVec F S128x128x3x3 .f32) (main_arg9 : FVec F S128 .f32) (main_arg10 : FVec F S256x128x3x3 .f32) (main_arg11 : FVec F S256 .f32) (main_arg12 : FVec F S256x256x3x3 .f32) (main_arg13 : FVec F S256 .f32) (main_arg14 : FVec F S256x256x3x3 .f32) (main_arg15 : FVec F S256 .f32) (main_arg16 : FVec F S256x256x1x1 .f32) (main_arg17 : FVec F S256 .f32) (main_arg18 : FVec F S256x256x1x1 .f32) (main_arg19 : FVec F S256 .f32) : IVec S8x64x100x352 1 × IVec S128x64x3x3 1 × IVec S128x128x3x3 1 × IVec S256x128x3x3 1 × IVec S256x256x3x3 1 × IVec S256x256x1x1 1 × IVec S128 1 × IVec S256 1 :=
  let main_v0 : FVec F S8x64x100x352 .f32 := Host.absf main_arg0
  let main_cst : FVec F S_ .f32 := constant S_ .f32 0x7F800000#32
  let main_v1 : FVec F S8x64x100x352 .f32 := broadcastInDim S8x64x100x352 ![] bcast_S_S8x64x100x352 main_cst
  let main_v2 : IVec S8x64x100x352 1 := cmpf .olt main_v0 main_v1
  let main_v3 : FVec F S128x64x3x3 .f32 := Host.absf main_arg2
  let main_cst_0 : FVec F S_ .f32 := constant S_ .f32 0x7F800000#32
  let main_v4 : FVec F S128x64x3x3 .f32 := broadcastInDim S128x64x3x3 ![] bcast_S_S128x64x3x3 main_cst_0
  let main_v5 : IVec S128x64x3x3 1 := cmpf .olt main_v3 main_v4
  let main_v6 : FVec F S128x128x3x3 .f32 := Host.absf main_arg4
  let main_cst_1 : FVec F S_ .f32 := constant S_ .f32 0x7F800000#32
  let main_v7 : FVec F S128x128x3x3 .f32 := broadcastInDim S128x128x3x3 ![] bcast_S_S128x128x3x3 main_cst_1
  let main_v8 : IVec S128x128x3x3 1 := cmpf .olt main_v6 main_v7
  let main_v9 : FVec F S128x128x3x3 .f32 := Host.absf main_arg6
  let main_cst_2 : FVec F S_ .f32 := constant S_ .f32 0x7F800000#32
  let main_v10 : FVec F S128x128x3x3 .f32 := broadcastInDim S128x128x3x3 ![] bcast_S_S128x128x3x3 main_cst_2
  let main_v11 : IVec S128x128x3x3 1 := cmpf .olt main_v9 main_v10
  let main_v12 : IVec S128x128x3x3 1 := andi main_v8 main_v11
  let main_v13 : FVec F S128x128x3x3 .f32 := Host.absf main_arg8
  let main_cst_3 : FVec F S_ .f32 := constant S_ .f32 0x7F800000#32
  let main_v14 : FVec F S128x128x3x3 .f32 := broadcastInDim S128x128x3x3 ![] bcast_S_S128x128x3x3 main_cst_3
  let main_v15 : IVec S128x128x3x3 1 := cmpf .olt main_v13 main_v14
  let main_v16 : IVec S128x128x3x3 1 := andi main_v12 main_v15
  let main_v17 : FVec F S256x128x3x3 .f32 := Host.absf main_arg10
  let main_cst_4 : FVec F S_ .f32 := constant S_ .f32 0x7F800000#32
  fn_part1 (F := F) main_arg3 main_arg5 main_arg7 main_arg9 main_arg11 main_arg12 main_arg13 main_arg14 main_arg15 main_arg16 main_arg17 main_arg18 main_arg19 main_v2 main_v5 main_v16 main_v17 main_cst_4
-- ==== Kernel.lean ====
abbrev S8x64x100x352 : Shape := ⟨4, ![8, 64, 100, 352]⟩
abbrev S8x50x4 : Shape := ⟨3, ![8, 50, 4]⟩
abbrev S128x64x3x3 : Shape := ⟨4, ![128, 64, 3, 3]⟩
abbrev S128 : Shape := ⟨1, ![128]⟩
abbrev S128x128x3x3 : Shape := ⟨4, ![128, 128, 3, 3]⟩
abbrev S256x128x3x3 : Shape := ⟨4, ![256, 128, 3, 3]⟩
abbrev S256 : Shape := ⟨1, ![256]⟩
abbrev S256x256x3x3 : Shape := ⟨4, ![256, 256, 3, 3]⟩
abbrev S256x256x1x1 : Shape := ⟨4, ![256, 256, 1, 1]⟩
abbrev S8x100x352x64 : Shape := ⟨4, ![8, 100, 352, 64]⟩
abbrev S_ : Shape := ⟨0, ![]⟩
abbrev S8x102x368x64 : Shape := ⟨4, ![8, 102, 368, 64]⟩
abbrev S256x256 : Shape := ⟨2, ![256, 256]⟩
abbrev S8x50x1 : Shape := ⟨3, ![8, 50, 1]⟩
abbrev S8x50 : Shape := ⟨2, ![8, 50]⟩
abbrev S8800 : Shape := ⟨1, ![8800]⟩
abbrev S1x8800 : Shape := ⟨2, ![1, 8800]⟩
abbrev S3x3x64x128 : Shape := ⟨4, ![3, 3, 64, 128]⟩
abbrev S9x64x128 : Shape := ⟨3, ![9, 64, 128]⟩
abbrev S1x128 : Shape := ⟨2, ![1, 128]⟩
abbrev S3x3x128x128 : Shape := ⟨4, ![3, 3, 128, 128]⟩
abbrev S9x128x128 : Shape := ⟨3, ![9, 128, 128]⟩
abbrev S3x3x128x256 : Shape := ⟨4, ![3, 3, 128, 256]⟩
abbrev S9x128x256 : Shape := ⟨3, ![9, 128, 256]⟩
abbrev S1x256 : Shape := ⟨2, ![1, 256]⟩
abbrev S3x3x256x256 : Shape := ⟨4, ![3, 3, 256, 256]⟩
abbrev S9x256x256 : Shape := ⟨3, ![9, 256, 256]⟩
abbrev S8x50x256 : Shape := ⟨3, ![8, 50, 256]⟩
abbrev S1x50x1 : Shape := ⟨3, ![1, 50, 1]⟩
abbrev S1x50x256 : Shape := ⟨3, ![1, 50, 256]⟩
abbrev S104x104x64 : Shape := ⟨3, ![104, 104, 64]⟩
abbrev S10816x256 : Shape := ⟨2, ![10816, 256]⟩
abbrev S102x104x64 : Shape := ⟨3, ![102, 104, 64]⟩
abbrev S1x102x104x64 : Shape := ⟨4, ![1, 102, 104, 64]⟩
abbrev S1x104x64 : Shape := ⟨3, ![1, 104, 64]⟩
abbrev S208x256 : Shape := ⟨2, ![208, 256]⟩
abbrev S10816x64 : Shape := ⟨2, ![10816, 64]⟩
abbrev S10400x64 : Shape := ⟨2, ![10400, 64]⟩
abbrev S1x64x128 : Shape := ⟨3, ![1, 64, 128]⟩
abbrev S64x128 : Shape := ⟨2, ![64, 128]⟩
abbrev S10400x128 : Shape := ⟨2, ![10400, 128]⟩
abbrev S1x128x128 : Shape := ⟨3, ![1, 128, 128]⟩
abbrev S128x128 : Shape := ⟨2, ![128, 128]⟩
abbrev S1x128x256 : Shape := ⟨3, ![1, 128, 256]⟩
abbrev S128x256 : Shape := ⟨2, ![128, 256]⟩
abbrev S10400x256 : Shape := ⟨2, ![10400, 256]⟩
abbrev S1x256x256 : Shape := ⟨3, ![1, 256, 256]⟩
abbrev S100x104x256 : Shape := ⟨3, ![100, 104, 256]⟩
abbrev S100x88x256 : Shape := ⟨3, ![100, 88, 256]⟩
abbrev S8800x256 : Shape := ⟨2, ![8800, 256]⟩
abbrev S50x1 : Shape := ⟨2, ![50, 1]⟩
abbrev S50x8800 : Shape := ⟨2, ![50, 8800]⟩
abbrev S50x256 : Shape := ⟨2, ![50, 256]⟩

abbrev nBuf : Space → Nat
  | .hbm => 124
  | .vmem => 35
  | .smem => 0
  | _ => 0

abbrev bufTy : (tb : Table) → Fin (tcTables nBuf tb) → BufTy
  | .hbm, ⟨0, _⟩ => ⟨S8x64x100x352, .f32⟩
  | .hbm, ⟨1, _⟩ => ⟨S8x50x4, .i32⟩
  | .hbm, ⟨2, _⟩ => ⟨S128x64x3x3, .f32⟩
  | .hbm, ⟨3, _⟩ => ⟨S128, .f32⟩
  | .hbm, ⟨4, _⟩ => ⟨S128x128x3x3, .f32⟩
  | .hbm, ⟨5, _⟩ => ⟨S128, .f32⟩
  | .hbm, ⟨6, _⟩ => ⟨S128x128x3x3, .f32⟩
  | .hbm, ⟨7, _⟩ => ⟨S128, .f32⟩
  | .hbm, ⟨8, _⟩ => ⟨S128x128x3x3, .f32⟩
  | .hbm, ⟨9, _⟩ => ⟨S128, .f32⟩
  | .hbm, ⟨10, _⟩ => ⟨S256x128x3x3, .f32⟩
  | .hbm, ⟨11, _⟩ => ⟨S256, .f32⟩
  | .hbm, ⟨12, _⟩ => ⟨S256x256x3x3, .f32⟩
  | .hbm, ⟨13, _⟩ => ⟨S256, .f32⟩
  | .hbm, ⟨14, _⟩ => ⟨S256x256x3x3, .f32⟩
  | .hbm, ⟨15, _⟩ => ⟨S256, .f32⟩
  | .hbm, ⟨16, _⟩ => ⟨S256x256x1x1, .f32⟩
  | .hbm, ⟨17, _⟩ => ⟨S256, .f32⟩
  | .hbm, ⟨18, _⟩ => ⟨S256x256x1x1, .f32⟩
  | .hbm, ⟨19, _⟩ => ⟨S256, .f32⟩
  | .hbm, ⟨20, _⟩ => ⟨S8x100x352x64, .f32⟩
  | .hbm, ⟨21, _⟩ => ⟨S_, .i32⟩
  | .hbm, ⟨22, _⟩ => ⟨S_, .f32⟩
  | .hbm, ⟨23, _⟩ => ⟨S8x102x368x64, .f32⟩
  | .hbm, ⟨24, _⟩ => ⟨S8x102x368x64, .bf16⟩
  | .hbm, ⟨25, _⟩ => ⟨S256x256, .f32⟩
  | .hbm, ⟨26, _⟩ => ⟨S256x256, .f32⟩
  | .hbm, ⟨27, _⟩ => ⟨S256x256, .bf16⟩
  | .hbm, ⟨28, _⟩ => ⟨S256x256, .f32⟩
  | .hbm, ⟨29, _⟩ => ⟨S256x256, .f32⟩
  | .hbm, ⟨30, _⟩ => ⟨S256x256, .bf16⟩
  | .hbm, ⟨31, _⟩ => ⟨S8x50x1, .i32⟩
  | .hbm, ⟨32, _⟩ => ⟨S8x50, .i32⟩
  | .hbm, ⟨33, _⟩ => ⟨S8x50x1, .i32⟩
  | .hbm, ⟨34, _⟩ => ⟨S8x50x1, .i32⟩
  | .hbm, ⟨35, _⟩ => ⟨S8x50, .i32⟩
  | .hbm, ⟨36, _⟩ => ⟨S8x50x1, .i32⟩
  | .hbm, ⟨37, _⟩ => ⟨S8x50x1, .i32⟩
  | .hbm, ⟨38, _⟩ => ⟨S8x50, .i32⟩
  | .hbm, ⟨39, _⟩ => ⟨S8x50x1, .i32⟩
  | .hbm, ⟨40, _⟩ => ⟨S8x50x1, .i32⟩
  | .hbm, ⟨41, _⟩ => ⟨S8x50, .i32⟩
  | .hbm, ⟨42, _⟩ => ⟨S8x50x1, .i32⟩
  | .hbm, ⟨43, _⟩ => ⟨S8x50x1, .i32⟩
  | .hbm, ⟨44, _⟩ => ⟨S8x50x1, .i32⟩
  | .hbm, ⟨45, _⟩ => ⟨S8x50x1, .i32⟩
  | .hbm, ⟨46, _⟩ => ⟨S8x50x1, .f32⟩
  | .hbm, ⟨47, _⟩ => ⟨S_, .f32⟩
  | .hbm, ⟨48, _⟩ => ⟨S8x50x1, .f32⟩
  | .hbm, ⟨49, _⟩ => ⟨S8x50x1, .f32⟩
  | .hbm, ⟨50, _⟩ => ⟨S8800, .i32⟩
  | .hbm, ⟨51, _⟩ => ⟨S_, .i32⟩
  | .hbm, ⟨52, _⟩ => ⟨S_, .i32⟩
  | .hbm, ⟨53, _⟩ => ⟨S8800, .i32⟩
  | .hbm, ⟨54, _⟩ => ⟨S8800, .i32⟩
  | .hbm, ⟨55, _⟩ => ⟨S8800, .i32⟩
  | .hbm, ⟨56, _⟩ => ⟨S_, .i32⟩
  | .hbm, ⟨57, _⟩ => ⟨S8800, .i32⟩
  | .hbm, ⟨58, _⟩ => ⟨S8800, .i1⟩
  | .hbm, ⟨59, _⟩ => ⟨S8800, .i32⟩
  | .hbm, ⟨60, _⟩ => ⟨S8800, .i32⟩
  | .hbm, ⟨61, _⟩ => ⟨S_, .i32⟩
  | .hbm, ⟨62, _⟩ => ⟨S8800, .i32⟩
  | .hbm, ⟨63, _⟩ => ⟨S8800, .i1⟩
  | .hbm, ⟨64, _⟩ => ⟨S8800, .i1⟩
  | .hbm, ⟨65, _⟩ => ⟨S_, .i32⟩
  | .hbm, ⟨66, _⟩ => ⟨S8800, .i32⟩
  | .hbm, ⟨67, _⟩ => ⟨S8800, .i32⟩
  | .hbm, ⟨68, _⟩ => ⟨S8800, .i32⟩
  | .hbm, ⟨69, _⟩ => ⟨S1x8800, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S8800, .i32⟩
  | .hbm, ⟨77, _⟩ => ⟨S8800, .i32⟩
  | .hbm, ⟨78, _⟩ => ⟨S_, .i32⟩
  | .hbm, ⟨79, _⟩ => ⟨S8800, .i32⟩
  | .hbm, ⟨80, _⟩ => ⟨S8800, .i1⟩
  | .hbm, ⟨81, _⟩ => ⟨S_, .i32⟩
  | .hbm, ⟨82, _⟩ => ⟨S8800, .i32⟩
  | .hbm, ⟨83, _⟩ => ⟨S8800, .i1⟩
  | .hbm, ⟨84, _⟩ => ⟨S_, .i32⟩
  | .hbm, ⟨85, _⟩ => ⟨S_, .i1⟩
  | .hbm, ⟨86, _⟩ => ⟨S8800, .i1⟩
  | .hbm, ⟨87, _⟩ => ⟨S8800, .i1⟩
  | .hbm, ⟨88, _⟩ => ⟨S8800, .i1⟩
  | .hbm, ⟨89, _⟩ => ⟨S8800, .i32⟩
  | .hbm, ⟨90, _⟩ => ⟨S8800, .i32⟩
  | .hbm, ⟨91, _⟩ => ⟨S8800, .i32⟩
  | .hbm, ⟨92, _⟩ => ⟨S1x8800, .i32⟩
  | .hbm, ⟨93, _⟩ => ⟨S3x3x64x128, .f32⟩
  | .hbm, ⟨94, _⟩ => ⟨S9x64x128, .f32⟩
  | .hbm, ⟨95, _⟩ => ⟨S9x64x128, .bf16⟩
  | .hbm, ⟨96, _⟩ => ⟨S1x128, .f32⟩
  | .hbm, ⟨97, _⟩ => ⟨S3x3x128x128, .f32⟩
  | .hbm, ⟨98, _⟩ => ⟨S9x128x128, .f32⟩
  | .hbm, ⟨99, _⟩ => ⟨S9x128x128, .bf16⟩
  | .hbm, ⟨100, _⟩ => ⟨S1x128, .f32⟩
  | .hbm, ⟨101, _⟩ => ⟨S3x3x128x128, .f32⟩
  | .hbm, ⟨102, _⟩ => ⟨S9x128x128, .f32⟩
  | .hbm, ⟨103, _⟩ => ⟨S9x128x128, .bf16⟩
  | .hbm, ⟨104, _⟩ => ⟨S1x128, .f32⟩
  | .hbm, ⟨105, _⟩ => ⟨S3x3x128x128, .f32⟩
  | .hbm, ⟨106, _⟩ => ⟨S9x128x128, .f32⟩
  | .hbm, ⟨107, _⟩ => ⟨S9x128x128, .bf16⟩
  | .hbm, ⟨108, _⟩ => ⟨S1x128, .f32⟩
  | .hbm, ⟨109, _⟩ => ⟨S3x3x128x256, .f32⟩
  | .hbm, ⟨110, _⟩ => ⟨S9x128x256, .f32⟩
  | .hbm, ⟨111, _⟩ => ⟨S9x128x256, .bf16⟩
  | .hbm, ⟨112, _⟩ => ⟨S1x256, .f32⟩
  | .hbm, ⟨113, _⟩ => ⟨S3x3x256x256, .f32⟩
  | .hbm, ⟨114, _⟩ => ⟨S9x256x256, .f32⟩
  | .hbm, ⟨115, _⟩ => ⟨S9x256x256, .bf16⟩
  | .hbm, ⟨116, _⟩ => ⟨S1x256, .f32⟩
  | .hbm, ⟨117, _⟩ => ⟨S3x3x256x256, .f32⟩
  | .hbm, ⟨118, _⟩ => ⟨S9x256x256, .f32⟩
  | .hbm, ⟨119, _⟩ => ⟨S9x256x256, .bf16⟩
  | .hbm, ⟨120, _⟩ => ⟨S1x256, .f32⟩
  | .hbm, ⟨121, _⟩ => ⟨S1x256, .f32⟩
  | .hbm, ⟨122, _⟩ => ⟨S1x256, .f32⟩
  | .hbm, ⟨123, _⟩ => ⟨S8x50x256, .f32⟩
  | .local _ .vmem, ⟨0, _⟩ => ⟨S1x50x1, .i32⟩
  | .local _ .vmem, ⟨1, _⟩ => ⟨S1x50x1, .i32⟩
  | .local _ .vmem, ⟨2, _⟩ => ⟨S1x50x1, .i32⟩
  | .local _ .vmem, ⟨3, _⟩ => ⟨S1x50x1, .i32⟩
  | .local _ .vmem, ⟨4, _⟩ => ⟨S1x50x1, .i32⟩
  | .local _ .vmem, ⟨5, _⟩ => ⟨S1x50x1, .i32⟩
  | .local _ .vmem, ⟨6, _⟩ => ⟨S1x50x1, .i32⟩
  | .local _ .vmem, ⟨7, _⟩ => ⟨S1x50x1, .i32⟩
  | .local _ .vmem, ⟨8, _⟩ => ⟨S1x50x1, .f32⟩
  | .local _ .vmem, ⟨9, _⟩ => ⟨S1x50x1, .f32⟩
  | .local _ .vmem, ⟨10, _⟩ => ⟨S1x8800, .i32⟩
  | .local _ .vmem, ⟨11, _⟩ => ⟨S1x8800, .i32⟩
  | .local _ .vmem, ⟨12, _⟩ => ⟨S9x64x128, .bf16⟩
  | .local _ .vmem, ⟨13, _⟩ => ⟨S1x128, .f32⟩
  | .local _ .vmem, ⟨14, _⟩ => ⟨S9x128x128, .bf16⟩
  | .local _ .vmem, ⟨15, _⟩ => ⟨S1x128, .f32⟩
  | .local _ .vmem, ⟨16, _⟩ => ⟨S9x128x128, .bf16⟩
  | .local _ .vmem, ⟨17, _⟩ => ⟨S1x128, .f32⟩
  | .local _ .vmem, ⟨18, _⟩ => ⟨S9x128x128, .bf16⟩
  | .local _ .vmem, ⟨19, _⟩ => ⟨S1x128, .f32⟩
  | .local _ .vmem, ⟨20, _⟩ => ⟨S9x128x256, .bf16⟩
  | .local _ .vmem, ⟨21, _⟩ => ⟨S1x256, .f32⟩
  | .local _ .vmem, ⟨22, _⟩ => ⟨S9x256x256, .bf16⟩
  | .local _ .vmem, ⟨23, _⟩ => ⟨S1x256, .f32⟩
  | .local _ .vmem, ⟨24, _⟩ => ⟨S9x256x256, .bf16⟩
  | .local _ .vmem, ⟨25, _⟩ => ⟨S1x256, .f32⟩
  | .local _ .vmem, ⟨26, _⟩ => ⟨S256x256, .bf16⟩
  | .local _ .vmem, ⟨27, _⟩ => ⟨S1x256, .f32⟩
  | .local _ .vmem, ⟨28, _⟩ => ⟨S256x256, .bf16⟩
  | .local _ .vmem, ⟨29, _⟩ => ⟨S1x256, .f32⟩
  | .local _ .vmem, ⟨30, _⟩ => ⟨S1x50x256, .f32⟩
  | .local _ .vmem, ⟨31, _⟩ => ⟨S1x50x256, .f32⟩
  | .local _ .vmem, ⟨32, _⟩ => ⟨S104x104x64, .bf16⟩
  | .local _ .vmem, ⟨33, _⟩ => ⟨S10816x256, .bf16⟩
  | .local _ .vmem, ⟨34, _⟩ => ⟨S10816x256, .bf16⟩
  | _, _ => ⟨S8x64x100x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_call0_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_0 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_c : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_0 : Ref sig .tc := ⟨.hbm, 65, rfl⟩
abbrev main_call1_v12 : Ref sig .tc := ⟨.hbm, 66, rfl⟩
abbrev main_call1_v13 : Ref sig .tc := ⟨.hbm, 67, rfl⟩
abbrev main_v28 : Ref sig .tc := ⟨.hbm, 68, rfl⟩
abbrev main_v29 : Ref sig .tc := ⟨.hbm, 69, rfl⟩
abbrev main_c_1 : Ref sig .tc := ⟨.hbm, 70, rfl⟩
abbrev main_call2_v0 : Ref sig .tc := ⟨.hbm, 71, rfl⟩
abbrev main_call2_c : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_c_1 : Ref sig .tc := ⟨.hbm, 78, rfl⟩
abbrev main_call2_v5 : Ref sig .tc := ⟨.hbm, 79, rfl⟩
abbrev main_call2_v6 : Ref sig .tc := ⟨.hbm, 80, rfl⟩
abbrev main_call2_c_2 : Ref sig .tc := ⟨.hbm, 81, rfl⟩
abbrev main_call2_v7 : Ref sig .tc := ⟨.hbm, 82, rfl⟩
abbrev main_call2_v8 : Ref sig .tc := ⟨.hbm, 83, rfl⟩
abbrev main_call2_c_3 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg24_0 : Ref sig .tc := ⟨.vmem, 29, rfl⟩
abbrev cc0_stg25_0 : Ref sig .tc := ⟨.vmem, 30, rfl⟩
abbrev cc0_stg25_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem24_0 : DmaSem sig := 29
abbrev cc0_sem25_0 : DmaSem sig := 30
abbrev cc0_sem25_1 : DmaSem sig := 31

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c88_i32 : BitVec 32 := 88#32
  let v0 : BitVec 32 := Scalar.muli arg1 c88_i32
  v0
def k0_off1 (i : grid0.Coords) : Fin 4 → Nat :=
  let arg0 : BitVec 32 := BitVec.ofNat 32 (i 0).val
  let c0_i32_1 : BitVec 32 := 0#32
  let arg1 : BitVec 32 := BitVec.ofNat 32 (i 1).val
  let c88_i32 : BitVec 32 := 88#32
  let v0 : BitVec 32 := Scalar.muli arg1 c88_i32
  let v1 : BitVec 32 := v0
  let c0_i32_2 : BitVec 32 := 0#32
  ![arg0.toNat, 0, v1.toNat, 0]
def k0_cond1 (i : grid0.Coords) : BitVec 1 :=
  let arg1 : BitVec 32 := BitVec.ofNat 32 (i 1).val
  let c0_i32_440 : BitVec 32 := 0#32
  let v472 : BitVec 1 := Scalar.cmpi .eq arg1 c0_i32_440
  let v473 : BitVec 32 := Scalar.extui v472
  let c0_i32_441 : BitVec 32 := 0#32
  let v474 : BitVec 1 := Scalar.cmpi .ne v473 c0_i32_441
  v474

def k0_cond2 (i : grid0.Coords) : BitVec 1 :=
  let arg1 : BitVec 32 := BitVec.ofNat 32 (i 1).val
  let c0_i32_442 : BitVec 32 := 0#32
  let v475 : BitVec 1 := Scalar.cmpi .sgt arg1 c0_i32_442
  let v476 : BitVec 32 := Scalar.extui v475
  let c0_i32_443 : BitVec 32 := 0#32
  let v477 : BitVec 1 := Scalar.cmpi .ne v476 c0_i32_443
  v477

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x50x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x50x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x50x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x50x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x50x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x8800 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8800 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S9x64x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S9x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S9x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S9x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S9x128x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S9x256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S9x256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S256x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S256x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 2 → Memref sig .tc .vmem S1x50x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, false]
-- ==== ReferenceIdeal.lean ====
abbrev S8x64x100x352 : Shape := ⟨4, ![8, 64, 100, 352]⟩
abbrev S8x50x4 : Shape := ⟨3, ![8, 50, 4]⟩
abbrev S128x64x3x3 : Shape := ⟨4, ![128, 64, 3, 3]⟩
abbrev S128 : Shape := ⟨1, ![128]⟩
abbrev S128x128x3x3 : Shape := ⟨4, ![128, 128, 3, 3]⟩
abbrev S256x128x3x3 : Shape := ⟨4, ![256, 128, 3, 3]⟩
abbrev S256 : Shape := ⟨1, ![256]⟩
abbrev S256x256x3x3 : Shape := ⟨4, ![256, 256, 3, 3]⟩
abbrev S256x256x1x1 : Shape := ⟨4, ![256, 256, 1, 1]⟩
abbrev S_ : Shape := ⟨0, ![]⟩
abbrev S8x64x102x354 : Shape := ⟨4, ![8, 64, 102, 354]⟩
abbrev S128x64x1x1 : Shape := ⟨4, ![128, 64, 1, 1]⟩
abbrev S128x64 : Shape := ⟨2, ![128, 64]⟩
abbrev S8x100x352x128 : Shape := ⟨4, ![8, 100, 352, 128]⟩
abbrev S8x128x100x352 : Shape := ⟨4, ![8, 128, 100, 352]⟩
abbrev S1x128x1x1 : Shape := ⟨4, ![1, 128, 1, 1]⟩
abbrev S8x128x102x354 : Shape := ⟨4, ![8, 128, 102, 354]⟩
abbrev S128x128x1x1 : Shape := ⟨4, ![128, 128, 1, 1]⟩
abbrev S128x128 : Shape := ⟨2, ![128, 128]⟩
abbrev S256x128x1x1 : Shape := ⟨4, ![256, 128, 1, 1]⟩
abbrev S256x128 : Shape := ⟨2, ![256, 128]⟩
abbrev S8x100x352x256 : Shape := ⟨4, ![8, 100, 352, 256]⟩
abbrev S8x256x100x352 : Shape := ⟨4, ![8, 256, 100, 352]⟩
abbrev S1x256x1x1 : Shape := ⟨4, ![1, 256, 1, 1]⟩
abbrev S8x256x102x354 : Shape := ⟨4, ![8, 256, 102, 354]⟩
abbrev S256x256 : Shape := ⟨2, ![256, 256]⟩
abbrev S8x256x101x353 : Shape := ⟨4, ![8, 256, 101, 353]⟩
abbrev S8x50x1 : Shape := ⟨3, ![8, 50, 1]⟩
abbrev S8x50 : Shape := ⟨2, ![8, 50]⟩
abbrev S8x50x2 : Shape := ⟨3, ![8, 50, 2]⟩
abbrev S8x256x50 : Shape := ⟨3, ![8, 256, 50]⟩
abbrev S8x1x50 : Shape := ⟨3, ![8, 1, 50]⟩
abbrev S8x50x256 : Shape := ⟨3, ![8, 50, 256]⟩

abbrev nBuf : Space → Nat
  | .hbm => 605
  | .vmem => 0
  | .smem => 0
  | _ => 0

abbrev hbmTy0_0 (i : Nat) : BufTy := match i % 128 with
  | 0 => ⟨S8x64x100x352, .f32⟩
  | 1 => ⟨S8x50x4, .i32⟩
  | 2 => ⟨S128x64x3x3, .f32⟩
  | 3 => ⟨S128, .f32⟩
  | 4 => ⟨S128x128x3x3, .f32⟩
  | 5 => ⟨S128, .f32⟩
  | 6 => ⟨S128x128x3x3, .f32⟩
  | 7 => ⟨S128, .f32⟩
  | 8 => ⟨S128x128x3x3, .f32⟩
  | 9 => ⟨S128, .f32⟩
  | 10 => ⟨S256x128x3x3, .f32⟩
  | 11 => ⟨S256, .f32⟩
  | 12 => ⟨S256x256x3x3, .f32⟩
  | 13 => ⟨S256, .f32⟩
  | 14 => ⟨S256x256x3x3, .f32⟩
  | 15 => ⟨S256, .f32⟩
  | 16 => ⟨S256x256x1x1, .f32⟩
  | 17 => ⟨S256, .f32⟩
  | 18 => ⟨S256x256x1x1, .f32⟩
  | 19 => ⟨S256, .f32⟩
  | 20 => ⟨S_, .i32⟩
  | 21 => ⟨S_, .f32⟩
  | 22 => ⟨S8x64x102x354, .f32⟩
  | 23 => ⟨S128x64x1x1, .f32⟩
  | 24 => ⟨S128x64, .f32⟩
  | 25 => ⟨S8x64x100x352, .f32⟩
  | 26 => ⟨S8x100x352x128, .f32⟩
  | 27 => ⟨S8x128x100x352, .f32⟩
  | 28 => ⟨S_, .f32⟩
  | 29 => ⟨S8x128x100x352, .f32⟩
  | 30 => ⟨S8x128x100x352, .f32⟩
  | 31 => ⟨S128x64x1x1, .f32⟩
  | 32 => ⟨S128x64, .f32⟩
  | 33 => ⟨S8x64x100x352, .f32⟩
  | 34 => ⟨S8x100x352x128, .f32⟩
  | 35 => ⟨S8x128x100x352, .f32⟩
  | 36 => ⟨S8x128x100x352, .f32⟩
  | 37 => ⟨S128x64x1x1, .f32⟩
  | 38 => ⟨S128x64, .f32⟩
  | 39 => ⟨S8x64x100x352, .f32⟩
  | 40 => ⟨S8x100x352x128, .f32⟩
  | 41 => ⟨S8x128x100x352, .f32⟩
  | 42 => ⟨S8x128x100x352, .f32⟩
  | 43 => ⟨S128x64x1x1, .f32⟩
  | 44 => ⟨S128x64, .f32⟩
  | 45 => ⟨S8x64x100x352, .f32⟩
  | 46 => ⟨S8x100x352x128, .f32⟩
  | 47 => ⟨S8x128x100x352, .f32⟩
  | 48 => ⟨S8x128x100x352, .f32⟩
  | 49 => ⟨S128x64x1x1, .f32⟩
  | 50 => ⟨S128x64, .f32⟩
  | 51 => ⟨S8x64x100x352, .f32⟩
  | 52 => ⟨S8x100x352x128, .f32⟩
  | 53 => ⟨S8x128x100x352, .f32⟩
  | 54 => ⟨S8x128x100x352, .f32⟩
  | 55 => ⟨S128x64x1x1, .f32⟩
  | 56 => ⟨S128x64, .f32⟩
  | 57 => ⟨S8x64x100x352, .f32⟩
  | 58 => ⟨S8x100x352x128, .f32⟩
  | 59 => ⟨S8x128x100x352, .f32⟩
  | 60 => ⟨S8x128x100x352, .f32⟩
  | 61 => ⟨S128x64x1x1, .f32⟩
  | 62 => ⟨S128x64, .f32⟩
  | 63 => ⟨S8x64x100x352, .f32⟩
  | 64 => ⟨S8x100x352x128, .f32⟩
  | 65 => ⟨S8x128x100x352, .f32⟩
  | 66 => ⟨S8x128x100x352, .f32⟩
  | 67 => ⟨S128x64x1x1, .f32⟩
  | 68 => ⟨S128x64, .f32⟩
  | 69 => ⟨S8x64x100x352, .f32⟩
  | 70 => ⟨S8x100x352x128, .f32⟩
  | 71 => ⟨S8x128x100x352, .f32⟩
  | 72 => ⟨S8x128x100x352, .f32⟩
  | 73 => ⟨S128x64x1x1, .f32⟩
  | 74 => ⟨S128x64, .f32⟩
  | 75 => ⟨S8x64x100x352, .f32⟩
  | 76 => ⟨S8x100x352x128, .f32⟩
  | 77 => ⟨S8x128x100x352, .f32⟩
  | 78 => ⟨S8x128x100x352, .f32⟩
  | 79 => ⟨S1x128x1x1, .f32⟩
  | 80 => ⟨S8x128x100x352, .f32⟩
  | 81 => ⟨S8x128x100x352, .f32⟩
  | 82 => ⟨S_, .f32⟩
  | 83 => ⟨S8x128x100x352, .f32⟩
  | 84 => ⟨S8x128x100x352, .f32⟩
  | 85 => ⟨S_, .i32⟩
  | 86 => ⟨S_, .f32⟩
  | 87 => ⟨S8x128x102x354, .f32⟩
  | 88 => ⟨S128x128x1x1, .f32⟩
  | 89 => ⟨S128x128, .f32⟩
  | 90 => ⟨S8x128x100x352, .f32⟩
  | 91 => ⟨S8x100x352x128, .f32⟩
  | 92 => ⟨S8x128x100x352, .f32⟩
  | 93 => ⟨S_, .f32⟩
  | 94 => ⟨S8x128x100x352, .f32⟩
  | 95 => ⟨S8x128x100x352, .f32⟩
  | 96 => ⟨S128x128x1x1, .f32⟩
  | 97 => ⟨S128x128, .f32⟩
  | 98 => ⟨S8x128x100x352, .f32⟩
  | 99 => ⟨S8x100x352x128, .f32⟩
  | 100 => ⟨S8x128x100x352, .f32⟩
  | 101 => ⟨S8x128x100x352, .f32⟩
  | 102 => ⟨S128x128x1x1, .f32⟩
  | 103 => ⟨S128x128, .f32⟩
  | 104 => ⟨S8x128x100x352, .f32⟩
  | 105 => ⟨S8x100x352x128, .f32⟩
  | 106 => ⟨S8x128x100x352, .f32⟩
  | 107 => ⟨S8x128x100x352, .f32⟩
  | 108 => ⟨S128x128x1x1, .f32⟩
  | 109 => ⟨S128x128, .f32⟩
  | 110 => ⟨S8x128x100x352, .f32⟩
  | 111 => ⟨S8x100x352x128, .f32⟩
  | 112 => ⟨S8x128x100x352, .f32⟩
  | 113 => ⟨S8x128x100x352, .f32⟩
  | 114 => ⟨S128x128x1x1, .f32⟩
  | 115 => ⟨S128x128, .f32⟩
  | 116 => ⟨S8x128x100x352, .f32⟩
  | 117 => ⟨S8x100x352x128, .f32⟩
  | 118 => ⟨S8x128x100x352, .f32⟩
  | 119 => ⟨S8x128x100x352, .f32⟩
  | 120 => ⟨S128x128x1x1, .f32⟩
  | 121 => ⟨S128x128, .f32⟩
  | 122 => ⟨S8x128x100x352, .f32⟩
  | 123 => ⟨S8x100x352x128, .f32⟩
  | 124 => ⟨S8x128x100x352, .f32⟩
  | 125 => ⟨S8x128x100x352, .f32⟩
  | 126 => ⟨S128x128x1x1, .f32⟩
  | 127 => ⟨S128x128, .f32⟩
  | _ => ⟨S8x64x100x352, .f32⟩

abbrev hbmTy0_1 (i : Nat) : BufTy := match i % 128 with
  | 0 => ⟨S8x128x100x352, .f32⟩
  | 1 => ⟨S8x100x352x128, .f32⟩
  | 2 => ⟨S8x128x100x352, .f32⟩
  | 3 => ⟨S8x128x100x352, .f32⟩
  | 4 => ⟨S128x128x1x1, .f32⟩
  | 5 => ⟨S128x128, .f32⟩
  | 6 => ⟨S8x128x100x352, .f32⟩
  | 7 => ⟨S8x100x352x128, .f32⟩
  | 8 => ⟨S8x128x100x352, .f32⟩
  | 9 => ⟨S8x128x100x352, .f32⟩
  | 10 => ⟨S128x128x1x1, .f32⟩
  | 11 => ⟨S128x128, .f32⟩
  | 12 => ⟨S8x128x100x352, .f32⟩
  | 13 => ⟨S8x100x352x128, .f32⟩
  | 14 => ⟨S8x128x100x352, .f32⟩
  | 15 => ⟨S8x128x100x352, .f32⟩
  | 16 => ⟨S1x128x1x1, .f32⟩
  | 17 => ⟨S8x128x100x352, .f32⟩
  | 18 => ⟨S8x128x100x352, .f32⟩
  | 19 => ⟨S_, .f32⟩
  | 20 => ⟨S8x128x100x352, .f32⟩
  | 21 => ⟨S8x128x100x352, .f32⟩
  | 22 => ⟨S_, .i32⟩
  | 23 => ⟨S_, .f32⟩
  | 24 => ⟨S8x128x102x354, .f32⟩
  | 25 => ⟨S128x128x1x1, .f32⟩
  | 26 => ⟨S128x128, .f32⟩
  | 27 => ⟨S8x128x100x352, .f32⟩
  | 28 => ⟨S8x100x352x128, .f32⟩
  | 29 => ⟨S8x128x100x352, .f32⟩
  | 30 => ⟨S_, .f32⟩
  | 31 => ⟨S8x128x100x352, .f32⟩
  | 32 => ⟨S8x128x100x352, .f32⟩
  | 33 => ⟨S128x128x1x1, .f32⟩
  | 34 => ⟨S128x128, .f32⟩
  | 35 => ⟨S8x128x100x352, .f32⟩
  | 36 => ⟨S8x100x352x128, .f32⟩
  | 37 => ⟨S8x128x100x352, .f32⟩
  | 38 => ⟨S8x128x100x352, .f32⟩
  | 39 => ⟨S128x128x1x1, .f32⟩
  | 40 => ⟨S128x128, .f32⟩
  | 41 => ⟨S8x128x100x352, .f32⟩
  | 42 => ⟨S8x100x352x128, .f32⟩
  | 43 => ⟨S8x128x100x352, .f32⟩
  | 44 => ⟨S8x128x100x352, .f32⟩
  | 45 => ⟨S128x128x1x1, .f32⟩
  | 46 => ⟨S128x128, .f32⟩
  | 47 => ⟨S8x128x100x352, .f32⟩
  | 48 => ⟨S8x100x352x128, .f32⟩
  | 49 => ⟨S8x128x100x352, .f32⟩
  | 50 => ⟨S8x128x100x352, .f32⟩
  | 51 => ⟨S128x128x1x1, .f32⟩
  | 52 => ⟨S128x128, .f32⟩
  | 53 => ⟨S8x128x100x352, .f32⟩
  | 54 => ⟨S8x100x352x128, .f32⟩
  | 55 => ⟨S8x128x100x352, .f32⟩
  | 56 => ⟨S8x128x100x352, .f32⟩
  | 57 => ⟨S128x128x1x1, .f32⟩
  | 58 => ⟨S128x128, .f32⟩
  | 59 => ⟨S8x128x100x352, .f32⟩
  | 60 => ⟨S8x100x352x128, .f32⟩
  | 61 => ⟨S8x128x100x352, .f32⟩
  | 62 => ⟨S8x128x100x352, .f32⟩
  | 63 => ⟨S128x128x1x1, .f32⟩
  | 64 => ⟨S128x128, .f32⟩
  | 65 => ⟨S8x128x100x352, .f32⟩
  | 66 => ⟨S8x100x352x128, .f32⟩
  | 67 => ⟨S8x128x100x352, .f32⟩
  | 68 => ⟨S8x128x100x352, .f32⟩
  | 69 => ⟨S128x128x1x1, .f32⟩
  | 70 => ⟨S128x128, .f32⟩
  | 71 => ⟨S8x128x100x352, .f32⟩
  | 72 => ⟨S8x100x352x128, .f32⟩
  | 73 => ⟨S8x128x100x352, .f32⟩
  | 74 => ⟨S8x128x100x352, .f32⟩
  | 75 => ⟨S128x128x1x1, .f32⟩
  | 76 => ⟨S128x128, .f32⟩
  | 77 => ⟨S8x128x100x352, .f32⟩
  | 78 => ⟨S8x100x352x128, .f32⟩
  | 79 => ⟨S8x128x100x352, .f32⟩
  | 80 => ⟨S8x128x100x352, .f32⟩
  | 81 => ⟨S1x128x1x1, .f32⟩
  | 82 => ⟨S8x128x100x352, .f32⟩
  | 83 => ⟨S8x128x100x352, .f32⟩
  | 84 => ⟨S_, .f32⟩
  | 85 => ⟨S8x128x100x352, .f32⟩
  | 86 => ⟨S8x128x100x352, .f32⟩
  | 87 => ⟨S_, .i32⟩
  | 88 => ⟨S_, .f32⟩
  | 89 => ⟨S8x128x102x354, .f32⟩
  | 90 => ⟨S128x128x1x1, .f32⟩
  | 91 => ⟨S128x128, .f32⟩
  | 92 => ⟨S8x128x100x352, .f32⟩
  | 93 => ⟨S8x100x352x128, .f32⟩
  | 94 => ⟨S8x128x100x352, .f32⟩
  | 95 => ⟨S_, .f32⟩
  | 96 => ⟨S8x128x100x352, .f32⟩
  | 97 => ⟨S8x128x100x352, .f32⟩
  | 98 => ⟨S128x128x1x1, .f32⟩
  | 99 => ⟨S128x128, .f32⟩
  | 100 => ⟨S8x128x100x352, .f32⟩
  | 101 => ⟨S8x100x352x128, .f32⟩
  | 102 => ⟨S8x128x100x352, .f32⟩
  | 103 => ⟨S8x128x100x352, .f32⟩
  | 104 => ⟨S128x128x1x1, .f32⟩
  | 105 => ⟨S128x128, .f32⟩
  | 106 => ⟨S8x128x100x352, .f32⟩
  | 107 => ⟨S8x100x352x128, .f32⟩
  | 108 => ⟨S8x128x100x352, .f32⟩
  | 109 => ⟨S8x128x100x352, .f32⟩
  | 110 => ⟨S128x128x1x1, .f32⟩
  | 111 => ⟨S128x128, .f32⟩
  | 112 => ⟨S8x128x100x352, .f32⟩
  | 113 => ⟨S8x100x352x128, .f32⟩
  | 114 => ⟨S8x128x100x352, .f32⟩
  | 115 => ⟨S8x128x100x352, .f32⟩
  | 116 => ⟨S128x128x1x1, .f32⟩
  | 117 => ⟨S128x128, .f32⟩
  | 118 => ⟨S8x128x100x352, .f32⟩
  | 119 => ⟨S8x100x352x128, .f32⟩
  | 120 => ⟨S8x128x100x352, .f32⟩
  | 121 => ⟨S8x128x100x352, .f32⟩
  | 122 => ⟨S128x128x1x1, .f32⟩
  | 123 => ⟨S128x128, .f32⟩
  | 124 => ⟨S8x128x100x352, .f32⟩
  | 125 => ⟨S8x100x352x128, .f32⟩
  | 126 => ⟨S8x128x100x352, .f32⟩
  | 127 => ⟨S8x128x100x352, .f32⟩
  | _ => ⟨S8x64x100x352, .f32⟩

abbrev hbmTy0_2 (i : Nat) : BufTy := match i % 128 with
  | 0 => ⟨S128x128x1x1, .f32⟩
  | 1 => ⟨S128x128, .f32⟩
  | 2 => ⟨S8x128x100x352, .f32⟩
  | 3 => ⟨S8x100x352x128, .f32⟩
  | 4 => ⟨S8x128x100x352, .f32⟩
  | 5 => ⟨S8x128x100x352, .f32⟩
  | 6 => ⟨S128x128x1x1, .f32⟩
  | 7 => ⟨S128x128, .f32⟩
  | 8 => ⟨S8x128x100x352, .f32⟩
  | 9 => ⟨S8x100x352x128, .f32⟩
  | 10 => ⟨S8x128x100x352, .f32⟩
  | 11 => ⟨S8x128x100x352, .f32⟩
  | 12 => ⟨S128x128x1x1, .f32⟩
  | 13 => ⟨S128x128, .f32⟩
  | 14 => ⟨S8x128x100x352, .f32⟩
  | 15 => ⟨S8x100x352x128, .f32⟩
  | 16 => ⟨S8x128x100x352, .f32⟩
  | 17 => ⟨S8x128x100x352, .f32⟩
  | 18 => ⟨S1x128x1x1, .f32⟩
  | 19 => ⟨S8x128x100x352, .f32⟩
  | 20 => ⟨S8x128x100x352, .f32⟩
  | 21 => ⟨S_, .f32⟩
  | 22 => ⟨S8x128x100x352, .f32⟩
  | 23 => ⟨S8x128x100x352, .f32⟩
  | 24 => ⟨S_, .i32⟩
  | 25 => ⟨S_, .f32⟩
  | 26 => ⟨S8x128x102x354, .f32⟩
  | 27 => ⟨S256x128x1x1, .f32⟩
  | 28 => ⟨S256x128, .f32⟩
  | 29 => ⟨S8x128x100x352, .f32⟩
  | 30 => ⟨S8x100x352x256, .f32⟩
  | 31 => ⟨S8x256x100x352, .f32⟩
  | 32 => ⟨S_, .f32⟩
  | 33 => ⟨S8x256x100x352, .f32⟩
  | 34 => ⟨S8x256x100x352, .f32⟩
  | 35 => ⟨S256x128x1x1, .f32⟩
  | 36 => ⟨S256x128, .f32⟩
  | 37 => ⟨S8x128x100x352, .f32⟩
  | 38 => ⟨S8x100x352x256, .f32⟩
  | 39 => ⟨S8x256x100x352, .f32⟩
  | 40 => ⟨S8x256x100x352, .f32⟩
  | 41 => ⟨S256x128x1x1, .f32⟩
  | 42 => ⟨S256x128, .f32⟩
  | 43 => ⟨S8x128x100x352, .f32⟩
  | 44 => ⟨S8x100x352x256, .f32⟩
  | 45 => ⟨S8x256x100x352, .f32⟩
  | 46 => ⟨S8x256x100x352, .f32⟩
  | 47 => ⟨S256x128x1x1, .f32⟩
  | 48 => ⟨S256x128, .f32⟩
  | 49 => ⟨S8x128x100x352, .f32⟩
  | 50 => ⟨S8x100x352x256, .f32⟩
  | 51 => ⟨S8x256x100x352, .f32⟩
  | 52 => ⟨S8x256x100x352, .f32⟩
  | 53 => ⟨S256x128x1x1, .f32⟩
  | 54 => ⟨S256x128, .f32⟩
  | 55 => ⟨S8x128x100x352, .f32⟩
  | 56 => ⟨S8x100x352x256, .f32⟩
  | 57 => ⟨S8x256x100x352, .f32⟩
  | 58 => ⟨S8x256x100x352, .f32⟩
  | 59 => ⟨S256x128x1x1, .f32⟩
  | 60 => ⟨S256x128, .f32⟩
  | 61 => ⟨S8x128x100x352, .f32⟩
  | 62 => ⟨S8x100x352x256, .f32⟩
  | 63 => ⟨S8x256x100x352, .f32⟩
  | 64 => ⟨S8x256x100x352, .f32⟩
  | 65 => ⟨S256x128x1x1, .f32⟩
  | 66 => ⟨S256x128, .f32⟩
  | 67 => ⟨S8x128x100x352, .f32⟩
  | 68 => ⟨S8x100x352x256, .f32⟩
  | 69 => ⟨S8x256x100x352, .f32⟩
  | 70 => ⟨S8x256x100x352, .f32⟩
  | 71 => ⟨S256x128x1x1, .f32⟩
  | 72 => ⟨S256x128, .f32⟩
  | 73 => ⟨S8x128x100x352, .f32⟩
  | 74 => ⟨S8x100x352x256, .f32⟩
  | 75 => ⟨S8x256x100x352, .f32⟩
  | 76 => ⟨S8x256x100x352, .f32⟩
  | 77 => ⟨S256x128x1x1, .f32⟩
  | 78 => ⟨S256x128, .f32⟩
  | 79 => ⟨S8x128x100x352, .f32⟩
  | 80 => ⟨S8x100x352x256, .f32⟩
  | 81 => ⟨S8x256x100x352, .f32⟩
  | 82 => ⟨S8x256x100x352, .f32⟩
  | 83 => ⟨S1x256x1x1, .f32⟩
  | 84 => ⟨S8x256x100x352, .f32⟩
  | 85 => ⟨S8x256x100x352, .f32⟩
  | 86 => ⟨S_, .f32⟩
  | 87 => ⟨S8x256x100x352, .f32⟩
  | 88 => ⟨S8x256x100x352, .f32⟩
  | 89 => ⟨S_, .i32⟩
  | 90 => ⟨S_, .f32⟩
  | 91 => ⟨S8x256x102x354, .f32⟩
  | 92 => ⟨S256x256x1x1, .f32⟩
  | 93 => ⟨S256x256, .f32⟩
  | 94 => ⟨S8x256x100x352, .f32⟩
  | 95 => ⟨S8x100x352x256, .f32⟩
  | 96 => ⟨S8x256x100x352, .f32⟩
  | 97 => ⟨S_, .f32⟩
  | 98 => ⟨S8x256x100x352, .f32⟩
  | 99 => ⟨S8x256x100x352, .f32⟩
  | 100 => ⟨S256x256x1x1, .f32⟩
  | 101 => ⟨S256x256, .f32⟩
  | 102 => ⟨S8x256x100x352, .f32⟩
  | 103 => ⟨S8x100x352x256, .f32⟩
  | 104 => ⟨S8x256x100x352, .f32⟩
  | 105 => ⟨S8x256x100x352, .f32⟩
  | 106 => ⟨S256x256x1x1, .f32⟩
  | 107 => ⟨S256x256, .f32⟩
  | 108 => ⟨S8x256x100x352, .f32⟩
  | 109 => ⟨S8x100x352x256, .f32⟩
  | 110 => ⟨S8x256x100x352, .f32⟩
  | 111 => ⟨S8x256x100x352, .f32⟩
  | 112 => ⟨S256x256x1x1, .f32⟩
  | 113 => ⟨S256x256, .f32⟩
  | 114 => ⟨S8x256x100x352, .f32⟩
  | 115 => ⟨S8x100x352x256, .f32⟩
  | 116 => ⟨S8x256x100x352, .f32⟩
  | 117 => ⟨S8x256x100x352, .f32⟩
  | 118 => ⟨S256x256x1x1, .f32⟩
  | 119 => ⟨S256x256, .f32⟩
  | 120 => ⟨S8x256x100x352, .f32⟩
  | 121 => ⟨S8x100x352x256, .f32⟩
  | 122 => ⟨S8x256x100x352, .f32⟩
  | 123 => ⟨S8x256x100x352, .f32⟩
  | 124 => ⟨S256x256x1x1, .f32⟩
  | 125 => ⟨S256x256, .f32⟩
  | 126 => ⟨S8x256x100x352, .f32⟩
  | 127 => ⟨S8x100x352x256, .f32⟩
  | _ => ⟨S8x64x100x352, .f32⟩

abbrev hbmTy0_3 (i : Nat) : BufTy := match i % 128 with
  | 0 => ⟨S8x256x100x352, .f32⟩
  | 1 => ⟨S8x256x100x352, .f32⟩
  | 2 => ⟨S256x256x1x1, .f32⟩
  | 3 => ⟨S256x256, .f32⟩
  | 4 => ⟨S8x256x100x352, .f32⟩
  | 5 => ⟨S8x100x352x256, .f32⟩
  | 6 => ⟨S8x256x100x352, .f32⟩
  | 7 => ⟨S8x256x100x352, .f32⟩
  | 8 => ⟨S256x256x1x1, .f32⟩
  | 9 => ⟨S256x256, .f32⟩
  | 10 => ⟨S8x256x100x352, .f32⟩
  | 11 => ⟨S8x100x352x256, .f32⟩
  | 12 => ⟨S8x256x100x352, .f32⟩
  | 13 => ⟨S8x256x100x352, .f32⟩
  | 14 => ⟨S256x256x1x1, .f32⟩
  | 15 => ⟨S256x256, .f32⟩
  | 16 => ⟨S8x256x100x352, .f32⟩
  | 17 => ⟨S8x100x352x256, .f32⟩
  | 18 => ⟨S8x256x100x352, .f32⟩
  | 19 => ⟨S8x256x100x352, .f32⟩
  | 20 => ⟨S1x256x1x1, .f32⟩
  | 21 => ⟨S8x256x100x352, .f32⟩
  | 22 => ⟨S8x256x100x352, .f32⟩
  | 23 => ⟨S_, .f32⟩
  | 24 => ⟨S8x256x100x352, .f32⟩
  | 25 => ⟨S8x256x100x352, .f32⟩
  | 26 => ⟨S_, .i32⟩
  | 27 => ⟨S_, .f32⟩
  | 28 => ⟨S8x256x102x354, .f32⟩
  | 29 => ⟨S256x256x1x1, .f32⟩
  | 30 => ⟨S256x256, .f32⟩
  | 31 => ⟨S8x256x100x352, .f32⟩
  | 32 => ⟨S8x100x352x256, .f32⟩
  | 33 => ⟨S8x256x100x352, .f32⟩
  | 34 => ⟨S_, .f32⟩
  | 35 => ⟨S8x256x100x352, .f32⟩
  | 36 => ⟨S8x256x100x352, .f32⟩
  | 37 => ⟨S256x256x1x1, .f32⟩
  | 38 => ⟨S256x256, .f32⟩
  | 39 => ⟨S8x256x100x352, .f32⟩
  | 40 => ⟨S8x100x352x256, .f32⟩
  | 41 => ⟨S8x256x100x352, .f32⟩
  | 42 => ⟨S8x256x100x352, .f32⟩
  | 43 => ⟨S256x256x1x1, .f32⟩
  | 44 => ⟨S256x256, .f32⟩
  | 45 => ⟨S8x256x100x352, .f32⟩
  | 46 => ⟨S8x100x352x256, .f32⟩
  | 47 => ⟨S8x256x100x352, .f32⟩
  | 48 => ⟨S8x256x100x352, .f32⟩
  | 49 => ⟨S256x256x1x1, .f32⟩
  | 50 => ⟨S256x256, .f32⟩
  | 51 => ⟨S8x256x100x352, .f32⟩
  | 52 => ⟨S8x100x352x256, .f32⟩
  | 53 => ⟨S8x256x100x352, .f32⟩
  | 54 => ⟨S8x256x100x352, .f32⟩
  | 55 => ⟨S256x256x1x1, .f32⟩
  | 56 => ⟨S256x256, .f32⟩
  | 57 => ⟨S8x256x100x352, .f32⟩
  | 58 => ⟨S8x100x352x256, .f32⟩
  | 59 => ⟨S8x256x100x352, .f32⟩
  | 60 => ⟨S8x256x100x352, .f32⟩
  | 61 => ⟨S256x256x1x1, .f32⟩
  | 62 => ⟨S256x256, .f32⟩
  | 63 => ⟨S8x256x100x352, .f32⟩
  | 64 => ⟨S8x100x352x256, .f32⟩
  | 65 => ⟨S8x256x100x352, .f32⟩
  | 66 => ⟨S8x256x100x352, .f32⟩
  | 67 => ⟨S256x256x1x1, .f32⟩
  | 68 => ⟨S256x256, .f32⟩
  | 69 => ⟨S8x256x100x352, .f32⟩
  | 70 => ⟨S8x100x352x256, .f32⟩
  | 71 => ⟨S8x256x100x352, .f32⟩
  | 72 => ⟨S8x256x100x352, .f32⟩
  | 73 => ⟨S256x256x1x1, .f32⟩
  | 74 => ⟨S256x256, .f32⟩
  | 75 => ⟨S8x256x100x352, .f32⟩
  | 76 => ⟨S8x100x352x256, .f32⟩
  | 77 => ⟨S8x256x100x352, .f32⟩
  | 78 => ⟨S8x256x100x352, .f32⟩
  | 79 => ⟨S256x256x1x1, .f32⟩
  | 80 => ⟨S256x256, .f32⟩
  | 81 => ⟨S8x256x100x352, .f32⟩
  | 82 => ⟨S8x100x352x256, .f32⟩
  | 83 => ⟨S8x256x100x352, .f32⟩
  | 84 => ⟨S8x256x100x352, .f32⟩
  | 85 => ⟨S1x256x1x1, .f32⟩
  | 86 => ⟨S8x256x100x352, .f32⟩
  | 87 => ⟨S8x256x100x352, .f32⟩
  | 88 => ⟨S_, .f32⟩
  | 89 => ⟨S8x256x100x352, .f32⟩
  | 90 => ⟨S8x256x100x352, .f32⟩
  | 91 => ⟨S_, .i32⟩
  | 92 => ⟨S_, .f32⟩
  | 93 => ⟨S8x256x100x352, .f32⟩
  | 94 => ⟨S256x256, .f32⟩
  | 95 => ⟨S8x100x352x256, .f32⟩
  | 96 => ⟨S8x256x100x352, .f32⟩
  | 97 => ⟨S_, .f32⟩
  | 98 => ⟨S8x256x100x352, .f32⟩
  | 99 => ⟨S8x256x100x352, .f32⟩
  | 100 => ⟨S1x256x1x1, .f32⟩
  | 101 => ⟨S8x256x100x352, .f32⟩
  | 102 => ⟨S8x256x100x352, .f32⟩
  | 103 => ⟨S_, .f32⟩
  | 104 => ⟨S8x256x100x352, .f32⟩
  | 105 => ⟨S8x256x100x352, .f32⟩
  | 106 => ⟨S_, .i32⟩
  | 107 => ⟨S_, .f32⟩
  | 108 => ⟨S8x256x100x352, .f32⟩
  | 109 => ⟨S256x256, .f32⟩
  | 110 => ⟨S8x100x352x256, .f32⟩
  | 111 => ⟨S8x256x100x352, .f32⟩
  | 112 => ⟨S_, .f32⟩
  | 113 => ⟨S8x256x100x352, .f32⟩
  | 114 => ⟨S8x256x100x352, .f32⟩
  | 115 => ⟨S1x256x1x1, .f32⟩
  | 116 => ⟨S8x256x100x352, .f32⟩
  | 117 => ⟨S8x256x100x352, .f32⟩
  | 118 => ⟨S_, .f32⟩
  | 119 => ⟨S8x256x100x352, .f32⟩
  | 120 => ⟨S8x256x100x352, .f32⟩
  | 121 => ⟨S_, .f32⟩
  | 122 => ⟨S_, .f32⟩
  | 123 => ⟨S8x256x100x352, .f32⟩
  | 124 => ⟨S_, .f32⟩
  | 125 => ⟨S_, .f32⟩
  | 126 => ⟨S8x256x100x352, .f32⟩
  | 127 => ⟨S_, .i32⟩
  | _ => ⟨S8x64x100x352, .f32⟩

abbrev hbmTy0_4 (i : Nat) : BufTy := match i % 128 with
  | 0 => ⟨S_, .f32⟩
  | 1 => ⟨S8x256x101x353, .f32⟩
  | 2 => ⟨S8x50x1, .i32⟩
  | 3 => ⟨S8x50, .i32⟩
  | 4 => ⟨S8x50x1, .i32⟩
  | 5 => ⟨S8x50, .i32⟩
  | 6 => ⟨S8x50x1, .i32⟩
  | 7 => ⟨S8x50, .i32⟩
  | 8 => ⟨S8x50x1, .i32⟩
  | 9 => ⟨S8x50, .i32⟩
  | 10 => ⟨S_, .i32⟩
  | 11 => ⟨S8x50, .i32⟩
  | 12 => ⟨S8x50, .i1⟩
  | 13 => ⟨S_, .i32⟩
  | 14 => ⟨S8x50, .i32⟩
  | 15 => ⟨S8x50, .i32⟩
  | 16 => ⟨S8x50, .i32⟩
  | 17 => ⟨S_, .i32⟩
  | 18 => ⟨S8x50, .i32⟩
  | 19 => ⟨S8x50, .i1⟩
  | 20 => ⟨S_, .i32⟩
  | 21 => ⟨S8x50, .i32⟩
  | 22 => ⟨S8x50, .i32⟩
  | 23 => ⟨S8x50, .i32⟩
  | 24 => ⟨S8x50x1, .i32⟩
  | 25 => ⟨S8x50x1, .i32⟩
  | 26 => ⟨S8x50x2, .i32⟩
  | 27 => ⟨S8x256x50, .f32⟩
  | 28 => ⟨S_, .i32⟩
  | 29 => ⟨S8x50, .i32⟩
  | 30 => ⟨S8x50, .i1⟩
  | 31 => ⟨S_, .i32⟩
  | 32 => ⟨S8x50, .i32⟩
  | 33 => ⟨S8x50, .i32⟩
  | 34 => ⟨S8x50, .i32⟩
  | 35 => ⟨S_, .i32⟩
  | 36 => ⟨S8x50, .i32⟩
  | 37 => ⟨S8x50, .i1⟩
  | 38 => ⟨S_, .i32⟩
  | 39 => ⟨S8x50, .i32⟩
  | 40 => ⟨S8x50, .i32⟩
  | 41 => ⟨S8x50, .i32⟩
  | 42 => ⟨S8x50x1, .i32⟩
  | 43 => ⟨S8x50x1, .i32⟩
  | 44 => ⟨S8x50x2, .i32⟩
  | 45 => ⟨S8x256x50, .f32⟩
  | 46 => ⟨S8x256x50, .f32⟩
  | 47 => ⟨S_, .i32⟩
  | 48 => ⟨S8x50, .i32⟩
  | 49 => ⟨S8x50, .i1⟩
  | 50 => ⟨S_, .i32⟩
  | 51 => ⟨S8x50, .i32⟩
  | 52 => ⟨S8x50, .i32⟩
  | 53 => ⟨S8x50, .i32⟩
  | 54 => ⟨S_, .i32⟩
  | 55 => ⟨S8x50, .i32⟩
  | 56 => ⟨S8x50, .i1⟩
  | 57 => ⟨S_, .i32⟩
  | 58 => ⟨S8x50, .i32⟩
  | 59 => ⟨S8x50, .i32⟩
  | 60 => ⟨S8x50, .i32⟩
  | 61 => ⟨S8x50x1, .i32⟩
  | 62 => ⟨S8x50x1, .i32⟩
  | 63 => ⟨S8x50x2, .i32⟩
  | 64 => ⟨S8x256x50, .f32⟩
  | 65 => ⟨S8x256x50, .f32⟩
  | 66 => ⟨S_, .i32⟩
  | 67 => ⟨S8x50, .i32⟩
  | 68 => ⟨S8x50, .i1⟩
  | 69 => ⟨S_, .i32⟩
  | 70 => ⟨S8x50, .i32⟩
  | 71 => ⟨S8x50, .i32⟩
  | 72 => ⟨S8x50, .i32⟩
  | 73 => ⟨S_, .i32⟩
  | 74 => ⟨S8x50, .i32⟩
  | 75 => ⟨S8x50, .i1⟩
  | 76 => ⟨S_, .i32⟩
  | 77 => ⟨S8x50, .i32⟩
  | 78 => ⟨S8x50, .i32⟩
  | 79 => ⟨S8x50, .i32⟩
  | 80 => ⟨S8x50x1, .i32⟩
  | 81 => ⟨S8x50x1, .i32⟩
  | 82 => ⟨S8x50x2, .i32⟩
  | 83 => ⟨S8x256x50, .f32⟩
  | 84 => ⟨S8x256x50, .f32⟩
  | 85 => ⟨S8x50, .i32⟩
  | 86 => ⟨S8x50, .i32⟩
  | 87 => ⟨S8x50, .i32⟩
  | 88 => ⟨S8x50, .f32⟩
  | 89 => ⟨S8x1x50, .f32⟩
  | 90 => ⟨S8x256x50, .f32⟩
  | 91 => ⟨S8x256x50, .f32⟩
  | 92 => ⟨S8x50x256, .f32⟩
  | _ => ⟨S8x64x100x352, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x64x100x352, .f32⟩

abbrev bufTy : (tb : Table) → Fin (tcTables nBuf tb) → BufTy
  | .hbm, ⟨i, _⟩ => hbmTy i
  | _, _ => ⟨S8x64x100x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_call0_v0 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_cst : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_c_0 : Ref sig .tc := ⟨.hbm, 85, rfl⟩
abbrev main_call2_v0 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_1 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_call3_cst : Ref sig .tc := ⟨.hbm, 147, rfl⟩
abbrev main_call3_v0 : Ref sig .tc := ⟨.hbm, 148, rfl⟩
abbrev main_v119 : Ref sig .tc := ⟨.hbm, 149, rfl⟩
abbrev main_c_2 : Ref sig .tc := ⟨.hbm, 150, rfl⟩
abbrev main_call4_v0 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_3 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_call5_cst : Ref sig .tc := ⟨.hbm, 212, rfl⟩
abbrev main_call5_v0 : Ref sig .tc := ⟨.hbm, 213, rfl⟩
abbrev main_v179 : Ref sig .tc := ⟨.hbm, 214, rfl⟩
abbrev main_c_4 : Ref sig .tc := ⟨.hbm, 215, rfl⟩
abbrev main_call6_v0 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_cst_5 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_call7_cst : Ref sig .tc := ⟨.hbm, 277, rfl⟩
abbrev main_call7_v0 : Ref sig .tc := ⟨.hbm, 278, rfl⟩
abbrev main_v239 : Ref sig .tc := ⟨.hbm, 279, rfl⟩
abbrev main_c_6 : Ref sig .tc := ⟨.hbm, 280, rfl⟩
abbrev main_call8_v0 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩
abbrev main_cst_7 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_v261 : Ref sig .tc := ⟨.hbm, 304, rfl⟩
abbrev main_v262 : Ref sig .tc := ⟨.hbm, 305, rfl⟩
abbrev main_v263 : Ref sig .tc := ⟨.hbm, 306, rfl⟩
abbrev main_v264 : Ref sig .tc := ⟨.hbm, 307, rfl⟩
abbrev main_v265 : Ref sig .tc := ⟨.hbm, 308, rfl⟩
abbrev main_v266 : Ref sig .tc := ⟨.hbm, 309, rfl⟩
abbrev main_v267 : Ref sig .tc := ⟨.hbm, 310, rfl⟩
abbrev main_v268 : Ref sig .tc := ⟨.hbm, 311, rfl⟩
abbrev main_v269 : Ref sig .tc := ⟨.hbm, 312, rfl⟩
abbrev main_v270 : Ref sig .tc := ⟨.hbm, 313, rfl⟩
abbrev main_v271 : Ref sig .tc := ⟨.hbm, 314, rfl⟩
abbrev main_v272 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_v277 : Ref sig .tc := ⟨.hbm, 320, rfl⟩
abbrev main_v278 : Ref sig .tc := ⟨.hbm, 321, rfl⟩
abbrev main_v279 : Ref sig .tc := ⟨.hbm, 322, rfl⟩
abbrev main_v280 : Ref sig .tc := ⟨.hbm, 323, rfl⟩
abbrev main_v281 : Ref sig .tc := ⟨.hbm, 324, rfl⟩
abbrev main_v282 : Ref sig .tc := ⟨.hbm, 325, rfl⟩
abbrev main_v283 : Ref sig .tc := ⟨.hbm, 326, rfl⟩
abbrev main_v284 : Ref sig .tc := ⟨.hbm, 327, rfl⟩
abbrev main_v285 : Ref sig .tc := ⟨.hbm, 328, rfl⟩
abbrev main_v286 : Ref sig .tc := ⟨.hbm, 329, rfl⟩
abbrev main_v287 : Ref sig .tc := ⟨.hbm, 330, rfl⟩
abbrev main_v288 : Ref sig .tc := ⟨.hbm, 331, rfl⟩
abbrev main_v289 : Ref sig .tc := ⟨.hbm, 332, rfl⟩
abbrev main_v290 : Ref sig .tc := ⟨.hbm, 333, rfl⟩
abbrev main_v291 : Ref sig .tc := ⟨.hbm, 334, rfl⟩
abbrev main_v292 : Ref sig .tc := ⟨.hbm, 335, rfl⟩
abbrev main_v293 : Ref sig .tc := ⟨.hbm, 336, rfl⟩
abbrev main_v294 : Ref sig .tc := ⟨.hbm, 337, rfl⟩
abbrev main_v295 : Ref sig .tc := ⟨.hbm, 338, rfl⟩
abbrev main_v296 : Ref sig .tc := ⟨.hbm, 339, rfl⟩
abbrev main_v297 : Ref sig .tc := ⟨.hbm, 340, rfl⟩
abbrev main_v298 : Ref sig .tc := ⟨.hbm, 341, rfl⟩
abbrev main_call9_cst : Ref sig .tc := ⟨.hbm, 342, rfl⟩
abbrev main_call9_v0 : Ref sig .tc := ⟨.hbm, 343, rfl⟩
abbrev main_v299 : Ref sig .tc := ⟨.hbm, 344, rfl⟩
abbrev main_c_8 : Ref sig .tc := ⟨.hbm, 345, rfl⟩
abbrev main_call10_v0 : Ref sig .tc := ⟨.hbm, 346, rfl⟩
abbrev main_v300 : Ref sig .tc := ⟨.hbm, 347, rfl⟩
abbrev main_v301 : Ref sig .tc := ⟨.hbm, 348, rfl⟩
abbrev main_v302 : Ref sig .tc := ⟨.hbm, 349, rfl⟩
abbrev main_v303 : Ref sig .tc := ⟨.hbm, 350, rfl⟩
abbrev main_v304 : Ref sig .tc := ⟨.hbm, 351, rfl⟩
abbrev main_v305 : Ref sig .tc := ⟨.hbm, 352, rfl⟩
abbrev main_cst_9 : Ref sig .tc := ⟨.hbm, 353, rfl⟩
abbrev main_v306 : Ref sig .tc := ⟨.hbm, 354, rfl⟩
abbrev main_v307 : Ref sig .tc := ⟨.hbm, 355, rfl⟩
abbrev main_v308 : Ref sig .tc := ⟨.hbm, 356, rfl⟩
abbrev main_v309 : Ref sig .tc := ⟨.hbm, 357, rfl⟩
abbrev main_v310 : Ref sig .tc := ⟨.hbm, 358, rfl⟩
abbrev main_v311 : Ref sig .tc := ⟨.hbm, 359, rfl⟩
abbrev main_v312 : Ref sig .tc := ⟨.hbm, 360, rfl⟩
abbrev main_v313 : Ref sig .tc := ⟨.hbm, 361, rfl⟩
abbrev main_v314 : Ref sig .tc := ⟨.hbm, 362, rfl⟩
abbrev main_v315 : Ref sig .tc := ⟨.hbm, 363, rfl⟩
abbrev main_v316 : Ref sig .tc := ⟨.hbm, 364, rfl⟩
abbrev main_v317 : Ref sig .tc := ⟨.hbm, 365, rfl⟩
abbrev main_v318 : Ref sig .tc := ⟨.hbm, 366, rfl⟩
abbrev main_v319 : Ref sig .tc := ⟨.hbm, 367, rfl⟩
abbrev main_v320 : Ref sig .tc := ⟨.hbm, 368, rfl⟩
abbrev main_v321 : Ref sig .tc := ⟨.hbm, 369, rfl⟩
abbrev main_v322 : Ref sig .tc := ⟨.hbm, 370, rfl⟩
abbrev main_v323 : Ref sig .tc := ⟨.hbm, 371, rfl⟩
abbrev main_v324 : Ref sig .tc := ⟨.hbm, 372, rfl⟩
abbrev main_v325 : Ref sig .tc := ⟨.hbm, 373, rfl⟩
abbrev main_v326 : Ref sig .tc := ⟨.hbm, 374, rfl⟩
abbrev main_v327 : Ref sig .tc := ⟨.hbm, 375, rfl⟩
abbrev main_v328 : Ref sig .tc := ⟨.hbm, 376, rfl⟩
abbrev main_v329 : Ref sig .tc := ⟨.hbm, 377, rfl⟩
abbrev main_v330 : Ref sig .tc := ⟨.hbm, 378, rfl⟩
abbrev main_v331 : Ref sig .tc := ⟨.hbm, 379, rfl⟩
abbrev main_v332 : Ref sig .tc := ⟨.hbm, 380, rfl⟩
abbrev main_v333 : Ref sig .tc := ⟨.hbm, 381, rfl⟩
abbrev main_v334 : Ref sig .tc := ⟨.hbm, 382, rfl⟩
abbrev main_v335 : Ref sig .tc := ⟨.hbm, 383, rfl⟩
abbrev main_v336 : Ref sig .tc := ⟨.hbm, 384, rfl⟩
abbrev main_v337 : Ref sig .tc := ⟨.hbm, 385, rfl⟩
abbrev main_v338 : Ref sig .tc := ⟨.hbm, 386, rfl⟩
abbrev main_v339 : Ref sig .tc := ⟨.hbm, 387, rfl⟩
abbrev main_v340 : Ref sig .tc := ⟨.hbm, 388, rfl⟩
abbrev main_v341 : Ref sig .tc := ⟨.hbm, 389, rfl⟩
abbrev main_v342 : Ref sig .tc := ⟨.hbm, 390, rfl⟩
abbrev main_v343 : Ref sig .tc := ⟨.hbm, 391, rfl⟩
abbrev main_v344 : Ref sig .tc := ⟨.hbm, 392, rfl⟩
abbrev main_v345 : Ref sig .tc := ⟨.hbm, 393, rfl⟩
abbrev main_v346 : Ref sig .tc := ⟨.hbm, 394, rfl⟩
abbrev main_v347 : Ref sig .tc := ⟨.hbm, 395, rfl⟩
abbrev main_v348 : Ref sig .tc := ⟨.hbm, 396, rfl⟩
abbrev main_v349 : Ref sig .tc := ⟨.hbm, 397, rfl⟩
abbrev main_v350 : Ref sig .tc := ⟨.hbm, 398, rfl⟩
abbrev main_v351 : Ref sig .tc := ⟨.hbm, 399, rfl⟩
abbrev main_v352 : Ref sig .tc := ⟨.hbm, 400, rfl⟩
abbrev main_v353 : Ref sig .tc := ⟨.hbm, 401, rfl⟩
abbrev main_v354 : Ref sig .tc := ⟨.hbm, 402, rfl⟩
abbrev main_v355 : Ref sig .tc := ⟨.hbm, 403, rfl⟩
abbrev main_v356 : Ref sig .tc := ⟨.hbm, 404, rfl⟩
abbrev main_v357 : Ref sig .tc := ⟨.hbm, 405, rfl⟩
abbrev main_v358 : Ref sig .tc := ⟨.hbm, 406, rfl⟩
abbrev main_call11_cst : Ref sig .tc := ⟨.hbm, 407, rfl⟩
abbrev main_call11_v0 : Ref sig .tc := ⟨.hbm, 408, rfl⟩
abbrev main_v359 : Ref sig .tc := ⟨.hbm, 409, rfl⟩
abbrev main_c_10 : Ref sig .tc := ⟨.hbm, 410, rfl⟩
abbrev main_call12_v0 : Ref sig .tc := ⟨.hbm, 411, rfl⟩
abbrev main_v360 : Ref sig .tc := ⟨.hbm, 412, rfl⟩
abbrev main_v361 : Ref sig .tc := ⟨.hbm, 413, rfl⟩
abbrev main_v362 : Ref sig .tc := ⟨.hbm, 414, rfl⟩
abbrev main_v363 : Ref sig .tc := ⟨.hbm, 415, rfl⟩
abbrev main_v364 : Ref sig .tc := ⟨.hbm, 416, rfl⟩
abbrev main_v365 : Ref sig .tc := ⟨.hbm, 417, rfl⟩
abbrev main_cst_11 : Ref sig .tc := ⟨.hbm, 418, rfl⟩
abbrev main_v366 : Ref sig .tc := ⟨.hbm, 419, rfl⟩
abbrev main_v367 : Ref sig .tc := ⟨.hbm, 420, rfl⟩
abbrev main_v368 : Ref sig .tc := ⟨.hbm, 421, rfl⟩
abbrev main_v369 : Ref sig .tc := ⟨.hbm, 422, rfl⟩
abbrev main_v370 : Ref sig .tc := ⟨.hbm, 423, rfl⟩
abbrev main_v371 : Ref sig .tc := ⟨.hbm, 424, rfl⟩
abbrev main_v372 : Ref sig .tc := ⟨.hbm, 425, rfl⟩
abbrev main_v373 : Ref sig .tc := ⟨.hbm, 426, rfl⟩
abbrev main_v374 : Ref sig .tc := ⟨.hbm, 427, rfl⟩
abbrev main_v375 : Ref sig .tc := ⟨.hbm, 428, rfl⟩
abbrev main_v376 : Ref sig .tc := ⟨.hbm, 429, rfl⟩
abbrev main_v377 : Ref sig .tc := ⟨.hbm, 430, rfl⟩
abbrev main_v378 : Ref sig .tc := ⟨.hbm, 431, rfl⟩
abbrev main_v379 : Ref sig .tc := ⟨.hbm, 432, rfl⟩
abbrev main_v380 : Ref sig .tc := ⟨.hbm, 433, rfl⟩
abbrev main_v381 : Ref sig .tc := ⟨.hbm, 434, rfl⟩
abbrev main_v382 : Ref sig .tc := ⟨.hbm, 435, rfl⟩
abbrev main_v383 : Ref sig .tc := ⟨.hbm, 436, rfl⟩
abbrev main_v384 : Ref sig .tc := ⟨.hbm, 437, rfl⟩
abbrev main_v385 : Ref sig .tc := ⟨.hbm, 438, rfl⟩
abbrev main_v386 : Ref sig .tc := ⟨.hbm, 439, rfl⟩
abbrev main_v387 : Ref sig .tc := ⟨.hbm, 440, rfl⟩
abbrev main_v388 : Ref sig .tc := ⟨.hbm, 441, rfl⟩
abbrev main_v389 : Ref sig .tc := ⟨.hbm, 442, rfl⟩
abbrev main_v390 : Ref sig .tc := ⟨.hbm, 443, rfl⟩
abbrev main_v391 : Ref sig .tc := ⟨.hbm, 444, rfl⟩
abbrev main_v392 : Ref sig .tc := ⟨.hbm, 445, rfl⟩
abbrev main_v393 : Ref sig .tc := ⟨.hbm, 446, rfl⟩
abbrev main_v394 : Ref sig .tc := ⟨.hbm, 447, rfl⟩
abbrev main_v395 : Ref sig .tc := ⟨.hbm, 448, rfl⟩
abbrev main_v396 : Ref sig .tc := ⟨.hbm, 449, rfl⟩
abbrev main_v397 : Ref sig .tc := ⟨.hbm, 450, rfl⟩
abbrev main_v398 : Ref sig .tc := ⟨.hbm, 451, rfl⟩
abbrev main_v399 : Ref sig .tc := ⟨.hbm, 452, rfl⟩
abbrev main_v400 : Ref sig .tc := ⟨.hbm, 453, rfl⟩
abbrev main_v401 : Ref sig .tc := ⟨.hbm, 454, rfl⟩
abbrev main_v402 : Ref sig .tc := ⟨.hbm, 455, rfl⟩
abbrev main_v403 : Ref sig .tc := ⟨.hbm, 456, rfl⟩
abbrev main_v404 : Ref sig .tc := ⟨.hbm, 457, rfl⟩
abbrev main_v405 : Ref sig .tc := ⟨.hbm, 458, rfl⟩
abbrev main_v406 : Ref sig .tc := ⟨.hbm, 459, rfl⟩
abbrev main_v407 : Ref sig .tc := ⟨.hbm, 460, rfl⟩
abbrev main_v408 : Ref sig .tc := ⟨.hbm, 461, rfl⟩
abbrev main_v409 : Ref sig .tc := ⟨.hbm, 462, rfl⟩
abbrev main_v410 : Ref sig .tc := ⟨.hbm, 463, rfl⟩
abbrev main_v411 : Ref sig .tc := ⟨.hbm, 464, rfl⟩
abbrev main_v412 : Ref sig .tc := ⟨.hbm, 465, rfl⟩
abbrev main_v413 : Ref sig .tc := ⟨.hbm, 466, rfl⟩
abbrev main_v414 : Ref sig .tc := ⟨.hbm, 467, rfl⟩
abbrev main_v415 : Ref sig .tc := ⟨.hbm, 468, rfl⟩
abbrev main_v416 : Ref sig .tc := ⟨.hbm, 469, rfl⟩
abbrev main_v417 : Ref sig .tc := ⟨.hbm, 470, rfl⟩
abbrev main_v418 : Ref sig .tc := ⟨.hbm, 471, rfl⟩
abbrev main_call13_cst : Ref sig .tc := ⟨.hbm, 472, rfl⟩
abbrev main_call13_v0 : Ref sig .tc := ⟨.hbm, 473, rfl⟩
abbrev main_v419 : Ref sig .tc := ⟨.hbm, 474, rfl⟩
abbrev main_c_12 : Ref sig .tc := ⟨.hbm, 475, rfl⟩
abbrev main_call14_v0 : Ref sig .tc := ⟨.hbm, 476, rfl⟩
abbrev main_v420 : Ref sig .tc := ⟨.hbm, 477, rfl⟩
abbrev main_v421 : Ref sig .tc := ⟨.hbm, 478, rfl⟩
abbrev main_v422 : Ref sig .tc := ⟨.hbm, 479, rfl⟩
abbrev main_v423 : Ref sig .tc := ⟨.hbm, 480, rfl⟩
abbrev main_cst_13 : Ref sig .tc := ⟨.hbm, 481, rfl⟩
abbrev main_v424 : Ref sig .tc := ⟨.hbm, 482, rfl⟩
abbrev main_v425 : Ref sig .tc := ⟨.hbm, 483, rfl⟩
abbrev main_v426 : Ref sig .tc := ⟨.hbm, 484, rfl⟩
abbrev main_v427 : Ref sig .tc := ⟨.hbm, 485, rfl⟩
abbrev main_v428 : Ref sig .tc := ⟨.hbm, 486, rfl⟩
abbrev main_call15_cst : Ref sig .tc := ⟨.hbm, 487, rfl⟩
abbrev main_call15_v0 : Ref sig .tc := ⟨.hbm, 488, rfl⟩
abbrev main_v429 : Ref sig .tc := ⟨.hbm, 489, rfl⟩
abbrev main_c_14 : Ref sig .tc := ⟨.hbm, 490, rfl⟩
abbrev main_call16_v0 : Ref sig .tc := ⟨.hbm, 491, rfl⟩
abbrev main_v430 : Ref sig .tc := ⟨.hbm, 492, rfl⟩
abbrev main_v431 : Ref sig .tc := ⟨.hbm, 493, rfl⟩
abbrev main_v432 : Ref sig .tc := ⟨.hbm, 494, rfl⟩
abbrev main_v433 : Ref sig .tc := ⟨.hbm, 495, rfl⟩
abbrev main_cst_15 : Ref sig .tc := ⟨.hbm, 496, rfl⟩
abbrev main_v434 : Ref sig .tc := ⟨.hbm, 497, rfl⟩
abbrev main_v435 : Ref sig .tc := ⟨.hbm, 498, rfl⟩
abbrev main_v436 : Ref sig .tc := ⟨.hbm, 499, rfl⟩
abbrev main_v437 : Ref sig .tc := ⟨.hbm, 500, rfl⟩
abbrev main_v438 : Ref sig .tc := ⟨.hbm, 501, rfl⟩
abbrev main_call17_cst : Ref sig .tc := ⟨.hbm, 502, rfl⟩
abbrev main_call17_v0 : Ref sig .tc := ⟨.hbm, 503, rfl⟩
abbrev main_v439 : Ref sig .tc := ⟨.hbm, 504, rfl⟩
abbrev main_call18_call0_cst : Ref sig .tc := ⟨.hbm, 505, rfl⟩
abbrev main_call18_call0_v0 : Ref sig .tc := ⟨.hbm, 506, rfl⟩
abbrev main_v440 : Ref sig .tc := ⟨.hbm, 507, rfl⟩
abbrev main_call19_call0_cst : Ref sig .tc := ⟨.hbm, 508, rfl⟩
abbrev main_call19_call0_v0 : Ref sig .tc := ⟨.hbm, 509, rfl⟩
abbrev main_v441 : Ref sig .tc := ⟨.hbm, 510, rfl⟩
abbrev main_c_16 : Ref sig .tc := ⟨.hbm, 511, rfl⟩
abbrev main_call20_v0 : Ref sig .tc := ⟨.hbm, 512, rfl⟩
abbrev main_v442 : Ref sig .tc := ⟨.hbm, 513, rfl⟩
abbrev main_v443 : Ref sig .tc := ⟨.hbm, 514, rfl⟩
abbrev main_v444 : Ref sig .tc := ⟨.hbm, 515, rfl⟩
abbrev main_v445 : Ref sig .tc := ⟨.hbm, 516, rfl⟩
abbrev main_v446 : Ref sig .tc := ⟨.hbm, 517, rfl⟩
abbrev main_v447 : Ref sig .tc := ⟨.hbm, 518, rfl⟩
abbrev main_v448 : Ref sig .tc := ⟨.hbm, 519, rfl⟩
abbrev main_v449 : Ref sig .tc := ⟨.hbm, 520, rfl⟩
abbrev main_v450 : Ref sig .tc := ⟨.hbm, 521, rfl⟩
abbrev main_c_17 : Ref sig .tc := ⟨.hbm, 522, rfl⟩
abbrev main_v451 : Ref sig .tc := ⟨.hbm, 523, rfl⟩
abbrev main_v452 : Ref sig .tc := ⟨.hbm, 524, rfl⟩
abbrev main_c_18 : Ref sig .tc := ⟨.hbm, 525, rfl⟩
abbrev main_v453 : Ref sig .tc := ⟨.hbm, 526, rfl⟩
abbrev main_v454 : Ref sig .tc := ⟨.hbm, 527, rfl⟩
abbrev main_v455 : Ref sig .tc := ⟨.hbm, 528, rfl⟩
abbrev main_c_19 : Ref sig .tc := ⟨.hbm, 529, rfl⟩
abbrev main_v456 : Ref sig .tc := ⟨.hbm, 530, rfl⟩
abbrev main_v457 : Ref sig .tc := ⟨.hbm, 531, rfl⟩
abbrev main_c_20 : Ref sig .tc := ⟨.hbm, 532, rfl⟩
abbrev main_v458 : Ref sig .tc := ⟨.hbm, 533, rfl⟩
abbrev main_v459 : Ref sig .tc := ⟨.hbm, 534, rfl⟩
abbrev main_v460 : Ref sig .tc := ⟨.hbm, 535, rfl⟩
abbrev main_v461 : Ref sig .tc := ⟨.hbm, 536, rfl⟩
abbrev main_v462 : Ref sig .tc := ⟨.hbm, 537, rfl⟩
abbrev main_v463 : Ref sig .tc := ⟨.hbm, 538, rfl⟩
abbrev main_v464 : Ref sig .tc := ⟨.hbm, 539, rfl⟩
abbrev main_c_21 : Ref sig .tc := ⟨.hbm, 540, rfl⟩
abbrev main_v465 : Ref sig .tc := ⟨.hbm, 541, rfl⟩
abbrev main_v466 : Ref sig .tc := ⟨.hbm, 542, rfl⟩
abbrev main_c_22 : Ref sig .tc := ⟨.hbm, 543, rfl⟩
abbrev main_v467 : Ref sig .tc := ⟨.hbm, 544, rfl⟩
abbrev main_v468 : Ref sig .tc := ⟨.hbm, 545, rfl⟩
abbrev main_v469 : Ref sig .tc := ⟨.hbm, 546, rfl⟩
abbrev main_c_23 : Ref sig .tc := ⟨.hbm, 547, rfl⟩
abbrev main_v470 : Ref sig .tc := ⟨.hbm, 548, rfl⟩
abbrev main_v471 : Ref sig .tc := ⟨.hbm, 549, rfl⟩
abbrev main_c_24 : Ref sig .tc := ⟨.hbm, 550, rfl⟩
abbrev main_v472 : Ref sig .tc := ⟨.hbm, 551, rfl⟩
abbrev main_v473 : Ref sig .tc := ⟨.hbm, 552, rfl⟩
abbrev main_v474 : Ref sig .tc := ⟨.hbm, 553, rfl⟩
abbrev main_v475 : Ref sig .tc := ⟨.hbm, 554, rfl⟩
abbrev main_v476 : Ref sig .tc := ⟨.hbm, 555, rfl⟩
abbrev main_v477 : Ref sig .tc := ⟨.hbm, 556, rfl⟩
abbrev main_v478 : Ref sig .tc := ⟨.hbm, 557, rfl⟩
abbrev main_v479 : Ref sig .tc := ⟨.hbm, 558, rfl⟩
abbrev main_c_25 : Ref sig .tc := ⟨.hbm, 559, rfl⟩
abbrev main_v480 : Ref sig .tc := ⟨.hbm, 560, rfl⟩
abbrev main_v481 : Ref sig .tc := ⟨.hbm, 561, rfl⟩
abbrev main_c_26 : Ref sig .tc := ⟨.hbm, 562, rfl⟩
abbrev main_v482 : Ref sig .tc := ⟨.hbm, 563, rfl⟩
abbrev main_v483 : Ref sig .tc := ⟨.hbm, 564, rfl⟩
abbrev main_v484 : Ref sig .tc := ⟨.hbm, 565, rfl⟩
abbrev main_c_27 : Ref sig .tc := ⟨.hbm, 566, rfl⟩
abbrev main_v485 : Ref sig .tc := ⟨.hbm, 567, rfl⟩
abbrev main_v486 : Ref sig .tc := ⟨.hbm, 568, rfl⟩
abbrev main_c_28 : Ref sig .tc := ⟨.hbm, 569, rfl⟩
abbrev main_v487 : Ref sig .tc := ⟨.hbm, 570, rfl⟩
abbrev main_v488 : Ref sig .tc := ⟨.hbm, 571, rfl⟩
abbrev main_v489 : Ref sig .tc := ⟨.hbm, 572, rfl⟩
abbrev main_v490 : Ref sig .tc := ⟨.hbm, 573, rfl⟩
abbrev main_v491 : Ref sig .tc := ⟨.hbm, 574, rfl⟩
abbrev main_v492 : Ref sig .tc := ⟨.hbm, 575, rfl⟩
abbrev main_v493 : Ref sig .tc := ⟨.hbm, 576, rfl⟩
abbrev main_v494 : Ref sig .tc := ⟨.hbm, 577, rfl⟩
abbrev main_c_29 : Ref sig .tc := ⟨.hbm, 578, rfl⟩
abbrev main_v495 : Ref sig .tc := ⟨.hbm, 579, rfl⟩
abbrev main_v496 : Ref sig .tc := ⟨.hbm, 580, rfl⟩
abbrev main_c_30 : Ref sig .tc := ⟨.hbm, 581, rfl⟩
abbrev main_v497 : Ref sig .tc := ⟨.hbm, 582, rfl⟩
abbrev main_v498 : Ref sig .tc := ⟨.hbm, 583, rfl⟩
abbrev main_v499 : Ref sig .tc := ⟨.hbm, 584, rfl⟩
abbrev main_c_31 : Ref sig .tc := ⟨.hbm, 585, rfl⟩
abbrev main_v500 : Ref sig .tc := ⟨.hbm, 586, rfl⟩
abbrev main_v501 : Ref sig .tc := ⟨.hbm, 587, rfl⟩
abbrev main_c_32 : Ref sig .tc := ⟨.hbm, 588, rfl⟩
abbrev main_v502 : Ref sig .tc := ⟨.hbm, 589, rfl⟩
abbrev main_v503 : Ref sig .tc := ⟨.hbm, 590, rfl⟩
abbrev main_v504 : Ref sig .tc := ⟨.hbm, 591, rfl⟩
abbrev main_v505 : Ref sig .tc := ⟨.hbm, 592, rfl⟩
abbrev main_v506 : Ref sig .tc := ⟨.hbm, 593, rfl⟩
abbrev main_v507 : Ref sig .tc := ⟨.hbm, 594, rfl⟩
abbrev main_v508 : Ref sig .tc := ⟨.hbm, 595, rfl⟩
abbrev main_v509 : Ref sig .tc := ⟨.hbm, 596, rfl⟩
abbrev main_v510 : Ref sig .tc := ⟨.hbm, 597, rfl⟩
abbrev main_v511 : Ref sig .tc := ⟨.hbm, 598, rfl⟩
abbrev main_v512 : Ref sig .tc := ⟨.hbm, 599, rfl⟩
abbrev main_v513 : Ref sig .tc := ⟨.hbm, 600, rfl⟩
abbrev main_v514 : Ref sig .tc := ⟨.hbm, 601, rfl⟩
abbrev main_v515 : Ref sig .tc := ⟨.hbm, 602, rfl⟩
abbrev main_v516 : Ref sig .tc := ⟨.hbm, 603, rfl⟩
abbrev main_v517 : Ref sig .tc := ⟨.hbm, 604, rfl⟩

abbrev nD : Nat := 1
abbrev τ : Topo := Topo.v7x

variable {F : FTy → Type} [FloatOps F]
-- ==== Proof.Layer.lean ====
/-
  The value a convolution layer of the kernel stores, as a plain function of the nine windows it loads,
  the nine weight taps and the bias row. Every layer of the body is an instance of it.
-/
module

public import Idealize.ShloMosaic.PureOps.Ideal
public import Idealize.ShloMosaic.Lib.VecWindow

@[expose] public section

noncomputable section

namespace Cert.Super

open Idealize.ShloMosaic

variable {F : FTy → Type} [FloatOps F]

/-- One tap of a convolution: a window of pixels times a weight slice. -/
def tapMul {sx s1 sw so : Shape} (D : DotDims sx sw so) (hw : s1.ShapeCasts sw) (x : FVec F sx .bf16) (w : FVec F s1 .bf16) : FVec F so .f32 :=
  matmul D none x (shapeCast sw w hw) (constant so .f32 0x00000000#32)

/-- The rows a layer stores: nine taps added from the left, the bias row, the maximum with zero, the store's format. -/
def layerOut {sx s1 sw sb so : Shape} (D : DotDims sx sw so) (hw : s1.ShapeCasts sw) (hb : sb.ShapeCasts sb) (hbb : sb.Broadcasts so)
    (ho : so.ShapeCasts so) (hl : FTy.bits .bf16 < FTy.bits .f32) (x : Fin 9 → FVec F sx .bf16) (w : Fin 9 → FVec F s1 .bf16) (b : FVec F sb .f32) : FVec F so .bf16 :=
  let t := fun k => tapMul D hw (x k) (w k)
  shapeCast so (truncf .bf16 (maximumf (addf
    (addf (addf (addf (addf (addf (addf (addf (addf (t 0) (t 1)) (t 2)) (t 3)) (t 4)) (t 5)) (t 6)) (t 7)) (t 8))
    (broadcastTo so (shapeCast sb b hb) hbb)) (broadcast so (Scalar.ofBits .f32 0x00000000#32))) hl) ho

/-- The row at which tap `t`'s window starts. -/
def tapRow : Fin 9 → ℕ := ![103, 104, 105, 207, 208, 209, 311, 312, 313]

theorem tapRow_le (t : Fin 9) : tapRow t ≤ 313 := by
  revert t; decide

end Cert.Super

end
-- ==== Proof.KIStretch.lean ====
/-
  The kernel body cut into nine stretches (the copy and the zero rows, seven layers, the pooling) and, for each of the
  first eight, what it does to the buffers it touches, as a function of what they held.
-/
module

public import proofs.«01_k».proof.Proof.Gen.KernelIdeal.Frame.Runs
public import proofs.«01_k».proof.Proof.Layer
public import Idealize.ShloMosaic.Lib.Tactic.OpenCalls
public import Idealize.ShloMosaic.Lib.Tactic.Stretches
public import Idealize.ShloMosaic.Lib.Pipeline.TableIdle

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Super

variable {F : FTy → Type} [FloatOps F]

local notation "𝕄" => MT nD τ sig Unit (Elt F) ℕ (Pipeline.UD sig nD τ) ℕ

open_calls flat := cc0_superbox_fused_skel [k0_part1, k0_part2, k0_part3, k0_part4, k0_part5, k0_part6, k0_part7, k0_part8, k0_part9, k0_part10, k0_part11, k0_part12, k0_part13, k0_part14, k0_part15]

cut_chain st := flat at 15, 28, 49, 70, 91, 112, 133, 154

/-- The window of a padded feature buffer that tap `t` reads, in its first 128 columns. -/
def win128 (X : Vec F S10816x256 .bf16) (t : Fin 9) : Vec F S10400x128 .bf16 :=
  VecWindow.window X ![tapRow t, 0] S10400x128.size (Fin.forall_fin_two.mpr ⟨by have := tapRow_le t; show tapRow t + 10400 ≤ 10816; omega, by show 0 + 128 ≤ 256; omega⟩)

/-- The window of a padded feature buffer that tap `t` reads, in all 256 columns. -/
def win256 (X : Vec F S10816x256 .bf16) (t : Fin 9) : Vec F S10400x256 .bf16 :=
  VecWindow.window X ![tapRow t, 0] S10400x256.size (Fin.forall_fin_two.mpr ⟨by have := tapRow_le t; show tapRow t + 10400 ≤ 10816; omega, by show 0 + 256 ≤ 256; omega⟩)

/-- Weight tap `t` of a nine-tap weight array. -/
def wtap {C O : ℕ} (W : (⟨3, ![9, C, O]⟩ : Shape).Idx → Elt F .bf16) (t : Fin 9) : (⟨3, ![1, C, O]⟩ : Shape).Idx → Elt F .bf16 :=
  VecWindow.window W ![t.val, 0, 0] (⟨3, ![1, C, O]⟩ : Shape).size (by
    intro a; fin_cases a
    · show t.val + 1 ≤ 9; omega
    · show 0 + C ≤ C; omega
    · show 0 + O ≤ O; omega)

/-- A load at a unit-stride rectangle of a buffer held at `x` reads that window of `x`. -/
theorem readAt_rep_window {κ : Kind} {sp : Space} {s : Shape} {e : EltTy} (v : View sig κ sp s e) (x : s.Idx → Elt F e) {off size : Fin s.rank → ℕ}
    (inb : ∀ a, off a + size a ≤ s.size a) :
    v.readAt (Elt F) (Rect.unit off size inb).toLoadRect (v.rep x) = VecWindow.window x off size inb :=
  View.readAt_rep_unit v x inb rfl inb

/-- A layer from 128 to 128 columns. -/
def conv128 (X : Vec F S10816x256 .bf16) (W : Vec F S9x128x128 .bf16) (B : Vec F S1x128 .f32) : FVec F S10400x128 .bf16 :=
  layerOut dot_S10400x128_S128x128_S10400x128_1_0_0_1_n_n shapeCasts_S1x128x128_S128x128 shapeCasts_S1x128_S1x128 broadcasts_S1x128_S10400x128
    shapeCasts_S10400x128_S10400x128 bitsLt_bf16_f32 (win128 X) (wtap W) B

theorem st3_spec (c : Dev nD) (w : Memref sig .tc .vmem S9x128x128 .bf16) (b : Memref sig .tc .vmem S1x128 .f32)
    (src dst : Memref sig .tc .vmem S10816x256 .bf16) (hdst : dst.IsWhole) (X D : Vec F S10816x256 .bf16) (W : Vec F S9x128x128 .bf16) (B : Vec F S1x128 .f32)
    {R : Type} {κ : st3.K (F := F) w b src dst hdst (R := R)} {Q : R → sProp 𝕄} :
    iprop(owns (c : Thread nD τ) w fullShare W ∗ owns (c : Thread nD τ) b fullShare B ∗ owns (c : Thread nD τ) src fullShare X ∗ owns (c : Thread nD τ) dst fullShare D)
      ⊢ iprop(((owns (c : Thread nD τ) w fullShare W ∗ owns (c : Thread nD τ) b fullShare B ∗ owns (c : Thread nD τ) src fullShare X
            ∗ owns (c : Thread nD τ) dst fullShare (VecWindow.put D ![208, 0] S10400x128.size (conv128 X W B)))
            -∗ wp frame (wpE (defs₀ (F := F)) Variants.none c none) Set.univ κ Q)
          -∗ wp frame (wpE (defs₀ (F := F)) Variants.none c none) Set.univ (st3 w b src dst hdst κ) Q) := by
  rw [owns_eq_rep, owns_eq_rep, owns_eq_rep, owns_eq_rep]
  iintro ⟨HW, HB, HX, HD⟩ Hκ
  unfold st3
  sl_exec
  iapply Hκ
  isplitl [HW]; · iexact HW
  isplitl [HB]; · iexact HB
  isplitl [HX]; · iexact HX
  unfold owns
  iexists _
  isplitr
  rotate_left
  · iexact HD
  ipureintro
  rw [View.read_writes_rep_unit _ _ _ _ rfl]
  rw [View.readAt_rep_full b.view B]
  simp only [readAt_rep_window]
  rfl

/-- The window of the padded block that tap `t` of the first layer reads. -/
def win64 (X : Vec F S104x104x64 .bf16) (t : Fin 9) : Vec F S10400x64 .bf16 :=
  extractStridedSlice S10400x64 ![tapRow t, 0] (k0_pay9 X) (by revert t; decide)

/-- The first layer, from 64 to 128 columns. -/
def conv64 (X : Vec F S104x104x64 .bf16) (W : Vec F S9x64x128 .bf16) (B : Vec F S1x128 .f32) : FVec F S10400x128 .bf16 :=
  layerOut dot_S10400x64_S64x128_S10400x128_1_0_0_1_n_n shapeCasts_S1x64x128_S64x128 shapeCasts_S1x128_S1x128 broadcasts_S1x128_S10400x128
    shapeCasts_S10400x128_S10400x128 bitsLt_bf16_f32 (win64 X) (wtap W) B

/-- The layer from 128 to 256 columns. -/
def convUp (X : Vec F S10816x256 .bf16) (W : Vec F S9x128x256 .bf16) (B : Vec F S1x256 .f32) : FVec F S10400x256 .bf16 :=
  layerOut dot_S10400x128_S128x256_S10400x256_1_0_0_1_n_n shapeCasts_S1x128x256_S128x256 shapeCasts_S1x256_S1x256 broadcasts_S1x256_S10400x256
    shapeCasts_S10400x256_S10400x256 bitsLt_bf16_f32 (win128 X) (wtap W) B

/-- A layer from 256 to 256 columns. -/
def conv256 (X : Vec F S10816x256 .bf16) (W : Vec F S9x256x256 .bf16) (B : Vec F S1x256 .f32) : FVec F S10400x256 .bf16 :=
  layerOut dot_S10400x256_S256x256_S10400x256_1_0_0_1_n_n shapeCasts_S1x256x256_S256x256 shapeCasts_S1x256_S1x256 broadcasts_S1x256_S10400x256
    shapeCasts_S10400x256_S10400x256 bitsLt_bf16_f32 (win256 X) (wtap W) B

/-- The block of the padded features that the body copies at point `i`. -/
def copied (c : Dev nD) (i : grid0.Coords) (fh0 : HbBuf0 (F := F) c hbM0_0) : Vec F S102x104x64 .bf16 :=
  ((hbM0_0.slice (Rect.unit (s := S8x102x368x64) (k0_off1 i) S1x102x104x64.size (k0_off1_inb i)) (fun _ => rfl)).squeeze S102x104x64 squeezes_S1x102x104x64_S102x104x64).view.read (Elt F) fh0

/-- The block buffer after the copy and the two rows of zeros around it. -/
def slabOf (S0 : Vec F S104x104x64 .bf16) (P : Vec F S102x104x64 .bf16) : Vec F S104x104x64 .bf16 :=
  VecWindow.put (VecWindow.put (VecWindow.put S0 ![1, 0, 0] S102x104x64.size P) ![0, 0, 0] S1x104x64.size (k0_pay2 (F := F))) ![103, 0, 0] S1x104x64.size (k0_pay3 (F := F))

/-- A feature buffer after its rows above and below the map are set to zero. -/
def rimmed (A0 : Vec F S10816x256 .bf16) : Vec F S10816x256 .bf16 :=
  VecWindow.put (VecWindow.put A0 ![0, 0] S208x256.size (k0_pay5 (F := F))) ![10608, 0] S208x256.size (k0_pay6 (F := F))

set_option sl_exec.dmaWindow true in set_option sl_exec.dmaWindowSet true in
theorem st1_spec (c : Dev nD) (i : grid0.Coords) (slab : Memref sig .tc .vmem S104x104x64 .bf16) (hslab : slab.IsWhole)
    (a b : Memref sig .tc .vmem S10816x256 .bf16) (ha : a.IsWhole) (hb : b.IsWhole) (fh0 : HbBuf0 (F := F) c hbM0_0) (W : Waits sig Unit)
    (S0 : Vec F S104x104x64 .bf16) (A0 B0 : Vec F S10816x256 .bf16)
    {R : Type} {κ : st1.K (F := F) i (Memref.whole main_v2) (Memref.isWhole_whole _) slab hslab a ha b hb cc0_scratch3 (R := R)} {Q : R → sProp 𝕄} :
    iprop(owns (c : Thread nD τ) slab fullShare S0 ∗ owns (c : Thread nD τ) a fullShare A0 ∗ owns (c : Thread nD τ) b fullShare B0
        ∗ semVal ((c : Thread nD τ), SemLoc.dma 32) 0 ∗ hbPt0 c hbM0_0 fh0 ∗ owes (c : Thread nD τ) 0 W)
      ⊢ iprop(((owns (c : Thread nD τ) slab fullShare (slabOf S0 (copied c i fh0)) ∗ owns (c : Thread nD τ) a fullShare (rimmed A0) ∗ owns (c : Thread nD τ) b fullShare (rimmed B0)
            ∗ semVal ((c : Thread nD τ), SemLoc.dma 32) 0 ∗ hbPt0 c hbM0_0 fh0 ∗ (∃ W', owes (c : Thread nD τ) 0 W'))
            -∗ wp frame (wpE (defs₀ (F := F)) Variants.none c none) Set.univ κ Q)
          -∗ wp frame (wpE (defs₀ (F := F)) Variants.none c none) Set.univ (st1 i (Memref.whole main_v2) (Memref.isWhole_whole _) slab hslab a ha b hb cc0_scratch3 κ) Q) := by
  rw [owns_eq_rep, owns_eq_rep, owns_eq_rep]
  iintro ⟨HS, HA, HB, Hq, Hh, HW⟩ Hκ
  unfold st1
  sl_exec
  iapply Hκ
  isplitl [HS]
  · unfold owns
    iexists _
    isplitr
    rotate_left
    · iexact HS
    ipureintro
    rw [View.read_writes_cons_put _ _ _ _ _ rfl, View.read_writes_cons_put _ _ _ _ _ rfl, View.read_writes_rep_unit _ _ _ _ rfl]
    rfl
  isplitl [HA]
  · unfold owns
    iexists _
    isplitr
    rotate_left
    · iexact HA
    ipureintro
    rw [View.read_writes_cons_put _ _ _ _ _ rfl, View.read_writes_rep_unit _ _ _ _ rfl]
    rfl
  isplitl [HB]
  · unfold owns
    iexists _
    isplitr
    rotate_left
    · iexact HB
    ipureintro
    rw [View.read_writes_cons_put _ _ _ _ _ rfl, View.read_writes_rep_unit _ _ _ _ rfl]
    rfl
  isplitl [Hq]; · iexact Hq
  isplitl [Hh]; · iexact Hh
  iexists _
  iexact HW

theorem st2_spec (c : Dev nD) (w : Memref sig .tc .vmem S9x64x128 .bf16) (b : Memref sig .tc .vmem S1x128 .f32)
    (src : Memref sig .tc .vmem S104x104x64 .bf16) (dst : Memref sig .tc .vmem S10816x256 .bf16) (hdst : dst.IsWhole) (X : Vec F S104x104x64 .bf16) (D : Vec F S10816x256 .bf16)
    (W : Vec F S9x64x128 .bf16) (B : Vec F S1x128 .f32)
    {R : Type} {κ : st2.K (F := F) w b src dst hdst (R := R)} {Q : R → sProp 𝕄} :
    iprop(owns (c : Thread nD τ) w fullShare W ∗ owns (c : Thread nD τ) b fullShare B ∗ owns (c : Thread nD τ) src fullShare X ∗ owns (c : Thread nD τ) dst fullShare D)
      ⊢ iprop(((owns (c : Thread nD τ) w fullShare W ∗ owns (c : Thread nD τ) b fullShare B ∗ owns (c : Thread nD τ) src fullShare X
            ∗ owns (c : Thread nD τ) dst fullShare (VecWindow.put D ![208, 0] S10400x128.size (conv64 X W B)))
            -∗ wp frame (wpE (defs₀ (F := F)) Variants.none c none) Set.univ κ Q)
          -∗ wp frame (wpE (defs₀ (F := F)) Variants.none c none) Set.univ (st2 w b src dst hdst κ) Q) := by
  rw [owns_eq_rep, owns_eq_rep, owns_eq_rep, owns_eq_rep]
  iintro ⟨HW, HB, HX, HD⟩ Hκ
  unfold st2
  sl_exec
  iapply Hκ
  isplitl [HW]; · iexact HW
  isplitl [HB]; · iexact HB
  isplitl [HX]; · iexact HX
  unfold owns
  iexists _
  isplitr
  rotate_left
  · iexact HD
  ipureintro
  rw [View.read_writes_rep_unit _ _ _ _ rfl]
  rw [View.readAt_rep_full b.view B]
  rw [View.readAt_rep_full src.view X]
  simp only [readAt_rep_window]
  rfl

theorem st6_spec (c : Dev nD) (w : Memref sig .tc .vmem S9x128x256 .bf16) (b : Memref sig .tc .vmem S1x256 .f32)
    (src : Memref sig .tc .vmem S10816x256 .bf16) (dst : Memref sig .tc .vmem S10816x256 .bf16) (hdst : dst.IsWhole) (X : Vec F S10816x256 .bf16) (D : Vec F S10816x256 .bf16)
    (W : Vec F S9x128x256 .bf16) (B : Vec F S1x256 .f32)
    {R : Type} {κ : st6.K (F := F) w b dst hdst src (R := R)} {Q : R → sProp 𝕄} :
    iprop(owns (c : Thread nD τ) w fullShare W ∗ owns (c : Thread nD τ) b fullShare B ∗ owns (c : Thread nD τ) src fullShare X ∗ owns (c : Thread nD τ) dst fullShare D)
      ⊢ iprop(((owns (c : Thread nD τ) w fullShare W ∗ owns (c : Thread nD τ) b fullShare B ∗ owns (c : Thread nD τ) src fullShare X
            ∗ owns (c : Thread nD τ) dst fullShare (VecWindow.put D ![208, 0] S10400x256.size (convUp X W B)))
            -∗ wp frame (wpE (defs₀ (F := F)) Variants.none c none) Set.univ κ Q)
          -∗ wp frame (wpE (defs₀ (F := F)) Variants.none c none) Set.univ (st6 w b dst hdst src κ) Q) := by
  rw [owns_eq_rep, owns_eq_rep, owns_eq_rep, owns_eq_rep]
  iintro ⟨HW, HB, HX, HD⟩ Hκ
  unfold st6
  sl_exec
  iapply Hκ
  isplitl [HW]; · iexact HW
  isplitl [HB]; · iexact HB
  isplitl [HX]; · iexact HX
  unfold owns
  iexists _
  isplitr
  rotate_left
  · iexact HD
  ipureintro
  rw [View.read_writes_rep_unit _ _ _ _ rfl]
  rw [View.readAt_rep_full b.view B]
  simp only [readAt_rep_window]
  rfl

theorem st7_spec (c : Dev nD) (w : Memref sig .tc .vmem S9x256x256 .bf16) (b : Memref sig .tc .vmem S1x256 .f32)
    (src : Memref sig .tc .vmem S10816x256 .bf16) (dst : Memref sig .tc .vmem S10816x256 .bf16) (hdst : dst.IsWhole) (X : Vec F S10816x256 .bf16) (D : Vec F S10816x256 .bf16)
    (W : Vec F S9x256x256 .bf16) (B : Vec F S1x256 .f32)
    {R : Type} {κ : st7.K (F := F) w b src dst hdst (R := R)} {Q : R → sProp 𝕄} :
    iprop(owns (c : Thread nD τ) w fullShare W ∗ owns (c : Thread nD τ) b fullShare B ∗ owns (c : Thread nD τ) src fullShare X ∗ owns (c : Thread nD τ) dst fullShare D)
      ⊢ iprop(((owns (c : Thread nD τ) w fullShare W ∗ owns (c : Thread nD τ) b fullShare B ∗ owns (c : Thread nD τ) src fullShare X
            ∗ owns (c : Thread nD τ) dst fullShare (VecWindow.put D ![208, 0] S10400x256.size (conv256 X W B)))
            -∗ wp frame (wpE (defs₀ (F := F)) Variants.none c none) Set.univ κ Q)
          -∗ wp frame (wpE (defs₀ (F := F)) Variants.none c none) Set.univ (st7 w b src dst hdst κ) Q) := by
  rw [owns_eq_rep, owns_eq_rep, owns_eq_rep, owns_eq_rep]
  iintro ⟨HW, HB, HX, HD⟩ Hκ
  unfold st7
  sl_exec
  iapply Hκ
  isplitl [HW]; · iexact HW
  isplitl [HB]; · iexact HB
  isplitl [HX]; · iexact HX
  unfold owns
  iexists _
  isplitr
  rotate_left
  · iexact HD
  ipureintro
  rw [View.read_writes_rep_unit _ _ _ _ rfl]
  rw [View.readAt_rep_full b.view B]
  simp only [readAt_rep_window]
  rfl

/-- The layer from the second buffer back to the first is the layer from the first to the second with the buffers exchanged. -/
theorem st4_eq (w : Memref sig .tc .vmem S9x128x128 .bf16) (b : Memref sig .tc .vmem S1x128 .f32)
    (src dst : Memref sig .tc .vmem S10816x256 .bf16) (hdst : dst.IsWhole) {R : Type} (κ : st3.K (F := F) w b src dst hdst (R := R)) :
    st4 w b dst hdst src κ = st3 w b src dst hdst κ := rfl

theorem st5_eq (w : Memref sig .tc .vmem S9x128x128 .bf16) (b : Memref sig .tc .vmem S1x128 .f32)
    (src dst : Memref sig .tc .vmem S10816x256 .bf16) (hdst : dst.IsWhole) {R : Type} (κ : st3.K (F := F) w b src dst hdst (R := R)) :
    st5 w b src dst hdst κ = st3 w b src dst hdst κ := rfl

theorem st8_eq (w : Memref sig .tc .vmem S9x256x256 .bf16) (b : Memref sig .tc .vmem S1x256 .f32)
    (src dst : Memref sig .tc .vmem S10816x256 .bf16) (hdst : dst.IsWhole) {R : Type} (κ : st7.K (F := F) w b src dst hdst (R := R)) :
    st8 w b dst hdst src κ = st7 w b src dst hdst κ := rfl

end Cert.KernelIdeal.Gen

end
-- ==== Proof.KIBody.lean ====
/-
  The kernel's body at one point, as a whole: the features it computes, layer by layer, as plain functions of
  what it loads, and the two cases of its output — the first strip of an agent stores its sums, a later strip
  adds to what is there.
-/
module

public import proofs.«01_k».proof.Proof.KIStretch

@[expose] public section

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Super

variable {F : FTy → Type} [FloatOps F]

local notation "𝕄" => MT nD τ sig Unit (Elt F) ℕ (Pipeline.UD sig nD τ) ℕ

/-! ## What the buffers hold does not depend on what they held before the point -/

/-- The zero the body pads with. -/
def pad0 : F .bf16 := Scalar.ofBits .bf16 0x0000#16

/-- The rows above and below the map are zero. -/
def Rim (D : Vec F S10816x256 .bf16) : Prop := ∀ y : S10816x256.Idx, ((y 0).val < 208 ∨ 10608 ≤ (y 0).val) → D y = pad0 (F := F)

theorem rim_rimmed (A0 : Vec F S10816x256 .bf16) : Rim (rimmed A0) := by
  intro y hy
  have h1 : (y 1).val < 256 := (y 1).isLt
  have h0 : (y 0).val < 10816 := (y 0).isLt
  unfold rimmed VecWindow.put
  by_cases hb : 10608 ≤ (y 0).val
  · rw [dif_pos (Fin.forall_fin_two.mpr ⟨⟨hb, by show _ < 10608 + 208; omega⟩, ⟨Nat.zero_le _, by show _ < 0 + 256; omega⟩⟩)]
    rfl
  · rw [dif_neg (fun h => hb (h 0).1), dif_pos (Fin.forall_fin_two.mpr ⟨⟨Nat.zero_le _, by show _ < 0 + 208; omega⟩, ⟨Nat.zero_le _, by show _ < 0 + 256; omega⟩⟩)]
    rfl

/-- Storing the map's rows leaves the rows above and below as they were. -/
theorem rim_put {D : Vec F S10816x256 .bf16} (h : Rim D) (size : Fin 2 → ℕ) (hs : size 0 = 10400) (P : ((a : Fin 2) → Fin (size a)) → Elt F .bf16) :
    Rim (VecWindow.put (s := S10816x256) D ![208, 0] size P) := by
  intro y hy
  unfold VecWindow.put
  rw [dif_neg]
  · exact h y hy
  · intro hc
    have h0 := hc 0
    have e : (![208, 0] : Fin 2 → ℕ) 0 = 208 := rfl
    rw [e, hs] at h0
    omega

/-- A feature buffer that holds the map `P` in its first columns and zero around it. -/
def bufOf (size : Fin 2 → ℕ) (P : ((a : Fin 2) → Fin (size a)) → Elt F .bf16) : Vec F S10816x256 .bf16 :=
  VecWindow.put (s := S10816x256) (rimmed (fun _ => pad0 (F := F))) ![208, 0] size P

/-- The windows of a buffer whose rim is zero see only the map stored in it. -/
theorem window_put_rim {D : Vec F S10816x256 .bf16} (h : Rim D) (C : ℕ) (hC : C ≤ 256) (P : ((a : Fin 2) → Fin ((![10400, C] : Fin 2 → ℕ) a)) → Elt F .bf16)
    (o : ℕ) (inb : ∀ a, (![o, 0] : Fin 2 → ℕ) a + (![10400, C] : Fin 2 → ℕ) a ≤ S10816x256.size a) :
    VecWindow.window (VecWindow.put (s := S10816x256) D ![208, 0] ![10400, C] P) ![o, 0] ![10400, C] inb = VecWindow.window (bufOf ![10400, C] P) ![o, 0] ![10400, C] inb := by
  funext y
  unfold VecWindow.window bufOf VecWindow.put
  have h1 : (y 1).val < C := (y 1).isLt
  set z := (Rect.unit (s := S10816x256) ![o, 0] ![10400, C] inb).emb y with hz
  have z1 : (z 1).val < C := by
    have : (z 1).val = 0 + 1 * (y 1).val := rfl
    omega
  by_cases hc : ∀ a, (![208, 0] : Fin 2 → ℕ) a ≤ (z a).val ∧ (z a).val < (![208, 0] : Fin 2 → ℕ) a + (![10400, C] : Fin 2 → ℕ) a
  · rw [dif_pos hc, dif_pos hc]
  · rw [dif_neg hc, dif_neg hc]
    have hr : (z 0).val < 208 ∨ 10608 ≤ (z 0).val := by
      by_contra hn
      exact hc (Fin.forall_fin_two.mpr ⟨⟨by show 208 ≤ _; omega, by show _ < 208 + 10400; omega⟩, ⟨Nat.zero_le _, by show _ < 0 + C; omega⟩⟩)
    rw [h z hr]
    exact (rim_rimmed _ z hr).symm

theorem conv128_put {D : Vec F S10816x256 .bf16} (h : Rim D) (P : FVec F S10400x128 .bf16) (W : Vec F S9x128x128 .bf16) (B : Vec F S1x128 .f32) :
    conv128 (VecWindow.put D ![208, 0] S10400x128.size P) W B = conv128 (bufOf S10400x128.size P) W B := by
  unfold conv128
  rw [show win128 (VecWindow.put D ![208, 0] S10400x128.size P) = win128 (bufOf S10400x128.size P) from funext fun t => window_put_rim h 128 (by omega) P _ _]

theorem convUp_put {D : Vec F S10816x256 .bf16} (h : Rim D) (P : FVec F S10400x128 .bf16) (W : Vec F S9x128x256 .bf16) (B : Vec F S1x256 .f32) :
    convUp (VecWindow.put D ![208, 0] S10400x128.size P) W B = convUp (bufOf S10400x128.size P) W B := by
  unfold convUp
  rw [show win128 (VecWindow.put D ![208, 0] S10400x128.size P) = win128 (bufOf S10400x128.size P) from funext fun t => window_put_rim h 128 (by omega) P _ _]

theorem conv256_put {D : Vec F S10816x256 .bf16} (h : Rim D) (P : FVec F S10400x256 .bf16) (W : Vec F S9x256x256 .bf16) (B : Vec F S1x256 .f32) :
    conv256 (VecWindow.put D ![208, 0] S10400x256.size P) W B = conv256 (bufOf S10400x256.size P) W B := by
  unfold conv256
  rw [show win256 (VecWindow.put D ![208, 0] S10400x256.size P) = win256 (bufOf S10400x256.size P) from funext fun t => window_put_rim h 256 (by omega) P _ _]

/-- The block buffer is stored into everywhere. -/
theorem slabOf_eq (S0 S1 : Vec F S104x104x64 .bf16) (P : Vec F S102x104x64 .bf16) : slabOf S0 P = slabOf S1 P := by
  funext y
  have h0 : (y 0).val < 104 := (y 0).isLt
  have h1 : (y 1).val < 104 := (y 1).isLt
  have h2 : (y 2).val < 64 := (y 2).isLt
  have hb : ∀ (o n : ℕ), o ≤ (y 0).val → (y 0).val < o + n → ∀ a : Fin 3, (![o, 0, 0] : Fin 3 → ℕ) a ≤ (y a).val ∧ (y a).val < (![o, 0, 0] : Fin 3 → ℕ) a + (![n, 104, 64] : Fin 3 → ℕ) a := by
    intro o n ha hb a
    fin_cases a
    · exact ⟨ha, hb⟩
    · exact ⟨Nat.zero_le _, by show (y 1).val < 0 + 104; omega⟩
    · exact ⟨Nat.zero_le _, by show (y 2).val < 0 + 64; omega⟩
  unfold slabOf VecWindow.put
  by_cases c3 : (y 0).val = 103
  · rw [dif_pos (hb 103 1 (by omega) (by omega)), dif_pos (hb 103 1 (by omega) (by omega))]
  · have n3 : ¬ ∀ a : Fin 3, (![103, 0, 0] : Fin 3 → ℕ) a ≤ (y a).val ∧ (y a).val < (![103, 0, 0] : Fin 3 → ℕ) a + S1x104x64.size a := fun h => c3 (by have := (h 0).1; have e : (![103, 0, 0] : Fin 3 → ℕ) 0 = 103 := rfl; omega)
    rw [dif_neg n3, dif_neg n3]
    by_cases c0 : (y 0).val = 0
    · rw [dif_pos (hb 0 1 (by omega) (by omega)), dif_pos (hb 0 1 (by omega) (by omega))]
    · have n0 : ¬ ∀ a : Fin 3, (![0, 0, 0] : Fin 3 → ℕ) a ≤ (y a).val ∧ (y a).val < (![0, 0, 0] : Fin 3 → ℕ) a + S1x104x64.size a := fun h => c0 (by have := (h 0).2; have e : (![0, 0, 0] : Fin 3 → ℕ) 0 = 0 := rfl; have e' : S1x104x64.size 0 = 1 := rfl; omega)
      rw [dif_neg n0, dif_neg n0, dif_pos (hb 1 102 (by omega) (by omega)), dif_pos (hb 1 102 (by omega) (by omega))]

/-! ## The values -/

/-- The block with its two rows of zeros. -/
def slabV (P : Vec F S102x104x64 .bf16) : Vec F S104x104x64 .bf16 := slabOf (fun _ => pad0 (F := F)) P

/-- The map after the first four layers, from the padded block. -/
def feat4 (P : Vec F S102x104x64 .bf16) (x7 : Vec F S9x64x128 .bf16) (x8 : Vec F S1x128 .f32) (x9 : Vec F S9x128x128 .bf16) (x10 : Vec F S1x128 .f32) (x11 : Vec F S9x128x128 .bf16) (x12 : Vec F S1x128 .f32) (x13 : Vec F S9x128x128 .bf16) (x14 : Vec F S1x128 .f32) : FVec F S10400x128 .bf16 :=
  conv128 (bufOf S10400x128.size (conv128 (bufOf S10400x128.size (conv128 (bufOf S10400x128.size (conv64 (slabV P) x7 x8)) x9 x10)) x11 x12)) x13 x14

/-- The map after the seven layers. -/
def feat7 (P : Vec F S102x104x64 .bf16) (x7 : Vec F S9x64x128 .bf16) (x8 : Vec F S1x128 .f32) (x9 : Vec F S9x128x128 .bf16) (x10 : Vec F S1x128 .f32) (x11 : Vec F S9x128x128 .bf16) (x12 : Vec F S1x128 .f32) (x13 : Vec F S9x128x128 .bf16) (x14 : Vec F S1x128 .f32) (x15 : Vec F S9x128x256 .bf16) (x16 : Vec F S1x256 .f32) (x17 : Vec F S9x256x256 .bf16) (x18 : Vec F S1x256 .f32) (x19 : Vec F S9x256x256 .bf16) (x20 : Vec F S1x256 .f32) : FVec F S10400x256 .bf16 :=
  conv256 (bufOf S10400x256.size (conv256 (bufOf S10400x256.size (convUp (bufOf S10400x128.size (feat4 P x7 x8 x9 x10 x11 x12 x13 x14)) x15 x16)) x17 x18)) x19 x20

/-- The strip's sums over the boxes, before the output's shape. -/
def pool (i : grid0.Coords) (x0 : Vec F S1x50x1 .i32) (x1 : Vec F S1x50x1 .i32) (x2 : Vec F S1x50x1 .i32) (x3 : Vec F S1x50x1 .i32) (x4 : Vec F S1x50x1 .f32) (x5 : Vec F S1x8800 .i32) (x6 : Vec F S1x8800 .i32) (x21 : Vec F S256x256 .bf16) (x22 : Vec F S1x256 .f32) (x23 : Vec F S256x256 .bf16) (x24 : Vec F S1x256 .f32) (P : FVec F S10400x256 .bf16) : FVec F S50x256 .f32 :=
  k0_pay40 (k0_pay37 P x21 x22 x23 x24) (k0_pay38 x5) (k0_pay39 x6) (Scalar.muli (BitVec.ofNat 32 (i 1).val) 88#32) x0 x1 x2 x3 x4

/-- What the first strip of an agent stores. -/
def outA (c : Dev nD) (i : grid0.Coords) (x0 : Vec F S1x50x1 .i32) (x1 : Vec F S1x50x1 .i32) (x2 : Vec F S1x50x1 .i32) (x3 : Vec F S1x50x1 .i32) (x4 : Vec F S1x50x1 .f32) (x5 : Vec F S1x8800 .i32) (x6 : Vec F S1x8800 .i32) (x7 : Vec F S9x64x128 .bf16) (x8 : Vec F S1x128 .f32) (x9 : Vec F S9x128x128 .bf16) (x10 : Vec F S1x128 .f32) (x11 : Vec F S9x128x128 .bf16) (x12 : Vec F S1x128 .f32) (x13 : Vec F S9x128x128 .bf16) (x14 : Vec F S1x128 .f32) (x15 : Vec F S9x128x256 .bf16) (x16 : Vec F S1x256 .f32) (x17 : Vec F S9x256x256 .bf16) (x18 : Vec F S1x256 .f32) (x19 : Vec F S9x256x256 .bf16) (x20 : Vec F S1x256 .f32) (x21 : Vec F S256x256 .bf16) (x22 : Vec F S1x256 .f32) (x23 : Vec F S256x256 .bf16) (x24 : Vec F S1x256 .f32) (fh0 : HbBuf0 (F := F) c hbM0_0) : Vec F S1x50x256 .f32 :=
  shapeCast S1x50x256 (pool i x0 x1 x2 x3 x4 x5 x6 x21 x22 x23 x24 (feat7 (copied c i fh0) x7 x8 x9 x10 x11 x12 x13 x14 x15 x16 x17 x18 x19 x20)) shapeCasts_S50x256_S1x50x256

/-- What a later strip stores, over what is there. -/
def outB (c : Dev nD) (i : grid0.Coords) (x0 : Vec F S1x50x1 .i32) (x1 : Vec F S1x50x1 .i32) (x2 : Vec F S1x50x1 .i32) (x3 : Vec F S1x50x1 .i32) (x4 : Vec F S1x50x1 .f32) (x5 : Vec F S1x8800 .i32) (x6 : Vec F S1x8800 .i32) (x7 : Vec F S9x64x128 .bf16) (x8 : Vec F S1x128 .f32) (x9 : Vec F S9x128x128 .bf16) (x10 : Vec F S1x128 .f32) (x11 : Vec F S9x128x128 .bf16) (x12 : Vec F S1x128 .f32) (x13 : Vec F S9x128x128 .bf16) (x14 : Vec F S1x128 .f32) (x15 : Vec F S9x128x256 .bf16) (x16 : Vec F S1x256 .f32) (x17 : Vec F S9x256x256 .bf16) (x18 : Vec F S1x256 .f32) (x19 : Vec F S9x256x256 .bf16) (x20 : Vec F S1x256 .f32) (x21 : Vec F S256x256 .bf16) (x22 : Vec F S1x256 .f32) (x23 : Vec F S256x256 .bf16) (x24 : Vec F S1x256 .f32) (fh0 : HbBuf0 (F := F) c hbM0_0) (D : Vec F S1x50x256 .f32) : Vec F S1x50x256 .f32 :=
  k0_pay1 (pool i x0 x1 x2 x3 x4 x5 x6 x21 x22 x23 x24 (feat7 (copied c i fh0) x7 x8 x9 x10 x11 x12 x13 x14 x15 x16 x17 x18 x19 x20)) D

/-! ## The body -/

/-- The end of the body at the first strip of an agent: the sums are stored. -/
theorem tail_A (c : Dev nD) (i : grid0.Coords) (arg3 : Memref sig .tc .vmem S1x50x1 .i32) (harg3 : arg3.IsWhole) (arg4 : Memref sig .tc .vmem S1x50x1 .i32) (harg4 : arg4.IsWhole) (arg5 : Memref sig .tc .vmem S1x50x1 .i32) (harg5 : arg5.IsWhole) (arg6 : Memref sig .tc .vmem S1x50x1 .i32) (harg6 : arg6.IsWhole) (arg7 : Memref sig .tc .vmem S1x50x1 .f32) (harg7 : arg7.IsWhole) (arg8 : Memref sig .tc .vmem S1x8800 .i32) (harg8 : arg8.IsWhole) (arg9 : Memref sig .tc .vmem S1x8800 .i32) (harg9 : arg9.IsWhole) (arg10 : Memref sig .tc .vmem S9x64x128 .bf16) (harg10 : arg10.IsWhole) (arg11 : Memref sig .tc .vmem S1x128 .f32) (harg11 : arg11.IsWhole) (arg12 : Memref sig .tc .vmem S9x128x128 .bf16) (harg12 : arg12.IsWhole) (arg13 : Memref sig .tc .vmem S1x128 .f32) (harg13 : arg13.IsWhole) (arg14 : Memref sig .tc .vmem S9x128x128 .bf16) (harg14 : arg14.IsWhole) (arg15 : Memref sig .tc .vmem S1x128 .f32) (harg15 : arg15.IsWhole) (arg16 : Memref sig .tc .vmem S9x128x128 .bf16) (harg16 : arg16.IsWhole) (arg17 : Memref sig .tc .vmem S1x128 .f32) (harg17 : arg17.IsWhole) (arg18 : Memref sig .tc .vmem S9x128x256 .bf16) (harg18 : arg18.IsWhole) (arg19 : Memref sig .tc .vmem S1x256 .f32) (harg19 : arg19.IsWhole) (arg20 : Memref sig .tc .vmem S9x256x256 .bf16) (harg20 : arg20.IsWhole) (arg21 : Memref sig .tc .vmem S1x256 .f32) (harg21 : arg21.IsWhole) (arg22 : Memref sig .tc .vmem S9x256x256 .bf16) (harg22 : arg22.IsWhole) (arg23 : Memref sig .tc .vmem S1x256 .f32) (harg23 : arg23.IsWhole) (arg24 : Memref sig .tc .vmem S256x256 .bf16) (harg24 : arg24.IsWhole) (arg25 : Memref sig .tc .vmem S1x256 .f32) (harg25 : arg25.IsWhole) (arg26 : Memref sig .tc .vmem S256x256 .bf16) (harg26 : arg26.IsWhole) (arg27 : Memref sig .tc .vmem S1x256 .f32) (harg27 : arg27.IsWhole) (arg28 : Memref sig .tc .vmem S1x50x256 .f32) (harg28 : arg28.IsWhole) (arg29 : Memref sig .tc .vmem S104x104x64 .bf16) (harg29 : arg29.IsWhole) (arg30 : Memref sig .tc .vmem S10816x256 .bf16) (harg30 : arg30.IsWhole) (arg31 : Memref sig .tc .vmem S10816x256 .bf16) (harg31 : arg31.IsWhole) (hc0 : cond0_0 i) (hc1 : ¬cond0_1 i)
    (x0 : Vec F S1x50x1 .i32) (x1 : Vec F S1x50x1 .i32) (x2 : Vec F S1x50x1 .i32) (x3 : Vec F S1x50x1 .i32) (x4 : Vec F S1x50x1 .f32) (x5 : Vec F S1x8800 .i32) (x6 : Vec F S1x8800 .i32) (x21 : Vec F S256x256 .bf16) (x22 : Vec F S1x256 .f32) (x23 : Vec F S256x256 .bf16) (x24 : Vec F S1x256 .f32) (D : Vec F S1x50x256 .f32) (A : Vec F S10816x256 .bf16) (P : FVec F S10400x256 .bf16)
    (hA : VecWindow.window A ![208, 0] S10400x256.size inb_S10816x256_S10400x256_208_0 = P) {Q : PUnit → sProp 𝕄} :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare D ∗ owns (c : Thread nD τ) arg30 fullShare A)
      ⊢ iprop((((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare (shapeCast S1x50x256 (pool i x0 x1 x2 x3 x4 x5 x6 x21 x22 x23 x24 P) shapeCasts_S50x256_S1x50x256) ∗ owns (c : Thread nD τ) arg30 fullShare A) -∗ Q ⟨⟩))
          -∗ wp frame (wpE (defs₀ (F := F)) Variants.none c none) Set.univ (st8.tail i (Memref.whole main_v2) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 cc0_scratch3) Q) := by
  subst hA
  iterate 13 rw [owns_eq_rep]
  iintro ⟨H0, H1, H2, H3, H4, H5, H6, H21, H22, H23, H24, HD, HA⟩ HQ
  unfold st8.tail
  simp only [k0_part16_eq_skeleton]
  sl_exec (disch := first | sl_exact hc0 | sl_exact hc1)
  sl_step
  iapply HQ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H21]; · iexact H21
  isplitl [H22]; · iexact H22
  isplitl [H23]; · iexact H23
  isplitl [H24]; · iexact H24
  isplitl [HD]
  · unfold owns
    iexists _
    isplitr
    rotate_left
    · iexact HD
    ipureintro
    rw [View.read_writes_full]
    iterate 7 rw [View.readAt_rep_full]
    rw [readAt_rep_window]
    iterate 4 rw [View.readAt_rep_full]
    rfl
  iexact HA

/-- The end of the body at a later strip: the sums are added to the output. -/
theorem tail_B (c : Dev nD) (i : grid0.Coords) (arg3 : Memref sig .tc .vmem S1x50x1 .i32) (harg3 : arg3.IsWhole) (arg4 : Memref sig .tc .vmem S1x50x1 .i32) (harg4 : arg4.IsWhole) (arg5 : Memref sig .tc .vmem S1x50x1 .i32) (harg5 : arg5.IsWhole) (arg6 : Memref sig .tc .vmem S1x50x1 .i32) (harg6 : arg6.IsWhole) (arg7 : Memref sig .tc .vmem S1x50x1 .f32) (harg7 : arg7.IsWhole) (arg8 : Memref sig .tc .vmem S1x8800 .i32) (harg8 : arg8.IsWhole) (arg9 : Memref sig .tc .vmem S1x8800 .i32) (harg9 : arg9.IsWhole) (arg10 : Memref sig .tc .vmem S9x64x128 .bf16) (harg10 : arg10.IsWhole) (arg11 : Memref sig .tc .vmem S1x128 .f32) (harg11 : arg11.IsWhole) (arg12 : Memref sig .tc .vmem S9x128x128 .bf16) (harg12 : arg12.IsWhole) (arg13 : Memref sig .tc .vmem S1x128 .f32) (harg13 : arg13.IsWhole) (arg14 : Memref sig .tc .vmem S9x128x128 .bf16) (harg14 : arg14.IsWhole) (arg15 : Memref sig .tc .vmem S1x128 .f32) (harg15 : arg15.IsWhole) (arg16 : Memref sig .tc .vmem S9x128x128 .bf16) (harg16 : arg16.IsWhole) (arg17 : Memref sig .tc .vmem S1x128 .f32) (harg17 : arg17.IsWhole) (arg18 : Memref sig .tc .vmem S9x128x256 .bf16) (harg18 : arg18.IsWhole) (arg19 : Memref sig .tc .vmem S1x256 .f32) (harg19 : arg19.IsWhole) (arg20 : Memref sig .tc .vmem S9x256x256 .bf16) (harg20 : arg20.IsWhole) (arg21 : Memref sig .tc .vmem S1x256 .f32) (harg21 : arg21.IsWhole) (arg22 : Memref sig .tc .vmem S9x256x256 .bf16) (harg22 : arg22.IsWhole) (arg23 : Memref sig .tc .vmem S1x256 .f32) (harg23 : arg23.IsWhole) (arg24 : Memref sig .tc .vmem S256x256 .bf16) (harg24 : arg24.IsWhole) (arg25 : Memref sig .tc .vmem S1x256 .f32) (harg25 : arg25.IsWhole) (arg26 : Memref sig .tc .vmem S256x256 .bf16) (harg26 : arg26.IsWhole) (arg27 : Memref sig .tc .vmem S1x256 .f32) (harg27 : arg27.IsWhole) (arg28 : Memref sig .tc .vmem S1x50x256 .f32) (harg28 : arg28.IsWhole) (arg29 : Memref sig .tc .vmem S104x104x64 .bf16) (harg29 : arg29.IsWhole) (arg30 : Memref sig .tc .vmem S10816x256 .bf16) (harg30 : arg30.IsWhole) (arg31 : Memref sig .tc .vmem S10816x256 .bf16) (harg31 : arg31.IsWhole) (hc0 : ¬cond0_0 i) (hc1 : cond0_1 i)
    (x0 : Vec F S1x50x1 .i32) (x1 : Vec F S1x50x1 .i32) (x2 : Vec F S1x50x1 .i32) (x3 : Vec F S1x50x1 .i32) (x4 : Vec F S1x50x1 .f32) (x5 : Vec F S1x8800 .i32) (x6 : Vec F S1x8800 .i32) (x21 : Vec F S256x256 .bf16) (x22 : Vec F S1x256 .f32) (x23 : Vec F S256x256 .bf16) (x24 : Vec F S1x256 .f32) (D : Vec F S1x50x256 .f32) (A : Vec F S10816x256 .bf16) (P : FVec F S10400x256 .bf16)
    (hA : VecWindow.window A ![208, 0] S10400x256.size inb_S10816x256_S10400x256_208_0 = P) {Q : PUnit → sProp 𝕄} :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare D ∗ owns (c : Thread nD τ) arg30 fullShare A)
      ⊢ iprop((((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare (k0_pay1 (pool i x0 x1 x2 x3 x4 x5 x6 x21 x22 x23 x24 P) D) ∗ owns (c : Thread nD τ) arg30 fullShare A) -∗ Q ⟨⟩))
          -∗ wp frame (wpE (defs₀ (F := F)) Variants.none c none) Set.univ (st8.tail i (Memref.whole main_v2) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 cc0_scratch3) Q) := by
  subst hA
  iterate 13 rw [owns_eq_rep]
  iintro ⟨H0, H1, H2, H3, H4, H5, H6, H21, H22, H23, H24, HD, HA⟩ HQ
  unfold st8.tail
  simp only [k0_part16_eq_skeleton]
  sl_exec (disch := first | sl_exact hc0 | sl_exact hc1)
  sl_step
  iapply HQ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H21]; · iexact H21
  isplitl [H22]; · iexact H22
  isplitl [H23]; · iexact H23
  isplitl [H24]; · iexact H24
  isplitl [HD]
  · unfold owns
    iexists _
    isplitr
    rotate_left
    · iexact HD
    ipureintro
    rw [View.read_writes_full]
    unfold tail_B.sl.r tail_B.sl.v478
    iterate 7 rw [View.readAt_rep_full]
    rw [readAt_rep_window]
    iterate 5 rw [View.readAt_rep_full]
    rfl
  iexact HA

set_option maxHeartbeats 4000000 in
/-- The whole body at the first strip of an agent. -/
theorem body_A (c : Dev nD) (i : grid0.Coords) (arg3 : Memref sig .tc .vmem S1x50x1 .i32) (harg3 : arg3.IsWhole) (arg4 : Memref sig .tc .vmem S1x50x1 .i32) (harg4 : arg4.IsWhole) (arg5 : Memref sig .tc .vmem S1x50x1 .i32) (harg5 : arg5.IsWhole) (arg6 : Memref sig .tc .vmem S1x50x1 .i32) (harg6 : arg6.IsWhole) (arg7 : Memref sig .tc .vmem S1x50x1 .f32) (harg7 : arg7.IsWhole) (arg8 : Memref sig .tc .vmem S1x8800 .i32) (harg8 : arg8.IsWhole) (arg9 : Memref sig .tc .vmem S1x8800 .i32) (harg9 : arg9.IsWhole) (arg10 : Memref sig .tc .vmem S9x64x128 .bf16) (harg10 : arg10.IsWhole) (arg11 : Memref sig .tc .vmem S1x128 .f32) (harg11 : arg11.IsWhole) (arg12 : Memref sig .tc .vmem S9x128x128 .bf16) (harg12 : arg12.IsWhole) (arg13 : Memref sig .tc .vmem S1x128 .f32) (harg13 : arg13.IsWhole) (arg14 : Memref sig .tc .vmem S9x128x128 .bf16) (harg14 : arg14.IsWhole) (arg15 : Memref sig .tc .vmem S1x128 .f32) (harg15 : arg15.IsWhole) (arg16 : Memref sig .tc .vmem S9x128x128 .bf16) (harg16 : arg16.IsWhole) (arg17 : Memref sig .tc .vmem S1x128 .f32) (harg17 : arg17.IsWhole) (arg18 : Memref sig .tc .vmem S9x128x256 .bf16) (harg18 : arg18.IsWhole) (arg19 : Memref sig .tc .vmem S1x256 .f32) (harg19 : arg19.IsWhole) (arg20 : Memref sig .tc .vmem S9x256x256 .bf16) (harg20 : arg20.IsWhole) (arg21 : Memref sig .tc .vmem S1x256 .f32) (harg21 : arg21.IsWhole) (arg22 : Memref sig .tc .vmem S9x256x256 .bf16) (harg22 : arg22.IsWhole) (arg23 : Memref sig .tc .vmem S1x256 .f32) (harg23 : arg23.IsWhole) (arg24 : Memref sig .tc .vmem S256x256 .bf16) (harg24 : arg24.IsWhole) (arg25 : Memref sig .tc .vmem S1x256 .f32) (harg25 : arg25.IsWhole) (arg26 : Memref sig .tc .vmem S256x256 .bf16) (harg26 : arg26.IsWhole) (arg27 : Memref sig .tc .vmem S1x256 .f32) (harg27 : arg27.IsWhole) (arg28 : Memref sig .tc .vmem S1x50x256 .f32) (harg28 : arg28.IsWhole) (arg29 : Memref sig .tc .vmem S104x104x64 .bf16) (harg29 : arg29.IsWhole) (arg30 : Memref sig .tc .vmem S10816x256 .bf16) (harg30 : arg30.IsWhole) (arg31 : Memref sig .tc .vmem S10816x256 .bf16) (harg31 : arg31.IsWhole) (hc0 : cond0_0 i) (hc1 : ¬cond0_1 i)
    (x0 : Vec F S1x50x1 .i32) (x1 : Vec F S1x50x1 .i32) (x2 : Vec F S1x50x1 .i32) (x3 : Vec F S1x50x1 .i32) (x4 : Vec F S1x50x1 .f32) (x5 : Vec F S1x8800 .i32) (x6 : Vec F S1x8800 .i32) (x7 : Vec F S9x64x128 .bf16) (x8 : Vec F S1x128 .f32) (x9 : Vec F S9x128x128 .bf16) (x10 : Vec F S1x128 .f32) (x11 : Vec F S9x128x128 .bf16) (x12 : Vec F S1x128 .f32) (x13 : Vec F S9x128x128 .bf16) (x14 : Vec F S1x128 .f32) (x15 : Vec F S9x128x256 .bf16) (x16 : Vec F S1x256 .f32) (x17 : Vec F S9x256x256 .bf16) (x18 : Vec F S1x256 .f32) (x19 : Vec F S9x256x256 .bf16) (x20 : Vec F S1x256 .f32) (x21 : Vec F S256x256 .bf16) (x22 : Vec F S1x256 .f32) (x23 : Vec F S256x256 .bf16) (x24 : Vec F S1x256 .f32) (fh0 : HbBuf0 (F := F) c hbM0_0) (W : Waits sig Unit) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ semVal ((c : Thread nD τ), SemLoc.dma 32) 0 ∗ hbPt0 c hbM0_0 fh0 ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare (outA c i x0 x1 x2 x3 x4 x5 x6 x7 x8 x9 x10 x11 x12 x13 x14 x15 x16 x17 x18 x19 x20 x21 x22 x23 x24 fh0) ∗ (∃ d, owns (c : Thread nD τ) arg29 fullShare d) ∗ (∃ d, owns (c : Thread nD τ) arg30 fullShare d) ∗ (∃ d, owns (c : Thread nD τ) arg31 fullShare d) ∗ semVal ((c : Thread nD τ), SemLoc.dma 32) 0 ∗ hbPt0 c hbM0_0 fh0 ∗ (∃ W', owes (c : Thread nD τ) 0 W')) -∗ K ⟨⟩))
      ⊢ wp frame (wpE (defs₀ (F := F)) Variants.none c none) Set.univ (cc0_superbox_fused i (Memref.whole main_v2) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 cc0_scratch3) K := by
  simp only [cc0_superbox_fused_eq_skeleton]
  iintro ⟨H0, H1, H2, H3, H4, H5, H6, H7, H8, H9, H10, H11, H12, H13, H14, H15, H16, H17, H18, H19, H20, H21, H22, H23, H24, ⟨%D, HD⟩, ⟨%S0, HS⟩, ⟨%A0, HA⟩, ⟨%B0, HB⟩, Hq, Hh, HW, HK⟩
  rw [flat.eq, st1.eq]
  iapply (st1_spec c i arg29 harg29 arg30 arg31 harg30 harg31 fh0 W S0 A0 B0) $$ [HS HA HB Hq Hh HW]
  · isplitl [HS]; · iexact HS
    isplitl [HA]; · iexact HA
    isplitl [HB]; · iexact HB
    isplitl [Hq]; · iexact Hq
    isplitl [Hh]; · iexact Hh
    iexact HW
  iintro ⟨HS, HA, HB, Hq, Hh, HW⟩
  rw [slabOf_eq S0 (fun _ => pad0 (F := F))]
  rw [st2.eq]
  iapply (st2_spec c arg10 arg11 arg29 arg30 harg30 _ _ x7 x8) $$ [H7 H8 HS HA]
  · isplitl [H7]; · iexact H7
    isplitl [H8]; · iexact H8
    isplitl [HS]; · iexact HS
    iexact HA
  iintro ⟨H7, H8, HS, HA⟩
  rw [st3.eq]
  iapply (st3_spec c arg12 arg13 arg30 arg31 harg31 _ _ x9 x10) $$ [H9 H10 HA HB]
  · isplitl [H9]; · iexact H9
    isplitl [H10]; · iexact H10
    isplitl [HA]; · iexact HA
    iexact HB
  iintro ⟨H9, H10, HA, HB⟩
  rw [conv128_put (rim_rimmed _)]
  rw [st4.eq, st4_eq arg14 arg15 arg31 arg30 harg30]
  iapply (st3_spec c arg14 arg15 arg31 arg30 harg30 _ _ x11 x12) $$ [H11 H12 HB HA]
  · isplitl [H11]; · iexact H11
    isplitl [H12]; · iexact H12
    isplitl [HB]; · iexact HB
    iexact HA
  iintro ⟨H11, H12, HB, HA⟩
  rw [conv128_put (rim_rimmed _)]
  rw [st5.eq, st5_eq arg16 arg17 arg30 arg31 harg31]
  iapply (st3_spec c arg16 arg17 arg30 arg31 harg31 _ _ x13 x14) $$ [H13 H14 HA HB]
  · isplitl [H13]; · iexact H13
    isplitl [H14]; · iexact H14
    isplitl [HA]; · iexact HA
    iexact HB
  iintro ⟨H13, H14, HA, HB⟩
  rw [conv128_put (rim_put (rim_rimmed _) _ rfl _)]
  rw [st6.eq]
  iapply (st6_spec c arg18 arg19 arg31 arg30 harg30 _ _ x15 x16) $$ [H15 H16 HB HA]
  · isplitl [H15]; · iexact H15
    isplitl [H16]; · iexact H16
    isplitl [HB]; · iexact HB
    iexact HA
  iintro ⟨H15, H16, HB, HA⟩
  rw [convUp_put (rim_put (rim_rimmed _) _ rfl _)]
  rw [st7.eq]
  iapply (st7_spec c arg20 arg21 arg30 arg31 harg31 _ _ x17 x18) $$ [H17 H18 HA HB]
  · isplitl [H17]; · iexact H17
    isplitl [H18]; · iexact H18
    isplitl [HA]; · iexact HA
    iexact HB
  iintro ⟨H17, H18, HA, HB⟩
  rw [conv256_put (rim_put (rim_put (rim_rimmed _) _ rfl _) _ rfl _)]
  rw [st8.eq, st8_eq arg22 arg23 arg31 arg30 harg30]
  iapply (st7_spec c arg22 arg23 arg31 arg30 harg30 _ _ x19 x20) $$ [H19 H20 HB HA]
  · isplitl [H19]; · iexact H19
    isplitl [H20]; · iexact H20
    isplitl [HB]; · iexact HB
    iexact HA
  iintro ⟨H19, H20, HB, HA⟩
  rw [conv256_put (rim_put (rim_put (rim_rimmed _) _ rfl _) _ rfl _)]
  iapply (tail_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x21 x22 x23 x24 D _ (feat7 (copied c i fh0) x7 x8 x9 x10 x11 x12 x13 x14 x15 x16 x17 x18 x19 x20) (VecWindow.window_put_same _ _ _ _ _)) $$ [H0 H1 H2 H3 H4 H5 H6 H21 H22 H23 H24 HD HA]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H21]; · iexact H21
    isplitl [H22]; · iexact H22
    isplitl [H23]; · iexact H23
    isplitl [H24]; · iexact H24
    isplitl [HD]; · iexact HD
    iexact HA
  iintro ⟨H0, H1, H2, H3, H4, H5, H6, H21, H22, H23, H24, HD, HA⟩
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [HD]; · iexact HD
  isplitl [HS]; · iexists _; iexact HS
  isplitl [HA]; · iexists _; iexact HA
  isplitl [HB]; · iexists _; iexact HB
  isplitl [Hq]; · iexact Hq
  isplitl [Hh]; · iexact Hh
  iexact HW

set_option maxHeartbeats 4000000 in
/-- The whole body at a later strip. -/
theorem body_B (c : Dev nD) (i : grid0.Coords) (arg3 : Memref sig .tc .vmem S1x50x1 .i32) (harg3 : arg3.IsWhole) (arg4 : Memref sig .tc .vmem S1x50x1 .i32) (harg4 : arg4.IsWhole) (arg5 : Memref sig .tc .vmem S1x50x1 .i32) (harg5 : arg5.IsWhole) (arg6 : Memref sig .tc .vmem S1x50x1 .i32) (harg6 : arg6.IsWhole) (arg7 : Memref sig .tc .vmem S1x50x1 .f32) (harg7 : arg7.IsWhole) (arg8 : Memref sig .tc .vmem S1x8800 .i32) (harg8 : arg8.IsWhole) (arg9 : Memref sig .tc .vmem S1x8800 .i32) (harg9 : arg9.IsWhole) (arg10 : Memref sig .tc .vmem S9x64x128 .bf16) (harg10 : arg10.IsWhole) (arg11 : Memref sig .tc .vmem S1x128 .f32) (harg11 : arg11.IsWhole) (arg12 : Memref sig .tc .vmem S9x128x128 .bf16) (harg12 : arg12.IsWhole) (arg13 : Memref sig .tc .vmem S1x128 .f32) (harg13 : arg13.IsWhole) (arg14 : Memref sig .tc .vmem S9x128x128 .bf16) (harg14 : arg14.IsWhole) (arg15 : Memref sig .tc .vmem S1x128 .f32) (harg15 : arg15.IsWhole) (arg16 : Memref sig .tc .vmem S9x128x128 .bf16) (harg16 : arg16.IsWhole) (arg17 : Memref sig .tc .vmem S1x128 .f32) (harg17 : arg17.IsWhole) (arg18 : Memref sig .tc .vmem S9x128x256 .bf16) (harg18 : arg18.IsWhole) (arg19 : Memref sig .tc .vmem S1x256 .f32) (harg19 : arg19.IsWhole) (arg20 : Memref sig .tc .vmem S9x256x256 .bf16) (harg20 : arg20.IsWhole) (arg21 : Memref sig .tc .vmem S1x256 .f32) (harg21 : arg21.IsWhole) (arg22 : Memref sig .tc .vmem S9x256x256 .bf16) (harg22 : arg22.IsWhole) (arg23 : Memref sig .tc .vmem S1x256 .f32) (harg23 : arg23.IsWhole) (arg24 : Memref sig .tc .vmem S256x256 .bf16) (harg24 : arg24.IsWhole) (arg25 : Memref sig .tc .vmem S1x256 .f32) (harg25 : arg25.IsWhole) (arg26 : Memref sig .tc .vmem S256x256 .bf16) (harg26 : arg26.IsWhole) (arg27 : Memref sig .tc .vmem S1x256 .f32) (harg27 : arg27.IsWhole) (arg28 : Memref sig .tc .vmem S1x50x256 .f32) (harg28 : arg28.IsWhole) (arg29 : Memref sig .tc .vmem S104x104x64 .bf16) (harg29 : arg29.IsWhole) (arg30 : Memref sig .tc .vmem S10816x256 .bf16) (harg30 : arg30.IsWhole) (arg31 : Memref sig .tc .vmem S10816x256 .bf16) (harg31 : arg31.IsWhole) (hc0 : ¬cond0_0 i) (hc1 : cond0_1 i)
    (x0 : Vec F S1x50x1 .i32) (x1 : Vec F S1x50x1 .i32) (x2 : Vec F S1x50x1 .i32) (x3 : Vec F S1x50x1 .i32) (x4 : Vec F S1x50x1 .f32) (x5 : Vec F S1x8800 .i32) (x6 : Vec F S1x8800 .i32) (x7 : Vec F S9x64x128 .bf16) (x8 : Vec F S1x128 .f32) (x9 : Vec F S9x128x128 .bf16) (x10 : Vec F S1x128 .f32) (x11 : Vec F S9x128x128 .bf16) (x12 : Vec F S1x128 .f32) (x13 : Vec F S9x128x128 .bf16) (x14 : Vec F S1x128 .f32) (x15 : Vec F S9x128x256 .bf16) (x16 : Vec F S1x256 .f32) (x17 : Vec F S9x256x256 .bf16) (x18 : Vec F S1x256 .f32) (x19 : Vec F S9x256x256 .bf16) (x20 : Vec F S1x256 .f32) (x21 : Vec F S256x256 .bf16) (x22 : Vec F S1x256 .f32) (x23 : Vec F S256x256 .bf16) (x24 : Vec F S1x256 .f32) (fh0 : HbBuf0 (F := F) c hbM0_0) (D : Vec F S1x50x256 .f32) (W : Waits sig Unit) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare D ∗ (∃ d, owns (c : Thread nD τ) arg29 fullShare d) ∗ (∃ d, owns (c : Thread nD τ) arg30 fullShare d) ∗ (∃ d, owns (c : Thread nD τ) arg31 fullShare d) ∗ semVal ((c : Thread nD τ), SemLoc.dma 32) 0 ∗ hbPt0 c hbM0_0 fh0 ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare (outB c i x0 x1 x2 x3 x4 x5 x6 x7 x8 x9 x10 x11 x12 x13 x14 x15 x16 x17 x18 x19 x20 x21 x22 x23 x24 fh0 D) ∗ (∃ d, owns (c : Thread nD τ) arg29 fullShare d) ∗ (∃ d, owns (c : Thread nD τ) arg30 fullShare d) ∗ (∃ d, owns (c : Thread nD τ) arg31 fullShare d) ∗ semVal ((c : Thread nD τ), SemLoc.dma 32) 0 ∗ hbPt0 c hbM0_0 fh0 ∗ (∃ W', owes (c : Thread nD τ) 0 W')) -∗ K ⟨⟩))
      ⊢ wp frame (wpE (defs₀ (F := F)) Variants.none c none) Set.univ (cc0_superbox_fused i (Memref.whole main_v2) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 cc0_scratch3) K := by
  simp only [cc0_superbox_fused_eq_skeleton]
  iintro ⟨H0, H1, H2, H3, H4, H5, H6, H7, H8, H9, H10, H11, H12, H13, H14, H15, H16, H17, H18, H19, H20, H21, H22, H23, H24, HD, ⟨%S0, HS⟩, ⟨%A0, HA⟩, ⟨%B0, HB⟩, Hq, Hh, HW, HK⟩
  rw [flat.eq, st1.eq]
  iapply (st1_spec c i arg29 harg29 arg30 arg31 harg30 harg31 fh0 W S0 A0 B0) $$ [HS HA HB Hq Hh HW]
  · isplitl [HS]; · iexact HS
    isplitl [HA]; · iexact HA
    isplitl [HB]; · iexact HB
    isplitl [Hq]; · iexact Hq
    isplitl [Hh]; · iexact Hh
    iexact HW
  iintro ⟨HS, HA, HB, Hq, Hh, HW⟩
  rw [slabOf_eq S0 (fun _ => pad0 (F := F))]
  rw [st2.eq]
  iapply (st2_spec c arg10 arg11 arg29 arg30 harg30 _ _ x7 x8) $$ [H7 H8 HS HA]
  · isplitl [H7]; · iexact H7
    isplitl [H8]; · iexact H8
    isplitl [HS]; · iexact HS
    iexact HA
  iintro ⟨H7, H8, HS, HA⟩
  rw [st3.eq]
  iapply (st3_spec c arg12 arg13 arg30 arg31 harg31 _ _ x9 x10) $$ [H9 H10 HA HB]
  · isplitl [H9]; · iexact H9
    isplitl [H10]; · iexact H10
    isplitl [HA]; · iexact HA
    iexact HB
  iintro ⟨H9, H10, HA, HB⟩
  rw [conv128_put (rim_rimmed _)]
  rw [st4.eq, st4_eq arg14 arg15 arg31 arg30 harg30]
  iapply (st3_spec c arg14 arg15 arg31 arg30 harg30 _ _ x11 x12) $$ [H11 H12 HB HA]
  · isplitl [H11]; · iexact H11
    isplitl [H12]; · iexact H12
    isplitl [HB]; · iexact HB
    iexact HA
  iintro ⟨H11, H12, HB, HA⟩
  rw [conv128_put (rim_rimmed _)]
  rw [st5.eq, st5_eq arg16 arg17 arg30 arg31 harg31]
  iapply (st3_spec c arg16 arg17 arg30 arg31 harg31 _ _ x13 x14) $$ [H13 H14 HA HB]
  · isplitl [H13]; · iexact H13
    isplitl [H14]; · iexact H14
    isplitl [HA]; · iexact HA
    iexact HB
  iintro ⟨H13, H14, HA, HB⟩
  rw [conv128_put (rim_put (rim_rimmed _) _ rfl _)]
  rw [st6.eq]
  iapply (st6_spec c arg18 arg19 arg31 arg30 harg30 _ _ x15 x16) $$ [H15 H16 HB HA]
  · isplitl [H15]; · iexact H15
    isplitl [H16]; · iexact H16
    isplitl [HB]; · iexact HB
    iexact HA
  iintro ⟨H15, H16, HB, HA⟩
  rw [convUp_put (rim_put (rim_rimmed _) _ rfl _)]
  rw [st7.eq]
  iapply (st7_spec c arg20 arg21 arg30 arg31 harg31 _ _ x17 x18) $$ [H17 H18 HA HB]
  · isplitl [H17]; · iexact H17
    isplitl [H18]; · iexact H18
    isplitl [HA]; · iexact HA
    iexact HB
  iintro ⟨H17, H18, HA, HB⟩
  rw [conv256_put (rim_put (rim_put (rim_rimmed _) _ rfl _) _ rfl _)]
  rw [st8.eq, st8_eq arg22 arg23 arg31 arg30 harg30]
  iapply (st7_spec c arg22 arg23 arg31 arg30 harg30 _ _ x19 x20) $$ [H19 H20 HB HA]
  · isplitl [H19]; · iexact H19
    isplitl [H20]; · iexact H20
    isplitl [HB]; · iexact HB
    iexact HA
  iintro ⟨H19, H20, HB, HA⟩
  rw [conv256_put (rim_put (rim_put (rim_rimmed _) _ rfl _) _ rfl _)]
  iapply (tail_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x21 x22 x23 x24 D _ (feat7 (copied c i fh0) x7 x8 x9 x10 x11 x12 x13 x14 x15 x16 x17 x18 x19 x20) (VecWindow.window_put_same _ _ _ _ _)) $$ [H0 H1 H2 H3 H4 H5 H6 H21 H22 H23 H24 HD HA]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H21]; · iexact H21
    isplitl [H22]; · iexact H22
    isplitl [H23]; · iexact H23
    isplitl [H24]; · iexact H24
    isplitl [HD]; · iexact HD
    iexact HA
  iintro ⟨H0, H1, H2, H3, H4, H5, H6, H21, H22, H23, H24, HD, HA⟩
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [HD]; · iexact HD
  isplitl [HS]; · iexists _; iexact HS
  isplitl [HA]; · iexists _; iexact HA
  isplitl [HB]; · iexists _; iexact HB
  isplitl [Hq]; · iexact Hq
  isplitl [Hh]; · iexact Hh
  iexact HW

end Cert.KernelIdeal.Gen

end
-- ==== Proof.KIFrame.lean ====
/-
  The pipeline's run: what the output's buffer holds after each point (the agent's sums, strip by strip), the
  proof data, the body's obligation from the two body triples, the launch and the frame.
-/
module

public import proofs.«01_k».proof.Proof.KIBody
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the first strip of an agent stores, at point `t`. -/
def firstAt (c : Dev nD) (t : Fin cfg0.N) : Vec F S1x50x256 .f32 :=
  outA c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (V m c main_v2)

/-- What a later strip stores over `D`, at point `t`. -/
def nextAt (c : Dev nD) (t : Fin cfg0.N) (D : Vec F S1x50x256 .f32) : Vec F S1x50x256 .f32 :=
  outB c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (V m c main_v2) D

/-- The output's buffer after the body at position `n`. -/
def heldAt (c : Dev nD) : (n : ℕ) → n < cfg0.N → Vec F S1x50x256 .f32
  | 0, hn => firstAt m c ⟨0, hn⟩
  | n + 1, hn => if (n + 1) % 4 = 0 then firstAt m c ⟨n + 1, hn⟩ else nextAt m c ⟨n + 1, hn⟩ (heldAt c n (Nat.lt_of_succ_lt hn))

theorem heldAt_first (c : Dev nD) (t : Fin cfg0.N) (h0 : t.val % 4 = 0) : heldAt m c t.val t.isLt = firstAt m c t := by
  obtain ⟨n, hn⟩ := t
  cases n with
  | zero => rfl
  | succ n => exact if_pos h0

theorem heldAt_next (c : Dev nD) (t : Fin cfg0.N) (h0 : ¬t.val % 4 = 0) :
    heldAt m c t.val t.isLt = nextAt m c t (heldAt m c (t.val - 1) (Nat.lt_of_le_of_lt (Nat.sub_le _ _) t.isLt)) := by
  obtain ⟨n, hn⟩ := t
  cases n with
  | zero => exact absurd (Nat.zero_mod _) h0
  | succ n => exact if_neg h0

/-- The proof data: the arrays as the region finds them, each input's buffer at its block, the output's at `heldAt`. -/
def pdat (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => heldAt m c t.val t.isLt
    | ⟨_ + 26, h⟩ => absurd h (Nat.not_lt.2 (Nat.le_add_left _ _))
  Φ _ := Pipeline.ΦD osem0 spec0 H0 (V m) c
  q _ := fullShare
  owed _ := 0

theorem pdat_A (c : Dev nD) (w : Fin cfg0.W) : (pdat m 0 c).A w = V m c (Pipeline.arrRef spec0 w) := by
  dsimp only [pdat]

theorem after_0 (c : Dev nD) (t : Fin cfg0.N) : (pdat m 0 c).after 0 t = iblk m c 0 t := by dsimp only [pdat]
theorem after_1 (c : Dev nD) (t : Fin cfg0.N) : (pdat m 0 c).after 1 t = iblk m c 1 t := by dsimp only [pdat]
theorem after_2 (c : Dev nD) (t : Fin cfg0.N) : (pdat m 0 c).after 2 t = iblk m c 2 t := by dsimp only [pdat]
theorem after_3 (c : Dev nD) (t : Fin cfg0.N) : (pdat m 0 c).after 3 t = iblk m c 3 t := by dsimp only [pdat]
theorem after_4 (c : Dev nD) (t : Fin cfg0.N) : (pdat m 0 c).after 4 t = iblk m c 4 t := by dsimp only [pdat]
theorem after_5 (c : Dev nD) (t : Fin cfg0.N) : (pdat m 0 c).after 5 t = iblk m c 5 t := by dsimp only [pdat]
theorem after_6 (c : Dev nD) (t : Fin cfg0.N) : (pdat m 0 c).after 6 t = iblk m c 6 t := by dsimp only [pdat]
theorem after_7 (c : Dev nD) (t : Fin cfg0.N) : (pdat m 0 c).after 7 t = iblk m c 7 t := by dsimp only [pdat]
theorem after_8 (c : Dev nD) (t : Fin cfg0.N) : (pdat m 0 c).after 8 t = iblk m c 8 t := by dsimp only [pdat]
theorem after_9 (c : Dev nD) (t : Fin cfg0.N) : (pdat m 0 c).after 9 t = iblk m c 9 t := by dsimp only [pdat]
theorem after_10 (c : Dev nD) (t : Fin cfg0.N) : (pdat m 0 c).after 10 t = iblk m c 10 t := by dsimp only [pdat]
theorem after_11 (c : Dev nD) (t : Fin cfg0.N) : (pdat m 0 c).after 11 t = iblk m c 11 t := by dsimp only [pdat]
theorem after_12 (c : Dev nD) (t : Fin cfg0.N) : (pdat m 0 c).after 12 t = iblk m c 12 t := by dsimp only [pdat]
theorem after_13 (c : Dev nD) (t : Fin cfg0.N) : (pdat m 0 c).after 13 t = iblk m c 13 t := by dsimp only [pdat]
theorem after_14 (c : Dev nD) (t : Fin cfg0.N) : (pdat m 0 c).after 14 t = iblk m c 14 t := by dsimp only [pdat]
theorem after_15 (c : Dev nD) (t : Fin cfg0.N) : (pdat m 0 c).after 15 t = iblk m c 15 t := by dsimp only [pdat]
theorem after_16 (c : Dev nD) (t : Fin cfg0.N) : (pdat m 0 c).after 16 t = iblk m c 16 t := by dsimp only [pdat]
theorem after_17 (c : Dev nD) (t : Fin cfg0.N) : (pdat m 0 c).after 17 t = iblk m c 17 t := by dsimp only [pdat]
theorem after_18 (c : Dev nD) (t : Fin cfg0.N) : (pdat m 0 c).after 18 t = iblk m c 18 t := by dsimp only [pdat]
theorem after_19 (c : Dev nD) (t : Fin cfg0.N) : (pdat m 0 c).after 19 t = iblk m c 19 t := by dsimp only [pdat]
theorem after_20 (c : Dev nD) (t : Fin cfg0.N) : (pdat m 0 c).after 20 t = iblk m c 20 t := by dsimp only [pdat]
theorem after_21 (c : Dev nD) (t : Fin cfg0.N) : (pdat m 0 c).after 21 t = iblk m c 21 t := by dsimp only [pdat]
theorem after_22 (c : Dev nD) (t : Fin cfg0.N) : (pdat m 0 c).after 22 t = iblk m c 22 t := by dsimp only [pdat]
theorem after_23 (c : Dev nD) (t : Fin cfg0.N) : (pdat m 0 c).after 23 t = iblk m c 23 t := by dsimp only [pdat]
theorem after_24 (c : Dev nD) (t : Fin cfg0.N) : (pdat m 0 c).after 24 t = iblk m c 24 t := by dsimp only [pdat]
theorem after_25 (c : Dev nD) (t : Fin cfg0.N) : (pdat m 0 c).after 25 t = heldAt m c t.val t.isLt := by dsimp only [pdat]

theorem before_0 (c : Dev nD) (t : Fin cfg0.N) (d) : (pdat m 0 c).before 0 t d = iblk m c 0 t :=
  before0_0_of m (pdat m 0 c) (pdat_A m c 0) (after_0 m c) t d
theorem before_1 (c : Dev nD) (t : Fin cfg0.N) (d) : (pdat m 0 c).before 1 t d = iblk m c 1 t :=
  before0_1_of m (pdat m 0 c) (pdat_A m c 1) (after_1 m c) t d
theorem before_2 (c : Dev nD) (t : Fin cfg0.N) (d) : (pdat m 0 c).before 2 t d = iblk m c 2 t :=
  before0_2_of m (pdat m 0 c) (pdat_A m c 2) (after_2 m c) t d
theorem before_3 (c : Dev nD) (t : Fin cfg0.N) (d) : (pdat m 0 c).before 3 t d = iblk m c 3 t :=
  before0_3_of m (pdat m 0 c) (pdat_A m c 3) (after_3 m c) t d
theorem before_4 (c : Dev nD) (t : Fin cfg0.N) (d) : (pdat m 0 c).before 4 t d = iblk m c 4 t :=
  before0_4_of m (pdat m 0 c) (pdat_A m c 4) (after_4 m c) t d
theorem before_5 (c : Dev nD) (t : Fin cfg0.N) (d) : (pdat m 0 c).before 5 t d = iblk m c 5 t :=
  before0_5_of m (pdat m 0 c) (pdat_A m c 5) (after_5 m c) t d
theorem before_6 (c : Dev nD) (t : Fin cfg0.N) (d) : (pdat m 0 c).before 6 t d = iblk m c 6 t :=
  before0_6_of m (pdat m 0 c) (pdat_A m c 6) (after_6 m c) t d
theorem before_7 (c : Dev nD) (t : Fin cfg0.N) (d) : (pdat m 0 c).before 7 t d = iblk m c 7 t :=
  before0_7_of m (pdat m 0 c) (pdat_A m c 7) (after_7 m c) t d
theorem before_8 (c : Dev nD) (t : Fin cfg0.N) (d) : (pdat m 0 c).before 8 t d = iblk m c 8 t :=
  before0_8_of m (pdat m 0 c) (pdat_A m c 8) (after_8 m c) t d
theorem before_9 (c : Dev nD) (t : Fin cfg0.N) (d) : (pdat m 0 c).before 9 t d = iblk m c 9 t :=
  before0_9_of m (pdat m 0 c) (pdat_A m c 9) (after_9 m c) t d
theorem before_10 (c : Dev nD) (t : Fin cfg0.N) (d) : (pdat m 0 c).before 10 t d = iblk m c 10 t :=
  before0_10_of m (pdat m 0 c) (pdat_A m c 10) (after_10 m c) t d
theorem before_11 (c : Dev nD) (t : Fin cfg0.N) (d) : (pdat m 0 c).before 11 t d = iblk m c 11 t :=
  before0_11_of m (pdat m 0 c) (pdat_A m c 11) (after_11 m c) t d
theorem before_12 (c : Dev nD) (t : Fin cfg0.N) (d) : (pdat m 0 c).before 12 t d = iblk m c 12 t :=
  before0_12_of m (pdat m 0 c) (pdat_A m c 12) (after_12 m c) t d
theorem before_13 (c : Dev nD) (t : Fin cfg0.N) (d) : (pdat m 0 c).before 13 t d = iblk m c 13 t :=
  before0_13_of m (pdat m 0 c) (pdat_A m c 13) (after_13 m c) t d
theorem before_14 (c : Dev nD) (t : Fin cfg0.N) (d) : (pdat m 0 c).before 14 t d = iblk m c 14 t :=
  before0_14_of m (pdat m 0 c) (pdat_A m c 14) (after_14 m c) t d
theorem before_15 (c : Dev nD) (t : Fin cfg0.N) (d) : (pdat m 0 c).before 15 t d = iblk m c 15 t :=
  before0_15_of m (pdat m 0 c) (pdat_A m c 15) (after_15 m c) t d
theorem before_16 (c : Dev nD) (t : Fin cfg0.N) (d) : (pdat m 0 c).before 16 t d = iblk m c 16 t :=
  before0_16_of m (pdat m 0 c) (pdat_A m c 16) (after_16 m c) t d
theorem before_17 (c : Dev nD) (t : Fin cfg0.N) (d) : (pdat m 0 c).before 17 t d = iblk m c 17 t :=
  before0_17_of m (pdat m 0 c) (pdat_A m c 17) (after_17 m c) t d
theorem before_18 (c : Dev nD) (t : Fin cfg0.N) (d) : (pdat m 0 c).before 18 t d = iblk m c 18 t :=
  before0_18_of m (pdat m 0 c) (pdat_A m c 18) (after_18 m c) t d
theorem before_19 (c : Dev nD) (t : Fin cfg0.N) (d) : (pdat m 0 c).before 19 t d = iblk m c 19 t :=
  before0_19_of m (pdat m 0 c) (pdat_A m c 19) (after_19 m c) t d
theorem before_20 (c : Dev nD) (t : Fin cfg0.N) (d) : (pdat m 0 c).before 20 t d = iblk m c 20 t :=
  before0_20_of m (pdat m 0 c) (pdat_A m c 20) (after_20 m c) t d
theorem before_21 (c : Dev nD) (t : Fin cfg0.N) (d) : (pdat m 0 c).before 21 t d = iblk m c 21 t :=
  before0_21_of m (pdat m 0 c) (pdat_A m c 21) (after_21 m c) t d
theorem before_22 (c : Dev nD) (t : Fin cfg0.N) (d) : (pdat m 0 c).before 22 t d = iblk m c 22 t :=
  before0_22_of m (pdat m 0 c) (pdat_A m c 22) (after_22 m c) t d
theorem before_23 (c : Dev nD) (t : Fin cfg0.N) (d) : (pdat m 0 c).before 23 t d = iblk m c 23 t :=
  before0_23_of m (pdat m 0 c) (pdat_A m c 23) (after_23 m c) t d
theorem before_24 (c : Dev nD) (t : Fin cfg0.N) (d) : (pdat m 0 c).before 24 t d = iblk m c 24 t :=
  before0_24_of m (pdat m 0 c) (pdat_A m c 24) (after_24 m c) t d

theorem leaves_0 (c : Dev nD) (t : Fin cfg0.N) : (pdat m 0 c).leavesExact 0 t = owns (c : Thread nD τ) (ms0_0 t) fullShare (iblk m c 0 t) := by
  unfold Dat.leavesExact; rw [liveAt0_0 t, after_0]
theorem leaves_1 (c : Dev nD) (t : Fin cfg0.N) : (pdat m 0 c).leavesExact 1 t = owns (c : Thread nD τ) (ms0_1 t) fullShare (iblk m c 1 t) := by
  unfold Dat.leavesExact; rw [liveAt0_1 t, after_1]
theorem leaves_2 (c : Dev nD) (t : Fin cfg0.N) : (pdat m 0 c).leavesExact 2 t = owns (c : Thread nD τ) (ms0_2 t) fullShare (iblk m c 2 t) := by
  unfold Dat.leavesExact; rw [liveAt0_2 t, after_2]
theorem leaves_3 (c : Dev nD) (t : Fin cfg0.N) : (pdat m 0 c).leavesExact 3 t = owns (c : Thread nD τ) (ms0_3 t) fullShare (iblk m c 3 t) := by
  unfold Dat.leavesExact; rw [liveAt0_3 t, after_3]
theorem leaves_4 (c : Dev nD) (t : Fin cfg0.N) : (pdat m 0 c).leavesExact 4 t = owns (c : Thread nD τ) (ms0_4 t) fullShare (iblk m c 4 t) := by
  unfold Dat.leavesExact; rw [liveAt0_4 t, after_4]
theorem leaves_5 (c : Dev nD) (t : Fin cfg0.N) : (pdat m 0 c).leavesExact 5 t = owns (c : Thread nD τ) (ms0_5 t) fullShare (iblk m c 5 t) := by
  unfold Dat.leavesExact; rw [liveAt0_5 t, after_5]
theorem leaves_6 (c : Dev nD) (t : Fin cfg0.N) : (pdat m 0 c).leavesExact 6 t = owns (c : Thread nD τ) (ms0_6 t) fullShare (iblk m c 6 t) := by
  unfold Dat.leavesExact; rw [liveAt0_6 t, after_6]
theorem leaves_7 (c : Dev nD) (t : Fin cfg0.N) : (pdat m 0 c).leavesExact 7 t = owns (c : Thread nD τ) (ms0_7 t) fullShare (iblk m c 7 t) := by
  unfold Dat.leavesExact; rw [liveAt0_7 t, after_7]
theorem leaves_8 (c : Dev nD) (t : Fin cfg0.N) : (pdat m 0 c).leavesExact 8 t = owns (c : Thread nD τ) (ms0_8 t) fullShare (iblk m c 8 t) := by
  unfold Dat.leavesExact; rw [liveAt0_8 t, after_8]
theorem leaves_9 (c : Dev nD) (t : Fin cfg0.N) : (pdat m 0 c).leavesExact 9 t = owns (c : Thread nD τ) (ms0_9 t) fullShare (iblk m c 9 t) := by
  unfold Dat.leavesExact; rw [liveAt0_9 t, after_9]
theorem leaves_10 (c : Dev nD) (t : Fin cfg0.N) : (pdat m 0 c).leavesExact 10 t = owns (c : Thread nD τ) (ms0_10 t) fullShare (iblk m c 10 t) := by
  unfold Dat.leavesExact; rw [liveAt0_10 t, after_10]
theorem leaves_11 (c : Dev nD) (t : Fin cfg0.N) : (pdat m 0 c).leavesExact 11 t = owns (c : Thread nD τ) (ms0_11 t) fullShare (iblk m c 11 t) := by
  unfold Dat.leavesExact; rw [liveAt0_11 t, after_11]
theorem leaves_12 (c : Dev nD) (t : Fin cfg0.N) : (pdat m 0 c).leavesExact 12 t = owns (c : Thread nD τ) (ms0_12 t) fullShare (iblk m c 12 t) := by
  unfold Dat.leavesExact; rw [liveAt0_12 t, after_12]
theorem leaves_13 (c : Dev nD) (t : Fin cfg0.N) : (pdat m 0 c).leavesExact 13 t = owns (c : Thread nD τ) (ms0_13 t) fullShare (iblk m c 13 t) := by
  unfold Dat.leavesExact; rw [liveAt0_13 t, after_13]
theorem leaves_14 (c : Dev nD) (t : Fin cfg0.N) : (pdat m 0 c).leavesExact 14 t = owns (c : Thread nD τ) (ms0_14 t) fullShare (iblk m c 14 t) := by
  unfold Dat.leavesExact; rw [liveAt0_14 t, after_14]
theorem leaves_15 (c : Dev nD) (t : Fin cfg0.N) : (pdat m 0 c).leavesExact 15 t = owns (c : Thread nD τ) (ms0_15 t) fullShare (iblk m c 15 t) := by
  unfold Dat.leavesExact; rw [liveAt0_15 t, after_15]
theorem leaves_16 (c : Dev nD) (t : Fin cfg0.N) : (pdat m 0 c).leavesExact 16 t = owns (c : Thread nD τ) (ms0_16 t) fullShare (iblk m c 16 t) := by
  unfold Dat.leavesExact; rw [liveAt0_16 t, after_16]
theorem leaves_17 (c : Dev nD) (t : Fin cfg0.N) : (pdat m 0 c).leavesExact 17 t = owns (c : Thread nD τ) (ms0_17 t) fullShare (iblk m c 17 t) := by
  unfold Dat.leavesExact; rw [liveAt0_17 t, after_17]
theorem leaves_18 (c : Dev nD) (t : Fin cfg0.N) : (pdat m 0 c).leavesExact 18 t = owns (c : Thread nD τ) (ms0_18 t) fullShare (iblk m c 18 t) := by
  unfold Dat.leavesExact; rw [liveAt0_18 t, after_18]
theorem leaves_19 (c : Dev nD) (t : Fin cfg0.N) : (pdat m 0 c).leavesExact 19 t = owns (c : Thread nD τ) (ms0_19 t) fullShare (iblk m c 19 t) := by
  unfold Dat.leavesExact; rw [liveAt0_19 t, after_19]
theorem leaves_20 (c : Dev nD) (t : Fin cfg0.N) : (pdat m 0 c).leavesExact 20 t = owns (c : Thread nD τ) (ms0_20 t) fullShare (iblk m c 20 t) := by
  unfold Dat.leavesExact; rw [liveAt0_20 t, after_20]
theorem leaves_21 (c : Dev nD) (t : Fin cfg0.N) : (pdat m 0 c).leavesExact 21 t = owns (c : Thread nD τ) (ms0_21 t) fullShare (iblk m c 21 t) := by
  unfold Dat.leavesExact; rw [liveAt0_21 t, after_21]
theorem leaves_22 (c : Dev nD) (t : Fin cfg0.N) : (pdat m 0 c).leavesExact 22 t = owns (c : Thread nD τ) (ms0_22 t) fullShare (iblk m c 22 t) := by
  unfold Dat.leavesExact; rw [liveAt0_22 t, after_22]
theorem leaves_23 (c : Dev nD) (t : Fin cfg0.N) : (pdat m 0 c).leavesExact 23 t = owns (c : Thread nD τ) (ms0_23 t) fullShare (iblk m c 23 t) := by
  unfold Dat.leavesExact; rw [liveAt0_23 t, after_23]
theorem leaves_24 (c : Dev nD) (t : Fin cfg0.N) : (pdat m 0 c).leavesExact 24 t = owns (c : Thread nD τ) (ms0_24 t) fullShare (iblk m c 24 t) := by
  unfold Dat.leavesExact; rw [liveAt0_24 t, after_24]

/-- The output's window is stored into at every point. -/
theorem live_25 (t : Fin cfg0.N) : cfg0.idle 25 (grid0.coords t) = false := by
  by_cases h0 : t.val % 4 = 0
  · exact liveAt0_25_A t ((hcond0_0 t).mpr h0) (fun h => by have := (hcond0_1 t).mp h; omega)
  · exact liveAt0_25_B t (fun h => h0 ((hcond0_0 t).mp h)) ((hcond0_1 t).mpr (by omega))

theorem leaves_25 (c : Dev nD) (t : Fin cfg0.N) : (pdat m 0 c).leavesExact 25 t = owns (c : Thread nD τ) (ms0_25 t) fullShare (heldAt m c t.val t.isLt) := by
  unfold Dat.leavesExact; rw [live_25 t, after_25]

/-- At a later strip the output's buffer holds what the strip before left. -/
theorem before_25 (c : Dev nD) (t : Fin cfg0.N) (h0 : ¬t.val % 4 = 0) (d) :
    (pdat m 0 c).before 25 t d = heldAt m c (t.val - 1) (Nat.lt_of_le_of_lt (Nat.sub_le _ _) t.isLt) := by
  rw [Dat.before_out_traj _ 25 rfl (fun _ _ => rfl) (fun t _ hi _ => absurd hi (by rw [live_25 t]; exact Bool.false_ne_true)) t.val t rfl d,
    if_neg (by rw [notFresh0_25_B t (fun h => h0 ((hcond0_0 t).mp h)) ((hcond0_1 t).mpr (by omega))]; exact Bool.false_ne_true)]
  dsimp only [pdat]

/-- What the body is called with at point `t`, the windows one by one. -/
def pointPre (c : Dev nD) (t : Fin cfg0.N) : sProp 𝕄 :=
  iprop((pdat m 0 c).Φ t.castSucc ∗ (pdat m 0 c).owesAt () t.castSucc
    ∗ (∃ d, owns (c : Thread nD τ) (ms0_0 t) fullShare ((pdat m 0 c).before 0 t d))
    ∗ (∃ d, owns (c : Thread nD τ) (ms0_1 t) fullShare ((pdat m 0 c).before 1 t d))
    ∗ (∃ d, owns (c : Thread nD τ) (ms0_2 t) fullShare ((pdat m 0 c).before 2 t d))
    ∗ (∃ d, owns (c : Thread nD τ) (ms0_3 t) fullShare ((pdat m 0 c).before 3 t d))
    ∗ (∃ d, owns (c : Thread nD τ) (ms0_4 t) fullShare ((pdat m 0 c).before 4 t d))
    ∗ (∃ d, owns (c : Thread nD τ) (ms0_5 t) fullShare ((pdat m 0 c).before 5 t d))
    ∗ (∃ d, owns (c : Thread nD τ) (ms0_6 t) fullShare ((pdat m 0 c).before 6 t d))
    ∗ (∃ d, owns (c : Thread nD τ) (ms0_7 t) fullShare ((pdat m 0 c).before 7 t d))
    ∗ (∃ d, owns (c : Thread nD τ) (ms0_8 t) fullShare ((pdat m 0 c).before 8 t d))
    ∗ (∃ d, owns (c : Thread nD τ) (ms0_9 t) fullShare ((pdat m 0 c).before 9 t d))
    ∗ (∃ d, owns (c : Thread nD τ) (ms0_10 t) fullShare ((pdat m 0 c).before 10 t d))
    ∗ (∃ d, owns (c : Thread nD τ) (ms0_11 t) fullShare ((pdat m 0 c).before 11 t d))
    ∗ (∃ d, owns (c : Thread nD τ) (ms0_12 t) fullShare ((pdat m 0 c).before 12 t d))
    ∗ (∃ d, owns (c : Thread nD τ) (ms0_13 t) fullShare ((pdat m 0 c).before 13 t d))
    ∗ (∃ d, owns (c : Thread nD τ) (ms0_14 t) fullShare ((pdat m 0 c).before 14 t d))
    ∗ (∃ d, owns (c : Thread nD τ) (ms0_15 t) fullShare ((pdat m 0 c).before 15 t d))
    ∗ (∃ d, owns (c : Thread nD τ) (ms0_16 t) fullShare ((pdat m 0 c).before 16 t d))
    ∗ (∃ d, owns (c : Thread nD τ) (ms0_17 t) fullShare ((pdat m 0 c).before 17 t d))
    ∗ (∃ d, owns (c : Thread nD τ) (ms0_18 t) fullShare ((pdat m 0 c).before 18 t d))
    ∗ (∃ d, owns (c : Thread nD τ) (ms0_19 t) fullShare ((pdat m 0 c).before 19 t d))
    ∗ (∃ d, owns (c : Thread nD τ) (ms0_20 t) fullShare ((pdat m 0 c).before 20 t d))
    ∗ (∃ d, owns (c : Thread nD τ) (ms0_21 t) fullShare ((pdat m 0 c).before 21 t d))
    ∗ (∃ d, owns (c : Thread nD τ) (ms0_22 t) fullShare ((pdat m 0 c).before 22 t d))
    ∗ (∃ d, owns (c : Thread nD τ) (ms0_23 t) fullShare ((pdat m 0 c).before 23 t d))
    ∗ (∃ d, owns (c : Thread nD τ) (ms0_24 t) fullShare ((pdat m 0 c).before 24 t d))
    ∗ (∃ d, owns (c : Thread nD τ) (ms0_25 t) fullShare ((pdat m 0 c).before 25 t d)))

/-- What it returns. -/
def pointPost (c : Dev nD) (t : Fin cfg0.N) : sProp 𝕄 :=
  iprop((pdat m 0 c).Φ t.succ ∗ (pdat m 0 c).owesAt () t.succ
    ∗ (pdat m 0 c).leavesExact 0 t
    ∗ (pdat m 0 c).leavesExact 1 t
    ∗ (pdat m 0 c).leavesExact 2 t
    ∗ (pdat m 0 c).leavesExact 3 t
    ∗ (pdat m 0 c).leavesExact 4 t
    ∗ (pdat m 0 c).leavesExact 5 t
    ∗ (pdat m 0 c).leavesExact 6 t
    ∗ (pdat m 0 c).leavesExact 7 t
    ∗ (pdat m 0 c).leavesExact 8 t
    ∗ (pdat m 0 c).leavesExact 9 t
    ∗ (pdat m 0 c).leavesExact 10 t
    ∗ (pdat m 0 c).leavesExact 11 t
    ∗ (pdat m 0 c).leavesExact 12 t
    ∗ (pdat m 0 c).leavesExact 13 t
    ∗ (pdat m 0 c).leavesExact 14 t
    ∗ (pdat m 0 c).leavesExact 15 t
    ∗ (pdat m 0 c).leavesExact 16 t
    ∗ (pdat m 0 c).leavesExact 17 t
    ∗ (pdat m 0 c).leavesExact 18 t
    ∗ (pdat m 0 c).leavesExact 19 t
    ∗ (pdat m 0 c).leavesExact 20 t
    ∗ (pdat m 0 c).leavesExact 21 t
    ∗ (pdat m 0 c).leavesExact 22 t
    ∗ (pdat m 0 c).leavesExact 23 t
    ∗ (pdat m 0 c).leavesExact 24 t
    ∗ (pdat m 0 c).leavesExact 25 t)

set_option maxHeartbeats 5600000 in
/-- The body at any point, from the two body triples. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2, before_3, before_4, before_5, before_6, before_7, before_8, before_9, before_10, before_11, before_12, before_13, before_14, before_15, before_16, before_17, before_18, before_19, before_20, before_21, before_22, before_23, before_24]
  rw [show (pdat m 0 c).Φ t.succ = (pdat m 0 c).Φ t.castSucc from rfl]
  rw [show (pdat m 0 c).Φ t.castSucc = Pipeline.ΦD osem0 spec0 H0 (V m) c from rfl, PhiD0_eq]
  unfold Dat.owesAt Pipeline.owesWithin
  rw [show (pdat m 0 c).owed t.castSucc = 0 from rfl, show (pdat m 0 c).owed t.succ = 0 from rfl]
  rw [leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23, leaves_24, leaves_25]
  by_cases h0 : t.val % 4 = 0
  · rw [heldAt_first m c t h0]
    iintro ⟨⟨⟨HS0, HS1, HS2⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply (body_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => by have := (hcond0_1 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (V m c main_v2) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexists _; iexact H25
    isplitl [HS0]; · iexact HS0
    isplitl [HS1]; · iexact HS1
    isplitl [HS2]; · iexact HS2
    isplitl [Hq]; · iexact Hq
    isplitl [Hh]; · iexact Hh
    isplitl [HW]; · iexact HW
    iintro ⟨H0, H1, H2, H3, H4, H5, H6, H7, H8, H9, H10, H11, H12, H13, H14, H15, H16, H17, H18, H19, H20, H21, H22, H23, H24, H25, HS0, HS1, HS2, Hq, Hh, ⟨%W', HW'⟩⟩
    isplitl [HS0 HS1 HS2 Hg Hq Hh]
    · isplitl [HS0 HS1 HS2]
      · isplitl [HS0]; · iexact HS0
        isplitl [HS1]; · iexact HS1
        iexact HS2
      isplitl [Hg]; · iexact Hg
      isplitl [Hq]; · iexact Hq
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  · simp only [before_25 m c t h0]
    rw [heldAt_next m c t h0]
    iintro ⟨⟨⟨HS0, HS1, HS2⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply (body_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (V m c main_v2) (heldAt m c (t.val - 1) (Nat.lt_of_le_of_lt (Nat.sub_le _ _) t.isLt)) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [HS0]; · iexact HS0
    isplitl [HS1]; · iexact HS1
    isplitl [HS2]; · iexact HS2
    isplitl [Hq]; · iexact Hq
    isplitl [Hh]; · iexact Hh
    isplitl [HW]; · iexact HW
    iintro ⟨H0, H1, H2, H3, H4, H5, H6, H7, H8, H9, H10, H11, H12, H13, H14, H15, H16, H17, H18, H19, H20, H21, H22, H23, H24, H25, HS0, HS1, HS2, Hq, Hh, ⟨%W', HW'⟩⟩
    isplitl [HS0 HS1 HS2 Hg Hq Hh]
    · isplitl [HS0 HS1 HS2]
      · isplitl [HS0]; · iexact HS0
        isplitl [HS1]; · iexact HS1
        iexact HS2
      isplitl [Hg]; · iexact Hg
      isplitl [Hq]; · iexact Hq
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

theorem row_eq (t : Fin cfg0.N) : defs₀ (F := F) .tc cfg0.body (cfg0.bodyArgs t (cfg0.slots t)) = bodyAt0 t := by
  unfold defs₀; rw [Defs.onTc_tc]

set_option maxHeartbeats 4000000 in
/-- The library's body obligation. -/
theorem obligation (c : Dev nD) : BodyObligation (pdat (F := F) m 0 c) (defs₀ (F := F)) Variants.none () Set.univ := fun t => by
  rw [bigSep_W0, bigSep_W0, row_eq]
  exact triple_restated (point_sound m c t) rfl .rfl fun _ => .rfl

set_option backward.isDefEq.respectTransparency.types false in
/-- The launch: every final state has the pipeline's arrays at what the proof data says and every counter at zero. -/
theorem launched : θ_run defs (onTc (τ := τ) (main (F := F))) (s₀ m ρ) (fun r => (Pipeline.FramePost cfgs (pdat m) 0 (V m)) r ∧ r.2.sem = fun _ => 0) :=
  Pipeline.θ_run_frame_dma (Q' := _) cfgs (pdat m) (0 : Fin 1) launch0 osem0 defs₀ Variants.none ownSemFacts0 H0 H0_sub m ρ main
    (hbody := fun c => (obligation m c).loose) (hshare := fun c => (pdat m 0 c).share_full fun _ => rfl)
    (howed := fun _ _ => rfl) (V := V m) (hmain := hmain m Variants.none) (hA := pdat_A m)
    (hin := fun _ => .rfl) (hout := fun _ => .rfl)

theorem ran : θ_run defs (onTc (τ := τ) (main (F := F))) (s₀ m ρ) (Pipeline.FramePost cfgs (pdat m) 0 (V m)) :=
  (θ_run defs _ _).mono (fun _ h => h.1) (launched m ρ)

/-- The argument arrays end as they were. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (pdat m) (pdat_A m) (ran m ρ)

/-- Every argument array ends as it was, and every counter at zero. -/
theorem frame_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (kept m ρ) ((θ_run defs _ _).mono (fun _ h => h.2) (launched m ρ))

end Cert.KernelIdeal.Gen

end
-- ==== Proof.Spec.lean ====
/-
  The mathematics that both programs compute, over the extended reals: a 3x3 convolution with the maximum with zero,
  a 1x1 one, and the sum of a map over a box.
-/
module

public import Idealize.ShloMosaic.PureOps.Ideal
public import Idealize.ShloMosaic.PureOps.Ideal.Laws
public import Idealize.ShloMosaic.Lib.ValueIdxCore

@[expose] public section

noncomputable section

namespace Cert.Super

open Idealize.ShloMosaic Idealize.ShloMosaic.ValueIdx
open scoped BigOperators

/-- A stack of eight maps of `C` channels, 100 rows and 352 columns. -/
abbrev Map (C : ℕ) := (⟨4, ![8, C, 100, 352]⟩ : Shape).Idx → EReal
/-- The weights of a convolution with `n` by `n` taps. -/
abbrev Wts (O C n : ℕ) := (⟨4, ![O, C, n, n]⟩ : Shape).Idx → EReal
/-- A bias per channel. -/
abbrev Bias (O : ℕ) := (⟨1, ![O]⟩ : Shape).Idx → EReal

/-- A map read at coordinates shifted by one, zero outside. -/
def at0 {C : ℕ} (X : Map C) (a : Fin 8) (c : Fin C) (i j : ℕ) : EReal :=
  if h : (1 ≤ i ∧ i ≤ 100) ∧ 1 ≤ j ∧ j ≤ 352 then X (ix4 a c ⟨i - 1, by omega⟩ ⟨j - 1, by omega⟩) else 0

/-- The row of tap `t`. -/
def tdy (t : Fin 9) : Fin 3 := ⟨t.val / 3, by omega⟩
/-- The column of tap `t`. -/
def tdx (t : Fin 9) : Fin 3 := ⟨t.val % 3, by omega⟩

/-- One tap of a convolution at a place. -/
def tapAt {C O : ℕ} (X : Map C) (W : Wts O C 3) (a : Fin 8) (o : Fin O) (h w : ℕ) (t : Fin 9) : EReal :=
  ∑ c : Fin C, W (ix4 o c (tdy t) (tdx t)) * at0 X a c (h + t.val / 3) (w + t.val % 3)

/-- A 3x3 convolution with zeros around the map, its bias, and the maximum with zero. -/
def conv3 {C O : ℕ} (X : Map C) (W : Wts O C 3) (b : Bias O) : Map O := fun i =>
  max ((∑ t : Fin 9, tapAt X W (i 0) (i 1) (i 2).val (i 3).val t) + b (ix1 (i 1))) 0

/-- A 1x1 convolution, its bias, and the maximum with zero. -/
def conv1 {C O : ℕ} (X : Map C) (W : Wts O C 1) (b : Bias O) : Map O := fun i =>
  max ((∑ c : Fin C, W (ix4 (i 1) c 0 0) * X (ix4 (i 0) c (i 2) (i 3))) + b (ix1 (i 1))) 0

/-- Every entry is a real number. -/
def Real' {s : Shape} (X : s.Idx → EReal) : Prop := ∀ i, ∃ r : ℝ, X i = (r : EReal)

theorem real_zero : ∃ r : ℝ, (0 : EReal) = (r : EReal) := ⟨0, rfl⟩
theorem real_add {x y : EReal} (hx : ∃ r : ℝ, x = (r : EReal)) (hy : ∃ r : ℝ, y = (r : EReal)) : ∃ r : ℝ, x + y = (r : EReal) := by
  obtain ⟨r, rfl⟩ := hx; obtain ⟨s, rfl⟩ := hy; exact ⟨r + s, (EReal.coe_add r s).symm⟩
theorem real_mul {x y : EReal} (hx : ∃ r : ℝ, x = (r : EReal)) (hy : ∃ r : ℝ, y = (r : EReal)) : ∃ r : ℝ, x * y = (r : EReal) := by
  obtain ⟨r, rfl⟩ := hx; obtain ⟨s, rfl⟩ := hy; exact ⟨r * s, (EReal.coe_mul r s).symm⟩
theorem real_max {x y : EReal} (hx : ∃ r : ℝ, x = (r : EReal)) (hy : ∃ r : ℝ, y = (r : EReal)) : ∃ r : ℝ, max x y = (r : EReal) := by
  rcases max_choice x y with h | h <;> rw [h] <;> assumption
theorem real_sum {ι : Type} (s : Finset ι) (f : ι → EReal) (h : ∀ i ∈ s, ∃ r : ℝ, f i = (r : EReal)) : ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem real_at0 {C : ℕ} {X : Map C} (hX : Real' X) (a : Fin 8) (c : Fin C) (i j : ℕ) : ∃ r : ℝ, at0 X a c i j = (r : EReal) := by
  unfold at0; split
  · exact hX _
  · exact real_zero

/-- A convolution of real maps is real. -/
theorem real_conv3 {C O : ℕ} {X : Map C} {W : Wts O C 3} {b : Bias O} (hX : Real' X) (hW : Real' W) (hb : Real' b) : Real' (conv3 X W b) := fun i =>
  real_max (real_add (real_sum _ _ fun t _ => real_sum _ _ fun c _ => real_mul (hW _) (real_at0 hX _ _ _ _)) (hb _)) real_zero

/-- A 1x1 convolution of real maps is real. -/
theorem real_conv1 {C O : ℕ} {X : Map C} {W : Wts O C 1} {b : Bias O} (hX : Real' X) (hW : Real' W) (hb : Real' b) : Real' (conv1 X W b) := fun i =>
  real_max (real_add (real_sum _ _ fun c _ => real_mul (hW _) (hX _)) (hb _)) real_zero

/-- The seven 3x3 layers. -/
def trunk (x : Map 64) (wa : Wts 128 64 3) (ba : Bias 128) (wb : Wts 128 128 3) (bb : Bias 128) (wc : Wts 128 128 3) (bc : Bias 128)
    (wd : Wts 128 128 3) (bd : Bias 128) (we : Wts 256 128 3) (be : Bias 256) (wf : Wts 256 256 3) (bf : Bias 256) (wg : Wts 256 256 3) (bg : Bias 256) : Map 256 :=
  conv3 (conv3 (conv3 (conv3 (conv3 (conv3 (conv3 x wa ba) wb bb) wc bc) wd bd) we be) wf bf) wg bg

/-- The map whose boxes are averaged: the seven 3x3 layers, then two 1x1 ones. -/
def feats (x : Map 64) (wa : Wts 128 64 3) (ba : Bias 128) (wb : Wts 128 128 3) (bb : Bias 128) (wc : Wts 128 128 3) (bc : Bias 128)
    (wd : Wts 128 128 3) (bd : Bias 128) (we : Wts 256 128 3) (be : Bias 256) (wf : Wts 256 256 3) (bf : Bias 256) (wg : Wts 256 256 3) (bg : Bias 256)
    (wh : Wts 256 256 1) (bh : Bias 256) (wi : Wts 256 256 1) (bi : Bias 256) : Map 256 :=
  conv1 (conv1 (trunk x wa ba wb bb wc bc wd bd we be wf bf wg bg) wh bh) wi bi

/-- The sum of a map over the rows `u ≤ h < d` and the columns `l ≤ w < r`. -/
def boxSum (y : Map 256) (a : Fin 8) (o : Fin 256) (u d l r : ℕ) : EReal :=
  ∑ h : Fin 100, ∑ w : Fin 352, if (u ≤ h.val ∧ h.val < d) ∧ l ≤ w.val ∧ w.val < r then y (ix4 a o h w) else 0

end Cert.Super

end
-- ==== Proof.KRead.lean ====
/-
  A layer of the kernel read at a pixel and a channel, over the extended reals.
-/
module

public import proofs.«01_k».proof.Proof.Layer
public import proofs.«01_k».proof.Proof.Spec
public import Idealize.ShloMosaic.Lib.MatmulPlain
public import Idealize.ShloMosaic.Lib.Pipeline.Value
public import Idealize.ShloMosaic.Lib.IdealHost

@[expose] public section

noncomputable section

namespace Cert.Super

open Idealize.ShloMosaic Idealize.ShloMosaic.ValueIdx
open scoped BigOperators

/-- One tap at a pixel: the sum over the channels. -/
theorem tapMul_apply {M C O : ℕ} (hw : (⟨3, ![1, C, O]⟩ : Shape).ShapeCasts ⟨2, ![C, O]⟩) (x : FVec Ideal ⟨2, ![M, C]⟩ .bf16)
    (w : FVec Ideal ⟨3, ![1, C, O]⟩ .bf16) (p : Fin M) (o : Fin O) :
    tapMul (DotDims.plain M C O) hw x w (ix2 p o) = ∑ c : Fin C, x (ix2 p c) * w (ix3 0 c o) := by
  unfold tapMul
  show FloatOps.matmul (DotDims.plain M C O) none x (shapeCast ⟨2, ![C, O]⟩ w hw) (constant ⟨2, ![M, O]⟩ .f32 0x00000000#32) (ix2 p o) = _
  rw [Ideal.matmul_plain_apply]
  rw [show (constant (F := Ideal) ⟨2, ![M, O]⟩ .f32 0x00000000#32) (ix2 p o) = (0 : EReal) from Ideal.ofBits_zero_f32, zero_add]
  refine Finset.sum_congr rfl fun c _ => congrArg (x (ix2 p c) * ·) ?_
  refine shapeCast_apply w hw _ _ ?_
  rw [Shape.rowMajor_val_three, Shape.rowMajor_val_two]
  show (0 * C + c.val) * O + o.val = c.val * O + o.val
  rw [Nat.zero_mul, Nat.zero_add]

/-- A layer at a pixel and a channel. -/
theorem layerOut_apply {M C O : ℕ} (hw : (⟨3, ![1, C, O]⟩ : Shape).ShapeCasts ⟨2, ![C, O]⟩) (hb : (⟨2, ![1, O]⟩ : Shape).ShapeCasts ⟨2, ![1, O]⟩)
    (hbb : (⟨2, ![1, O]⟩ : Shape).Broadcasts ⟨2, ![M, O]⟩) (ho : (⟨2, ![M, O]⟩ : Shape).ShapeCasts ⟨2, ![M, O]⟩) (hl : FTy.bits .bf16 < FTy.bits .f32)
    (x : Fin 9 → FVec Ideal ⟨2, ![M, C]⟩ .bf16) (w : Fin 9 → FVec Ideal ⟨3, ![1, C, O]⟩ .bf16) (b : FVec Ideal ⟨2, ![1, O]⟩ .f32) (p : Fin M) (o : Fin O) :
    layerOut (DotDims.plain M C O) hw hb hbb ho hl x w b (ix2 p o)
      = max ((∑ t : Fin 9, ∑ c : Fin C, x t (ix2 p c) * w t (ix3 0 c o)) + b (ix2 0 o)) (0 : EReal) := by
  unfold layerOut
  rw [shapeCast_apply _ ho (ix2 p o) (ix2 p o) rfl]
  show max ((tapMul (DotDims.plain M C O) hw (x 0) (w 0) (ix2 p o) + tapMul (DotDims.plain M C O) hw (x 1) (w 1) (ix2 p o) + tapMul (DotDims.plain M C O) hw (x 2) (w 2) (ix2 p o)
    + tapMul (DotDims.plain M C O) hw (x 3) (w 3) (ix2 p o) + tapMul (DotDims.plain M C O) hw (x 4) (w 4) (ix2 p o) + tapMul (DotDims.plain M C O) hw (x 5) (w 5) (ix2 p o)
    + tapMul (DotDims.plain M C O) hw (x 6) (w 6) (ix2 p o) + tapMul (DotDims.plain M C O) hw (x 7) (w 7) (ix2 p o) + tapMul (DotDims.plain M C O) hw (x 8) (w 8) (ix2 p o))
    + broadcastTo (⟨2, ![M, O]⟩ : Shape) (shapeCast ⟨2, ![1, O]⟩ b hb) hbb (ix2 p o)) (Ideal.ofBits .f32 0x00000000#32 : EReal) = _
  rw [broadcastTo_apply _ hbb (ix2 p o) (ix2 0 o) (by
    intro a
    match a with
    | ⟨0, _⟩ => rfl
    | ⟨1, _⟩ =>
      show o.val = if O = 1 then 0 else o.val
      split
      · have := o.isLt; omega
      · rfl), shapeCast_apply _ hb (ix2 0 o) (ix2 0 o) rfl, Ideal.ofBits_zero_f32]
  simp only [tapMul_apply]
  congr 2
  simp only [Fin.sum_univ_succ, Fin.sum_univ_zero, Fin.sum_univ_eight, Finset.univ_eq_empty, Finset.sum_empty, add_zero]
  simp only [add_assoc]
  rfl

/-- A layer at a pixel whose windows hold the shifted map is the convolution there. -/
theorem layerOut_conv3 {M C O : ℕ} (hw : (⟨3, ![1, C, O]⟩ : Shape).ShapeCasts ⟨2, ![C, O]⟩) (hb : (⟨2, ![1, O]⟩ : Shape).ShapeCasts ⟨2, ![1, O]⟩)
    (hbb : (⟨2, ![1, O]⟩ : Shape).Broadcasts ⟨2, ![M, O]⟩) (ho : (⟨2, ![M, O]⟩ : Shape).ShapeCasts ⟨2, ![M, O]⟩) (hl : FTy.bits .bf16 < FTy.bits .f32)
    (x : Fin 9 → FVec Ideal ⟨2, ![M, C]⟩ .bf16) (w : Fin 9 → FVec Ideal ⟨3, ![1, C, O]⟩ .bf16) (b : FVec Ideal ⟨2, ![1, O]⟩ .f32)
    (X : Map C) (W : Wts O C 3) (B : Bias O) (a : Fin 8) (h : Fin 100) (v : Fin 352) (p : Fin M) (o : Fin O)
    (hx : ∀ t c, x t (ix2 p c) = at0 X a c (h.val + t.val / 3) (v.val + t.val % 3))
    (hW : ∀ t c, w t (ix3 0 c o) = W (ix4 o c (tdy t) (tdx t))) (hB : b (ix2 0 o) = B (ix1 o)) :
    layerOut (DotDims.plain M C O) hw hb hbb ho hl x w b (ix2 p o) = conv3 X W B (ix4 a o h v) := by
  rw [layerOut_apply, hB]
  unfold conv3 tapAt
  congr 2
  refine Finset.sum_congr rfl fun t _ => Finset.sum_congr rfl fun c _ => ?_
  rw [hx, hW, mul_comm]
  rfl

end Cert.Super

end
-- ==== Proof.KILayers.lean ====
/-
  The seven layers of the body over the extended reals: away from the block's edges, the map that a layer stores is the
  convolution of the whole map, read at the strip's columns.
-/
module

public import proofs.«01_k».proof.Proof.KIBody
public import proofs.«01_k».proof.Proof.KRead

@[expose] public section

set_option maxRecDepth 65536

noncomputable section

namespace Cert.KernelIdeal.Gen

open Idealize.ShloMosaic Idealize.ShloMosaic.ValueIdx
open Cert.Super
open scoped BigOperators

theorem tapRow_eq (t : Fin 9) : tapRow t = 103 + 104 * (t.val / 3) + t.val % 3 := by
  revert t; decide

theorem pad0_eq : (pad0 (F := Ideal)) = (0 : EReal) := Ideal.ofBits_zero_bf16

/-- A feature buffer at a row and a column of its map. -/
theorem bufOf_at {C : ℕ} (P : (⟨2, ![10400, C]⟩ : Shape).Idx → EReal) (y : S10816x256.Idx) (c : Fin C) (hc : (y 1).val = c.val) :
    bufOf (F := Ideal) ![10400, C] P y = if h : 208 ≤ (y 0).val ∧ (y 0).val < 10608 then P (ix2 ⟨(y 0).val - 208, by omega⟩ c) else (0 : EReal) := by
  have hcl := c.isLt
  by_cases h : 208 ≤ (y 0).val ∧ (y 0).val < 10608
  · rw [dif_pos h]
    unfold bufOf VecWindow.put
    rw [dif_pos (Fin.forall_fin_two.mpr ⟨⟨h.1, by show (y 0).val < 208 + 10400; omega⟩, ⟨Nat.zero_le _, by show (y 1).val < 0 + C; omega⟩⟩)]
    refine congrArg P (funext fun a => Fin.ext ?_)
    match a with
    | ⟨0, _⟩ => rfl
    | ⟨1, _⟩ => show (y 1).val - 0 = c.val; omega
  · rw [dif_neg h]
    exact (rim_put (rim_rimmed _) ![10400, C] rfl P y (by omega)).trans pad0_eq

/-- The columns of a block at which the map after `k` layers is the whole map's. -/
def Good (k s j : ℕ) : Prop := k ≤ j ∧ j + k ≤ 103 ∧ 7 + k ≤ 88 * s + j ∧ 88 * s + j + k ≤ 360

/-- `P` holds the map `X` of agent `a` at the good columns of strip `s`. -/
def Holds {C : ℕ} (k s : ℕ) (a : Fin 8) (P : (⟨2, ![10400, C]⟩ : Shape).Idx → EReal) (X : Map C) : Prop :=
  ∀ (h : Fin 100) (j : ℕ) (hj : j < 104) (v : Fin 352), Good k s j → v.val + 8 = 88 * s + j → ∀ c : Fin C, P (ix2 ⟨104 * h.val + j, by omega⟩ c) = X (ix4 a c h v)

/-- What a tap sees of a buffer that holds the map. -/
theorem buf_tap {C k s : ℕ} {a : Fin 8} {P : (⟨2, ![10400, C]⟩ : Shape).Idx → EReal} {X : Map C} (hk : 1 ≤ k) (H : Holds k s a P X)
    (h : Fin 100) (j : ℕ) (hj : j < 104) (v : Fin 352) (hg : Good (k + 1) s j) (hv : v.val + 8 = 88 * s + j) (t : Fin 9) (c : Fin C)
    (y : S10816x256.Idx) (y0 : (y 0).val = tapRow t + (104 * h.val + j)) (y1 : (y 1).val = c.val) :
    bufOf (F := Ideal) ![10400, C] P y = at0 X a c (h.val + t.val / 3) (v.val + t.val % 3) := by
  rw [bufOf_at P y c y1]
  obtain ⟨g1, g2, g3, g4⟩ := hg
  have e := tapRow_eq t
  have hdx : t.val % 3 < 3 := Nat.mod_lt _ (by omega)
  have hdy : t.val / 3 < 3 := by have := t.isLt; omega
  generalize t.val % 3 = dx at *
  generalize t.val / 3 = dy at *
  unfold at0
  by_cases hin : 1 ≤ h.val + dy ∧ h.val + dy ≤ 100
  · rw [dif_pos (by omega), dif_pos (by omega)]
    have hP := H ⟨h.val + dy - 1, by omega⟩ (j + dx - 1) (by omega) ⟨v.val + dx - 1, by omega⟩ (by unfold Good; omega) (by show v.val + dx - 1 + 8 = _; omega) c
    rw [← hP]
    refine congrArg P (congrArg (fun q => ix2 q c) (Fin.ext ?_))
    show (y 0).val - 208 = 104 * (h.val + dy - 1) + (j + dx - 1)
    omega
  · rw [dif_neg (by omega), dif_neg (by omega)]

/-- The kernel's order of a layer's weights. -/
def Taps {C O : ℕ} (x : (⟨3, ![9, C, O]⟩ : Shape).Idx → EReal) (W : Wts O C 3) : Prop := ∀ t c o, x (ix3 t c o) = W (ix4 o c (tdy t) (tdx t))
/-- The kernel's row of a layer's biases. -/
def Row {O : ℕ} (x : (⟨2, ![1, O]⟩ : Shape).Idx → EReal) (b : Bias O) : Prop := ∀ o, x (ix2 0 o) = b (ix1 o)

theorem wtap_at {C O : ℕ} {x : (⟨3, ![9, C, O]⟩ : Shape).Idx → EReal} {W : Wts O C 3} (h : Taps x W) (t : Fin 9) (c : Fin C) (o : Fin O) :
    wtap (F := Ideal) x t (ix3 0 c o) = W (ix4 o c (tdy t) (tdx t)) := by
  rw [← h t c o]
  refine congrArg x (funext fun a => Fin.ext ?_)
  match a with
  | ⟨0, _⟩ => show t.val + 1 * 0 = t.val; omega
  | ⟨1, _⟩ => show 0 + 1 * c.val = c.val; omega
  | ⟨2, _⟩ => show 0 + 1 * o.val = o.val; omega

theorem conv128_holds {k s : ℕ} {a : Fin 8} {P : FVec Ideal S10400x128 .bf16} {X : Map 128} (hk : 1 ≤ k) (H : Holds k s a P X)
    {x : Vec Ideal S9x128x128 .bf16} {W : Wts 128 128 3} (hW : Taps x W) {b : Vec Ideal S1x128 .f32} {B : Bias 128} (hB : Row b B) :
    Holds (k + 1) s a (conv128 (bufOf S10400x128.size P) x b) (conv3 X W B) := by
  intro h j hj v hg hv o
  refine layerOut_conv3 _ _ _ _ _ _ _ _ X W B a h v _ o (fun t c => ?_) (fun t c => wtap_at hW t c o) (hB o)
  refine buf_tap hk H h j hj v hg hv t c _ ?_ ?_
  · show tapRow t + 1 * (104 * h.val + j) = _; omega
  · show 0 + 1 * c.val = _; omega

theorem convUp_holds {k s : ℕ} {a : Fin 8} {P : FVec Ideal S10400x128 .bf16} {X : Map 128} (hk : 1 ≤ k) (H : Holds k s a P X)
    {x : Vec Ideal S9x128x256 .bf16} {W : Wts 256 128 3} (hW : Taps x W) {b : Vec Ideal S1x256 .f32} {B : Bias 256} (hB : Row b B) :
    Holds (k + 1) s a (convUp (bufOf S10400x128.size P) x b) (conv3 X W B) := by
  intro h j hj v hg hv o
  refine layerOut_conv3 _ _ _ _ _ _ _ _ X W B a h v _ o (fun t c => ?_) (fun t c => wtap_at hW t c o) (hB o)
  refine buf_tap hk H h j hj v hg hv t c _ ?_ ?_
  · show tapRow t + 1 * (104 * h.val + j) = _; omega
  · show 0 + 1 * c.val = _; omega

theorem conv256_holds {k s : ℕ} {a : Fin 8} {P : FVec Ideal S10400x256 .bf16} {X : Map 256} (hk : 1 ≤ k) (H : Holds k s a P X)
    {x : Vec Ideal S9x256x256 .bf16} {W : Wts 256 256 3} (hW : Taps x W) {b : Vec Ideal S1x256 .f32} {B : Bias 256} (hB : Row b B) :
    Holds (k + 1) s a (conv256 (bufOf S10400x256.size P) x b) (conv3 X W B) := by
  intro h j hj v hg hv o
  refine layerOut_conv3 _ _ _ _ _ _ _ _ X W B a h v _ o (fun t c => ?_) (fun t c => wtap_at hW t c o) (hB o)
  refine buf_tap hk H h j hj v hg hv t c _ ?_ ?_
  · show tapRow t + 1 * (104 * h.val + j) = _; omega
  · show 0 + 1 * c.val = _; omega

/-- The block that a point copies: the padded features at the strip's columns. -/
def Strip (s : ℕ) (a : Fin 8) (P : Vec Ideal S102x104x64 .bf16) (X : Map 64) : Prop :=
  ∀ (r : Fin 102) (j : Fin 104) (c : Fin 64), P (ix3 r j c) = at0 X a c r.val (88 * s + j.val - 7)

/-- The block buffer at one of the copied rows. -/
theorem slabV_at (P : Vec Ideal S102x104x64 .bf16) (r : Fin 102) (j : Fin 104) (c : Fin 64) (y : S104x104x64.Idx)
    (y0 : (y 0).val = r.val + 1) (y1 : (y 1).val = j.val) (y2 : (y 2).val = c.val) : slabV P y = P (ix3 r j c) := by
  have hr := r.isLt
  have hj := j.isLt
  have hc := c.isLt
  unfold slabV slabOf VecWindow.put
  rw [dif_neg (fun h => by have h0 : 103 ≤ (y 0).val := (h 0).1; omega), dif_neg (fun h => by have h0 : (y 0).val < 0 + 1 := (h 0).2; omega), dif_pos (by
    intro a
    match a with
    | ⟨0, _⟩ => exact ⟨by show 1 ≤ (y 0).val; omega, by show (y 0).val < 1 + 102; omega⟩
    | ⟨1, _⟩ => exact ⟨Nat.zero_le _, by show (y 1).val < 0 + 104; omega⟩
    | ⟨2, _⟩ => exact ⟨Nat.zero_le _, by show (y 2).val < 0 + 64; omega⟩)]
  refine congrArg P (funext fun a => Fin.ext ?_)
  match a with
  | ⟨0, _⟩ => show (y 0).val - 1 = r.val; omega
  | ⟨1, _⟩ => show (y 1).val - 0 = j.val; omega
  | ⟨2, _⟩ => show (y 2).val - 0 = c.val; omega

theorem conv64_holds {s : ℕ} {a : Fin 8} {P : Vec Ideal S102x104x64 .bf16} {X : Map 64} (H : Strip s a P X)
    {x : Vec Ideal S9x64x128 .bf16} {W : Wts 128 64 3} (hW : Taps x W) {b : Vec Ideal S1x128 .f32} {B : Bias 128} (hB : Row b B) :
    Holds 1 s a (conv64 (slabV P) x b) (conv3 X W B) := by
  intro h j hj v hg hv o
  refine layerOut_conv3 _ _ _ _ _ _ _ _ X W B a h v _ o (fun t c => ?_) (fun t c => wtap_at hW t c o) (hB o)
  obtain ⟨g1, g2, g3, g4⟩ := hg
  have e := tapRow_eq t
  have hdx : t.val % 3 < 3 := Nat.mod_lt _ (by omega)
  have hdy : t.val / 3 < 3 := by have := t.isLt; omega
  have hh := h.isLt
  unfold win64 k0_pay9
  rw [extractStridedSlice_apply _ _ _ _ (ix2 ⟨tapRow t + (104 * h.val + j), by have := tapRow_le t; omega⟩ c) (by
    intro a
    match a with
    | ⟨0, _⟩ => rfl
    | ⟨1, _⟩ => show c.val = 0 + c.val; omega)]
  rw [shapeCast_apply _ _ _ (ix3 ⟨h.val + t.val / 3 + 1, by omega⟩ ⟨j + t.val % 3 - 1, by omega⟩ c) (by
    rw [Shape.rowMajor_val_three, Shape.rowMajor_val_two]
    show ((h.val + t.val / 3 + 1) * 104 + (j + t.val % 3 - 1)) * 64 + c.val = (tapRow t + (104 * h.val + j)) * 64 + c.val
    congr 2
    omega)]
  rw [slabV_at P ⟨h.val + t.val / 3, by omega⟩ ⟨j + t.val % 3 - 1, by omega⟩ c _ rfl rfl rfl, H]
  show at0 X a c (h.val + t.val / 3) (88 * s + (j + t.val % 3 - 1) - 7) = _
  congr 1
  omega

/-- The map after the seven layers, at the columns of the strip that the box mask can select. -/
theorem feat7_holds {s : ℕ} {a : Fin 8} {P : Vec Ideal S102x104x64 .bf16} {X : Map 64} (H : Strip s a P X)
    {x7 : Vec Ideal S9x64x128 .bf16} {x8 : Vec Ideal S1x128 .f32} {x9 : Vec Ideal S9x128x128 .bf16} {x10 : Vec Ideal S1x128 .f32} {x11 : Vec Ideal S9x128x128 .bf16} {x12 : Vec Ideal S1x128 .f32}
    {x13 : Vec Ideal S9x128x128 .bf16} {x14 : Vec Ideal S1x128 .f32} {x15 : Vec Ideal S9x128x256 .bf16} {x16 : Vec Ideal S1x256 .f32} {x17 : Vec Ideal S9x256x256 .bf16} {x18 : Vec Ideal S1x256 .f32}
    {x19 : Vec Ideal S9x256x256 .bf16} {x20 : Vec Ideal S1x256 .f32}
    {wa : Wts 128 64 3} {ba : Bias 128} {wb : Wts 128 128 3} {bb : Bias 128} {wc : Wts 128 128 3} {bc : Bias 128}
    {wd : Wts 128 128 3} {bd : Bias 128} {we : Wts 256 128 3} {be : Bias 256} {wf : Wts 256 256 3} {bf : Bias 256} {wg : Wts 256 256 3} {bg : Bias 256}
    (h7 : Taps x7 wa) (h8 : Row x8 ba) (h9 : Taps x9 wb) (h10 : Row x10 bb) (h11 : Taps x11 wc) (h12 : Row x12 bc) (h13 : Taps x13 wd) (h14 : Row x14 bd)
    (h15 : Taps x15 we) (h16 : Row x16 be) (h17 : Taps x17 wf) (h18 : Row x18 bf) (h19 : Taps x19 wg) (h20 : Row x20 bg) :
    Holds 7 s a (feat7 P x7 x8 x9 x10 x11 x12 x13 x14 x15 x16 x17 x18 x19 x20) (trunk X wa ba wb bb wc bc wd bd we be wf bf wg bg) :=
  conv256_holds (by omega) (conv256_holds (by omega) (convUp_holds (by omega) (conv128_holds (by omega) (conv128_holds (by omega) (conv128_holds (by omega)
    (conv64_holds H h7 h8) h9 h10) h11 h12) h13 h14) h15 h16) h17 h18) h19 h20

end Cert.KernelIdeal.Gen

end
-- ==== Proof.KIPool.lean ====
/-
  The body's last stretch over the extended reals: the two 1x1 layers at a pixel, and the strip's sum over a box.
-/
module

public import proofs.«01_k».proof.Proof.KILayers
public import Idealize.ShloMosaic.Lib.WordCmp

@[expose] public section

set_option maxRecDepth 65536

noncomputable section

namespace Cert.KernelIdeal.Gen

open Idealize.ShloMosaic Idealize.ShloMosaic.ValueIdx
open Cert.Super
open scoped BigOperators

/-- A 1x1 layer of the body: a product, the bias row, the maximum with zero. -/
def dense (x : FVec Ideal S8800x256 .bf16) (w : FVec Ideal S256x256 .bf16) (b : FVec Ideal S1x256 .f32) : FVec Ideal S8800x256 .bf16 :=
  truncf .bf16 (maximumf (addf (matmul dot_S8800x256_S256x256_S8800x256_1_0_0_1_n_n none x (shapeCast S256x256 w shapeCasts_S256x256_S256x256) (constant S8800x256 .f32 0x00000000#32))
    (broadcastTo S8800x256 (shapeCast S1x256 b shapeCasts_S1x256_S1x256) broadcasts_S1x256_S8800x256)) (broadcast S8800x256 (Scalar.ofBits .f32 0x00000000#32))) bitsLt_bf16_f32

theorem dense_apply (x : FVec Ideal S8800x256 .bf16) (w : FVec Ideal S256x256 .bf16) (b : FVec Ideal S1x256 .f32) (p : Fin 8800) (o : Fin 256) :
    dense x w b (ix2 p o) = max ((∑ c : Fin 256, x (ix2 p c) * w (ix2 c o)) + b (ix2 0 o)) (0 : EReal) := by
  show max (FloatOps.matmul (F := Ideal) (DotDims.plain 8800 256 256) none x (shapeCast S256x256 w shapeCasts_S256x256_S256x256) (constant S8800x256 .f32 0x00000000#32) (ix2 p o)
    + broadcastTo S8800x256 (shapeCast S1x256 b shapeCasts_S1x256_S1x256) broadcasts_S1x256_S8800x256 (ix2 p o)) (Ideal.ofBits .f32 0x00000000#32 : EReal) = _
  rw [Ideal.matmul_plain_apply, broadcastTo_apply _ broadcasts_S1x256_S8800x256 (ix2 p o) (ix2 0 o) (by
    intro a
    match a with
    | ⟨0, _⟩ => rfl
    | ⟨1, _⟩ => rfl), shapeCast_apply _ _ (ix2 0 o) (ix2 0 o) rfl, Ideal.ofBits_zero_f32]
  rw [show (constant (F := Ideal) S8800x256 .f32 0x00000000#32) (ix2 p o) = (0 : EReal) from Ideal.ofBits_zero_f32, zero_add]
  congr 2
  exact Finset.sum_congr rfl fun c _ => congrArg (x (ix2 p c) * ·) (shapeCast_apply _ _ (ix2 c o) (ix2 c o) rfl)

/-- The kernel's order of a 1x1 layer's weights. -/
def Dense (x : (⟨2, ![256, 256]⟩ : Shape).Idx → EReal) (W : Wts 256 256 1) : Prop := ∀ c o, x (ix2 c o) = W (ix4 o c 0 0)

theorem dense_conv1 {x : FVec Ideal S8800x256 .bf16} {w : FVec Ideal S256x256 .bf16} {b : FVec Ideal S1x256 .f32} {X : Map 256} {W : Wts 256 256 1} {B : Bias 256}
    (hW : Dense w W) (hB : Row b B) (a : Fin 8) (h : Fin 100) (v : Fin 352) (p : Fin 8800) (hx : ∀ c, x (ix2 p c) = X (ix4 a c h v)) (o : Fin 256) :
    dense x w b (ix2 p o) = conv1 X W B (ix4 a o h v) := by
  rw [dense_apply, hB]
  unfold conv1
  congr 2
  refine Finset.sum_congr rfl fun c _ => ?_
  rw [hx, hW, mul_comm]

/-- The strip's columns of a map, cut out of the block. -/
def strip (P : Vec Ideal S10400x256 .bf16) : FVec Ideal S8800x256 .bf16 :=
  shapeCast S8800x256 (extractStridedSlice S100x88x256 ![0, 8, 0] (shapeCast S100x104x256 P shapeCasts_S10400x256_S100x104x256) slices_S100x104x256_o0_8_0_S100x88x256) shapeCasts_S100x88x256_S8800x256

theorem strip_apply (P : Vec Ideal S10400x256 .bf16) (h : Fin 100) (j : Fin 88) (c : Fin 256) :
    strip P (ix2 ⟨h.val * 88 + j.val, by omega⟩ c) = P (ix2 ⟨104 * h.val + (j.val + 8), by omega⟩ c) := by
  unfold strip
  rw [shapeCast_apply _ _ _ (ix3 h j c) (by
    rw [Shape.rowMajor_val_three, Shape.rowMajor_val_two]
    rfl)]
  rw [extractStridedSlice_apply _ _ _ _ (ix3 h ⟨j.val + 8, by omega⟩ c) (by
    intro a
    match a with
    | ⟨0, _⟩ => show h.val = 0 + h.val; omega
    | ⟨1, _⟩ => show j.val + 8 = 8 + j.val; omega
    | ⟨2, _⟩ => show c.val = 0 + c.val; omega)]
  rw [shapeCast_apply _ _ _ (ix2 ⟨104 * h.val + (j.val + 8), by omega⟩ c) (by
    rw [Shape.rowMajor_val_three, Shape.rowMajor_val_two]
    show (104 * h.val + (j.val + 8)) * 256 + c.val = (h.val * 104 + (j.val + 8)) * 256 + c.val
    congr 2
    omega)]

theorem pay37_eq (P : Vec Ideal S10400x256 .bf16) (w1 : Vec Ideal S256x256 .bf16) (b1 : Vec Ideal S1x256 .f32) (w2 : Vec Ideal S256x256 .bf16) (b2 : Vec Ideal S1x256 .f32) :
    k0_pay37 P w1 b1 w2 b2 = dense (dense (strip P) w1 b1) w2 b2 := rfl

/-- The last map at a pixel of the strip that a box can hold. -/
theorem pay37_at {s : ℕ} {a : Fin 8} {P : Vec Ideal S10400x256 .bf16} {X : Map 256} (H : Holds 7 s a P X)
    {w1 : Vec Ideal S256x256 .bf16} {b1 : Vec Ideal S1x256 .f32} {w2 : Vec Ideal S256x256 .bf16} {b2 : Vec Ideal S1x256 .f32}
    {W1 W2 : Wts 256 256 1} {B1 B2 : Bias 256} (h1 : Dense w1 W1) (g1 : Row b1 B1) (h2 : Dense w2 W2) (g2 : Row b2 B2)
    (h : Fin 100) (j : Fin 88) (v : Fin 352) (hv : v.val = 88 * s + j.val) (hl : 6 ≤ v.val) (hr : v.val ≤ 345) (o : Fin 256) :
    k0_pay37 P w1 b1 w2 b2 (ix2 ⟨h.val * 88 + j.val, by omega⟩ o) = conv1 (conv1 X W1 B1) W2 B2 (ix4 a o h v) := by
  rw [pay37_eq]
  refine dense_conv1 h2 g2 a h v _ (fun c => ?_) o
  refine dense_conv1 h1 g1 a h v _ (fun c => ?_) c
  rw [strip_apply]
  exact H h (j.val + 8) (by omega) v (by unfold Good; omega) (by omega) c

/-- The four comparisons of the mask, at a box and a pixel. -/
def inBox (u d l r hh ww : BitVec 32) : Bool := ((u.sle hh && hh.slt d) && l.sle ww) && ww.slt r

theorem select_and (a b c d : Bool) (x y : EReal) :
    Scalar.select (((BitVec.ofBool a &&& BitVec.ofBool b) &&& BitVec.ofBool c) &&& BitVec.ofBool d) x y = if ((a && b) && c) && d then x else y := by
  cases a <;> cases b <;> cases c <;> cases d <;> rfl

theorem row_at {α : Type} (v : S1x8800.Idx → α) (k : Fin 50) (p : Fin 8800) : broadcastTo S50x8800 v broadcasts_S1x8800_S50x8800 (ix2 k p) = v (ix2 0 p) :=
  broadcastTo_apply _ _ _ _ (by
    intro a
    match a with
    | ⟨0, _⟩ => rfl
    | ⟨1, _⟩ => rfl)

theorem col_at {α : Type} (v : S1x50x1.Idx → α) (k : Fin 50) (p : Fin 8800) :
    broadcastTo S50x8800 (shapeCast S50x1 v shapeCasts_S1x50x1_S50x1) broadcasts_S50x1_S50x8800 (ix2 k p) = v (ix3 0 k 0) := by
  rw [broadcastTo_apply _ broadcasts_S50x1_S50x8800 (ix2 k p) (ix2 k 0) (by
    intro a
    match a with
    | ⟨0, _⟩ => rfl
    | ⟨1, _⟩ => rfl)]
  exact shapeCast_apply _ _ _ _ (by
    rw [Shape.rowMajor_val_three, Shape.rowMajor_val_two]
    show (0 * 50 + k.val) * 1 + 0 = k.val * 1 + 0
    omega)

theorem fac_at {α : Type} (v : S1x50x1.Idx → α) (k : Fin 50) (o : Fin 256) :
    broadcastTo S50x256 (shapeCast S50x1 v shapeCasts_S1x50x1_S50x1) broadcasts_S50x1_S50x256 (ix2 k o) = v (ix3 0 k 0) := by
  rw [broadcastTo_apply _ broadcasts_S50x1_S50x256 (ix2 k o) (ix2 k 0) (by
    intro a
    match a with
    | ⟨0, _⟩ => rfl
    | ⟨1, _⟩ => rfl)]
  exact shapeCast_apply _ _ _ _ (by
    rw [Shape.rowMajor_val_three, Shape.rowMajor_val_two]
    show (0 * 50 + k.val) * 1 + 0 = k.val * 1 + 0
    omega)

/-- The mask's columns sum, times the box's factor. -/
theorem pay40_apply (z : FVec Ideal S8800x256 .bf16) (hh ww : IVec S1x8800 32) (off : BitVec 32) (u d l r : Vec Ideal S1x50x1 .i32) (q : Vec Ideal S1x50x1 .f32) (k : Fin 50) (o : Fin 256) :
    k0_pay40 (F := Ideal) z hh ww off u d l r q (ix2 k o)
      = (∑ p : Fin 8800, (if inBox (u (ix3 0 k 0)) (d (ix3 0 k 0)) (l (ix3 0 k 0)) (r (ix3 0 k 0)) (hh (ix2 0 p)) (ww (ix2 0 p) + off) then (1 : EReal) else 0) * z (ix2 p o)) * q (ix3 0 k 0) := by
  unfold k0_pay40
  show FloatOps.matmul (F := Ideal) (DotDims.plain 50 8800 256) none _ z (constant S50x256 .f32 0x00000000#32) (ix2 k o)
    * broadcastTo S50x256 (shapeCast S50x1 q shapeCasts_S1x50x1_S50x1) broadcasts_S50x1_S50x256 (ix2 k o) = _
  rw [Ideal.matmul_plain_apply, fac_at]
  rw [show (constant (F := Ideal) S50x256 .f32 0x00000000#32) (ix2 k o) = (0 : EReal) from Ideal.ofBits_zero_f32, zero_add]
  congr 1
  refine Finset.sum_congr rfl fun p _ => congrArg (· * z (ix2 p o)) ?_
  rw [← Ideal.ofBits_one_f32, ← Ideal.ofBits_zero_f32, ← row_at hh k p, ← col_at u k p, ← col_at d k p, ← col_at l k p, ← col_at r k p,
    show ww (ix2 0 p) + off = broadcastTo S50x8800 (addi ww (broadcast S1x8800 off)) broadcasts_S1x8800_S50x8800 (ix2 k p) from (row_at (addi ww (broadcast S1x8800 off)) k p).symm]
  exact select_and _ _ _ _ _ _

/-- The comparisons of small numbers held in words. -/
theorem inBox_ofNat {u d l r h w : ℕ} (hu : u < 2 ^ 31) (hd : d < 2 ^ 31) (hl : l < 2 ^ 31) (hr : r < 2 ^ 31) (hh : h < 2 ^ 31) (hw : w < 2 ^ 31) :
    inBox (BitVec.ofNat 32 u) (BitVec.ofNat 32 d) (BitVec.ofNat 32 l) (BitVec.ofNat 32 r) (BitVec.ofNat 32 h) (BitVec.ofNat 32 w) = true
      ↔ (u ≤ h ∧ h < d) ∧ l ≤ w ∧ w < r := by
  unfold inBox
  simp only [BitVec.sle, BitVec.slt, Bool.and_eq_true, decide_eq_true_eq]
  rw [WordCmp.toInt_ofNat_of_lt (w := 32) hu, WordCmp.toInt_ofNat_of_lt (w := 32) hd, WordCmp.toInt_ofNat_of_lt (w := 32) hl, WordCmp.toInt_ofNat_of_lt (w := 32) hr, WordCmp.toInt_ofNat_of_lt (w := 32) hh, WordCmp.toInt_ofNat_of_lt (w := 32) hw]
  omega

/-- A sum over the strip's pixels, by rows and columns. -/
theorem sum_pixels (f : Fin 8800 → EReal) : ∑ p, f p = ∑ h : Fin 100, ∑ j : Fin 88, f ⟨h.val * 88 + j.val, by omega⟩ := by
  rw [← (finProdFinEquiv (m := 100) (n := 88)).sum_comp f, Fintype.sum_prod_type]
  refine Finset.sum_congr rfl fun h _ => Finset.sum_congr rfl fun j _ => congrArg f (Fin.ext ?_)
  show j.val + 88 * h.val = h.val * 88 + j.val
  omega

/-- The mask's sum over the strip's pixels, where the mask selects rows and columns that a box of the map can hold. -/
theorem pool_at {s : ℕ} (hs : s < 4) {a : Fin 8} {i : grid0.Coords} (hi : (i 1).val = s) {P : Vec Ideal S10400x256 .bf16} {X : Map 256} (H : Holds 7 s a P X)
    {x0 x1 x2 x3 : Vec Ideal S1x50x1 .i32} {x4 : Vec Ideal S1x50x1 .f32} {x5 x6 : Vec Ideal S1x8800 .i32}
    {w1 : Vec Ideal S256x256 .bf16} {b1 : Vec Ideal S1x256 .f32} {w2 : Vec Ideal S256x256 .bf16} {b2 : Vec Ideal S1x256 .f32}
    {W1 W2 : Wts 256 256 1} {B1 B2 : Bias 256} (h1 : Dense w1 W1) (g1 : Row b1 B1) (h2 : Dense w2 W2) (g2 : Row b2 B2)
    (h5 : ∀ p : Fin 8800, x5 (ix2 0 p) = BitVec.ofNat 32 (p.val / 88)) (h6 : ∀ p : Fin 8800, x6 (ix2 0 p) = BitVec.ofNat 32 (p.val % 88))
    (k : Fin 50) (o : Fin 256) {u d l r : ℕ} (hu : x0 (ix3 0 k 0) = BitVec.ofNat 32 u) (hd : x1 (ix3 0 k 0) = BitVec.ofNat 32 d)
    (hl : x2 (ix3 0 k 0) = BitVec.ofNat 32 l) (hr : x3 (ix3 0 k 0) = BitVec.ofNat 32 r) (bu : u ≤ 100) (bd : d ≤ 100) (bl : 6 ≤ l) (bl' : l ≤ 346) (br : r ≤ 346) :
    pool (F := Ideal) i x0 x1 x2 x3 x4 x5 x6 w1 b1 w2 b2 P (ix2 k o)
      = (∑ h : Fin 100, ∑ j : Fin 88, if (u ≤ h.val ∧ h.val < d) ∧ l ≤ 88 * s + j.val ∧ 88 * s + j.val < r
          then conv1 (conv1 X W1 B1) W2 B2 (ix4 a o h ⟨88 * s + j.val, by omega⟩) else 0) * x4 (ix3 0 k 0) := by
  unfold pool
  rw [pay40_apply]
  congr 1
  rw [sum_pixels]
  refine Finset.sum_congr rfl fun h _ => Finset.sum_congr rfl fun j _ => ?_
  have e5 : k0_pay38 (F := Ideal) x5 (ix2 0 ⟨h.val * 88 + j.val, by omega⟩) = BitVec.ofNat 32 h.val := by
    rw [show k0_pay38 (F := Ideal) x5 = shapeCast S1x8800 x5 shapeCasts_S1x8800_S1x8800 from rfl, shapeCast_apply _ _ _ _ rfl, h5]
    congr 1
    show (h.val * 88 + j.val) / 88 = h.val
    omega
  have e6 : k0_pay39 (F := Ideal) x6 (ix2 0 ⟨h.val * 88 + j.val, by omega⟩) + Scalar.muli (BitVec.ofNat 32 (i 1).val) 88#32 = BitVec.ofNat 32 (88 * s + j.val) := by
    rw [show k0_pay39 (F := Ideal) x6 = shapeCast S1x8800 x6 shapeCasts_S1x8800_S1x8800 from rfl, shapeCast_apply _ _ _ _ rfl, h6, hi]
    show BitVec.ofNat 32 ((h.val * 88 + j.val) % 88) + BitVec.ofNat 32 s * BitVec.ofNat 32 88 = _
    rw [← BitVec.ofNat_mul, ← BitVec.ofNat_add]
    congr 1
    omega
  rw [hu, hd, hl, hr, e5, e6]
  have hb := inBox_ofNat (u := u) (d := d) (l := l) (r := r) (h := h.val) (w := 88 * s + j.val) (by omega) (by omega) (by omega) (by omega) (by omega) (by omega)
  by_cases hc : (u ≤ h.val ∧ h.val < d) ∧ l ≤ 88 * s + j.val ∧ 88 * s + j.val < r
  · rw [if_pos (hb.mpr hc), if_pos hc, one_mul]
    exact pay37_at H h1 g1 h2 g2 h j ⟨88 * s + j.val, by omega⟩ rfl (by show 6 ≤ 88 * s + j.val; omega) (by show 88 * s + j.val ≤ 345; omega) o
  · rw [if_neg (fun h => hc (hb.mp h)), if_neg hc, zero_mul]

end Cert.KernelIdeal.Gen

end
-- ==== Proof.KIWords.lean ====
/-
  The row and the column of a pixel, as the host computes them from its number: a quotient and a remainder by 88.
-/
module

public import proofs.«01_k».proof.Proof.Gen.KernelIdeal.Launch

@[expose] public section

set_option maxRecDepth 65536

noncomputable section

namespace Cert.KernelIdeal.Gen

open Idealize.ShloMosaic

/-- The quotient by 88 rounded down, as the host spells it, of one word. -/
def quo88 (x : BitVec 32) : BitVec 32 :=
  let X : IVec S_ 32 := fun _ => x
  let N := constantI S_ 32 88#32
  select (andi (cmpi .ne (signi X) (signi N)) (cmpi .ne (Host.remsi X N) (constantI S_ 32 0#32))) (subi (Host.divsi X N) (constantI S_ 32 1#32)) (Host.divsi X N) (fun a => a.elim0)
/-- The remainder by 88 with the divisor's sign, as the host spells it, of one word. -/
def rem88 (x : BitVec 32) : BitVec 32 :=
  let X : IVec S_ 32 := fun _ => x
  let Z := constantI S_ 32 0#32
  let N := select (cmpi .eq (constantI S_ 32 88#32) Z) (constantI S_ 32 1#32) (constantI S_ 32 88#32)
  let R := Host.remsi X N
  select (andi (cmpi .ne (cmpi .slt R Z) (cmpi .slt N Z)) (cmpi .ne R Z)) (addi R N) R (fun a => a.elim0)

theorem quo88_eq : ∀ (a : Fin 100) (b : Fin 88), quo88 (BitVec.ofNat 32 (88 * a.val + b.val)) = BitVec.ofNat 32 a.val := by decide +kernel
theorem rem88_eq : ∀ (a : Fin 100) (b : Fin 88), rem88 (BitVec.ofNat 32 (88 * a.val + b.val)) = BitVec.ofNat 32 b.val := by decide +kernel

end Cert.KernelIdeal.Gen

end
-- ==== Proof.KIHost.lean ====
/-
  The arrays that the host operations hand to the kernel, read at an index: the padded features, the boxes' edges, the
  reciprocal areas, the rows and columns of the pixels, and each layer's weights and biases.
-/
module

public import proofs.«01_k».proof.Proof.KIFrame
public import proofs.«01_k».proof.Proof.KIPool
public import proofs.«01_k».proof.Proof.KIWords
public import Idealize.ShloMosaic.Lib.StableHlo.RunRead
public import Idealize.ShloMosaic.Lib.Pipeline.Value
public import Idealize.ShloMosaic.Lib.IdealHost
public import Idealize.ShloMosaic.Lib.KernelVsHost
public import Idealize.ShloMosaic.Lib.Pipeline.ValueKit

@[expose] public section

set_option maxRecDepth 65536

noncomputable section

namespace Cert.KernelIdeal.Gen

open Idealize.ShloMosaic Idealize.ShloMosaic.TcCoe Idealize.SL.Sem
open Cert.Super

variable (m : (ℓ : Loc nD τ sig) → Buf (Elt Ideal) ℓ)

/-- Weights with their taps first, the channels in order. -/
theorem taps_of {C O : ℕ} (W : Wts O C 3) (h1 : (⟨4, ![O, C, 3, 3]⟩ : Shape).Transposes [2, 3, 1, 0] ⟨4, ![3, 3, C, O]⟩)
    (h2 : (⟨4, ![3, 3, C, O]⟩ : Shape).ShapeCasts ⟨3, ![9, C, O]⟩) :
    Taps (shapeCast ⟨3, ![9, C, O]⟩ (transpose ⟨4, ![3, 3, C, O]⟩ [2, 3, 1, 0] W h1) h2) W := fun t c o => by
  refine (shapeCast_apply _ h2 _ (ValueIdx.ix4 (tdy t) (tdx t) c o) ?_).trans ?_
  · rw [Shape.rowMajor_val_three, Shape.rowMajor_val_four]
    show (((t.val / 3) * 3 + t.val % 3) * C + c.val) * O + o.val = (t.val * C + c.val) * O + o.val
    rw [show t.val / 3 * 3 + t.val % 3 = t.val by omega]
  · refine transpose_apply _ _ h1 _ (ValueIdx.ix4 o c (tdy t) (tdx t)) fun b => ?_
    match b with
    | ⟨0, _⟩ => rfl
    | ⟨1, _⟩ => rfl
    | ⟨2, _⟩ => rfl
    | ⟨3, _⟩ => rfl

/-- Biases laid out as one row. -/
theorem row_of {O : ℕ} (B : Bias O) (h : (⟨1, ![O]⟩ : Shape).ShapeCasts ⟨2, ![1, O]⟩) : Row (shapeCast ⟨2, ![1, O]⟩ B h) B := fun o => by
  refine shapeCast_apply _ h _ (ValueIdx.ix1 o) ?_
  rw [Shape.rowMajor_val_two, Shape.rowMajor_val_one]
  show o.val = 0 * O + o.val
  omega

/-- The weights of a 1x1 convolution, transposed. -/
theorem dense_of (W : Wts 256 256 1) (h1 : (⟨4, ![256, 256, 1, 1]⟩ : Shape).ShapeCasts ⟨2, ![256, 256]⟩) (h2 : (⟨2, ![256, 256]⟩ : Shape).Transposes [1, 0] ⟨2, ![256, 256]⟩) :
    Dense (transpose ⟨2, ![256, 256]⟩ [1, 0] (shapeCast ⟨2, ![256, 256]⟩ W h1) h2) W := fun c o => by
  refine (transpose_apply _ _ h2 _ (ValueIdx.ix2 o c) fun b => ?_).trans (shapeCast_apply _ h1 _ (ValueIdx.ix4 o c 0 0) ?_)
  · match b with
    | ⟨0, _⟩ => rfl
    | ⟨1, _⟩ => rfl
  rw [Shape.rowMajor_val_two, Shape.rowMajor_val_four]
  show ((o.val * 256 + c.val) * 1 + 0) * 1 + 0 = o.val * 256 + c.val
  omega

/-- The padded features at an index. -/
theorem padded_at (X : Map 64) (h1 : S8x64x100x352.Transposes [0, 2, 3, 1] S8x100x352x64) (h2 : S8x100x352x64.Pads ![0, 1, 8, 0] ![0, 1, 8, 0] ![0, 0, 0, 0] S8x102x368x64)
    (h3 : 0 < S_.numel) (a : Fin 8) (r : Fin 102) (j : Fin 368) (k : Fin 64) :
    pad S8x102x368x64 ![0, 1, 8, 0] ![0, 1, 8, 0] ![0, 0, 0, 0] (transpose S8x100x352x64 [0, 2, 3, 1] X h1) (sitofp (F := Ideal) .f32 (constantI S_ 32 0#32)) h2 h3 (ValueIdx.ix4 a r j k)
      = at0 X a k r.val (j.val - 7) := by
  have hj := j.isLt
  have hr := r.isLt
  unfold at0
  split
  · rename_i h
    refine (pad_apply_of_inside _ _ _ _ _ h2 h3 _ (ValueIdx.ix4 a (⟨r.val - 1, by omega⟩ : Fin 100) (⟨j.val - 7 - 1, by omega⟩ : Fin 352) k) fun b => ?_).trans ?_
    · match b with
      | ⟨0, _⟩ => show a.val = 0 + a.val * 1; omega
      | ⟨1, _⟩ => show r.val = 1 + (r.val - 1) * 1; omega
      | ⟨2, _⟩ => show j.val = 8 + (j.val - 7 - 1) * 1; omega
      | ⟨3, _⟩ => show k.val = 0 + k.val * 1; omega
    · refine transpose_apply _ _ h1 _ _ fun b => ?_
      match b with
      | ⟨0, _⟩ => rfl
      | ⟨1, _⟩ => rfl
      | ⟨2, _⟩ => rfl
      | ⟨3, _⟩ => rfl
  · rename_i h
    have hz : (sitofp (F := Ideal) .f32 (constantI S_ 32 0#32)) (Shape.Idx.first h3) = (0 : EReal) := by
      show (((0#32 : BitVec 32).toInt : ℝ) : EReal) = 0
      simp
    by_cases hr' : 1 ≤ r.val ∧ r.val ≤ 100
    · refine (pad_apply_of_not_inside _ _ _ _ _ h2 h3 _ 2 ?_).trans hz
      show ¬(8 ≤ j.val ∧ (j.val - 8) % 1 = 0 ∧ (j.val - 8) / 1 < 352)
      omega
    · refine (pad_apply_of_not_inside _ _ _ _ _ h2 h3 _ 1 ?_).trans hz
      show ¬(1 ≤ r.val ∧ (r.val - 1) % 1 = 0 ∧ (r.val - 1) / 1 < 100)
      omega

/-- One edge of the boxes. -/
theorem edge_at (n : ℕ) (hn : n < 4) (B : IVec S8x50x4 32) (h1 : S8x50x4.Slices ![0, 0, n] S8x50x1) (h2 : S8x50x1.ShapeCasts S8x50) (h3 : S8x50.ShapeCasts S8x50x1) (a : Fin 8) (k : Fin 50) :
    shapeCast S8x50x1 (shapeCast S8x50 (extractStridedSlice S8x50x1 ![0, 0, n] B h1) h2) h3 (ValueIdx.ix3 a k 0) = B (ValueIdx.ix3 a k ⟨n, hn⟩) := by
  rw [shapeCast_shapeCast]
  refine extractStridedSlice_apply _ _ h1 _ _ fun b => ?_
  match b with
  | ⟨0, _⟩ => show a.val = 0 + a.val; omega
  | ⟨1, _⟩ => show k.val = 0 + k.val; omega
  | ⟨2, _⟩ => rfl

/-- The reciprocal of a box's area. -/
theorem inva_eq {u d l r : ℕ} (hu : u < d) (hd : d ≤ 100) (hl : l < r) (hr : r ≤ 346) :
    Ideal.div 1 (((((BitVec.ofNat 32 d - BitVec.ofNat 32 u) * (BitVec.ofNat 32 r - BitVec.ofNat 32 l) : BitVec 32).toInt : ℝ)) : EReal)
      = ((1 / (((d - u) * (r - l) : ℕ) : ℝ) : ℝ) : EReal) := by
  have e : ((BitVec.ofNat 32 d - BitVec.ofNat 32 u) * (BitVec.ofNat 32 r - BitVec.ofNat 32 l) : BitVec 32) = BitVec.ofNat 32 ((d - u) * (r - l)) := by
    obtain ⟨x, rfl⟩ : ∃ x, d = u + x := ⟨d - u, by omega⟩
    obtain ⟨y, rfl⟩ : ∃ y, r = l + y := ⟨r - l, by omega⟩
    simp only [BitVec.ofNat_add, BitVec.ofNat_mul, Nat.add_sub_cancel_left]
    rw [BitVec.add_comm (BitVec.ofNat 32 u), BitVec.add_comm (BitVec.ofNat 32 l), BitVec.add_sub_cancel, BitVec.add_sub_cancel]
  have hb : (d - u) * (r - l) < 2 ^ 31 := by
    have : (d - u) * (r - l) ≤ 100 * 346 := Nat.mul_le_mul (by omega) (by omega)
    omega
  have hp : 0 < (d - u) * (r - l) := Nat.mul_pos (by omega) (by omega)
  rw [e, WordCmp.toInt_ofNat_of_lt (w := 32) hb, Ideal.div_coe (by exact_mod_cast hp.ne'), one_mul]
  norm_num

theorem V_34 (c : Dev nD) : Taps (V m c main_v34) (m ((c : Thread nD τ).loc main_arg2)) := by
  unfold V; after_reads_simp; exact taps_of _ _ _
theorem V_38 (c : Dev nD) : Taps (V m c main_v38) (m ((c : Thread nD τ).loc main_arg4)) := by
  unfold V; after_reads_simp; exact taps_of _ _ _
theorem V_42 (c : Dev nD) : Taps (V m c main_v42) (m ((c : Thread nD τ).loc main_arg6)) := by
  unfold V; after_reads_simp; exact taps_of _ _ _
theorem V_46 (c : Dev nD) : Taps (V m c main_v46) (m ((c : Thread nD τ).loc main_arg8)) := by
  unfold V; after_reads_simp; exact taps_of _ _ _
theorem V_50 (c : Dev nD) : Taps (V m c main_v50) (m ((c : Thread nD τ).loc main_arg10)) := by
  unfold V; after_reads_simp; exact taps_of _ _ _
theorem V_54 (c : Dev nD) : Taps (V m c main_v54) (m ((c : Thread nD τ).loc main_arg12)) := by
  unfold V; after_reads_simp; exact taps_of _ _ _
theorem V_58 (c : Dev nD) : Taps (V m c main_v58) (m ((c : Thread nD τ).loc main_arg14)) := by
  unfold V; after_reads_simp; exact taps_of _ _ _
theorem V_35 (c : Dev nD) : Row (V m c main_v35) (m ((c : Thread nD τ).loc main_arg3)) := by
  unfold V; after_reads_simp; exact row_of _ _
theorem V_39 (c : Dev nD) : Row (V m c main_v39) (m ((c : Thread nD τ).loc main_arg5)) := by
  unfold V; after_reads_simp; exact row_of _ _
theorem V_43 (c : Dev nD) : Row (V m c main_v43) (m ((c : Thread nD τ).loc main_arg7)) := by
  unfold V; after_reads_simp; exact row_of _ _
theorem V_47 (c : Dev nD) : Row (V m c main_v47) (m ((c : Thread nD τ).loc main_arg9)) := by
  unfold V; after_reads_simp; exact row_of _ _
theorem V_51 (c : Dev nD) : Row (V m c main_v51) (m ((c : Thread nD τ).loc main_arg11)) := by
  unfold V; after_reads_simp; exact row_of _ _
theorem V_55 (c : Dev nD) : Row (V m c main_v55) (m ((c : Thread nD τ).loc main_arg13)) := by
  unfold V; after_reads_simp; exact row_of _ _
theorem V_59 (c : Dev nD) : Row (V m c main_v59) (m ((c : Thread nD τ).loc main_arg15)) := by
  unfold V; after_reads_simp; exact row_of _ _
theorem V_60 (c : Dev nD) : Row (V m c main_v60) (m ((c : Thread nD τ).loc main_arg17)) := by
  unfold V; after_reads_simp; exact row_of _ _
theorem V_61 (c : Dev nD) : Row (V m c main_v61) (m ((c : Thread nD τ).loc main_arg19)) := by
  unfold V; after_reads_simp; exact row_of _ _
theorem V_5 (c : Dev nD) : Dense (V m c main_v5) (m ((c : Thread nD τ).loc main_arg16)) := by
  unfold V; after_reads_simp; exact dense_of _ _ _
theorem V_8 (c : Dev nD) : Dense (V m c main_v8) (m ((c : Thread nD τ).loc main_arg18)) := by
  unfold V; after_reads_simp; exact dense_of _ _ _

theorem V_2 (c : Dev nD) (a : Fin 8) (r : Fin 102) (j : Fin 368) (k : Fin 64) :
    V m c main_v2 (ValueIdx.ix4 a r j k) = at0 (m ((c : Thread nD τ).loc main_arg0)) a k r.val (j.val - 7) := by
  unfold V; after_reads_simp; exact padded_at _ transposes_S8x64x100x352_S8x100x352x64_0_2_3_1 pads_S8x100x352x64_S8x102x368x64_000_110_880_000 h_S_ a r j k

theorem V_11 (c : Dev nD) (a : Fin 8) (k : Fin 50) : V m c main_v11 (ValueIdx.ix3 a k 0) = m ((c : Thread nD τ).loc main_arg1) (ValueIdx.ix3 a k 0) := by
  unfold V; after_reads_simp; exact edge_at 0 (by decide) _ _ _ _ a k
theorem V_14 (c : Dev nD) (a : Fin 8) (k : Fin 50) : V m c main_v14 (ValueIdx.ix3 a k 0) = m ((c : Thread nD τ).loc main_arg1) (ValueIdx.ix3 a k 1) := by
  unfold V; after_reads_simp; exact edge_at 1 (by decide) _ _ _ _ a k
theorem V_17 (c : Dev nD) (a : Fin 8) (k : Fin 50) : V m c main_v17 (ValueIdx.ix3 a k 0) = m ((c : Thread nD τ).loc main_arg1) (ValueIdx.ix3 a k 2) := by
  unfold V; after_reads_simp; exact edge_at 2 (by decide) _ _ _ _ a k
theorem V_20 (c : Dev nD) (a : Fin 8) (k : Fin 50) : V m c main_v20 (ValueIdx.ix3 a k 0) = m ((c : Thread nD τ).loc main_arg1) (ValueIdx.ix3 a k 3) := by
  unfold V; after_reads_simp; exact edge_at 3 (by decide) _ _ _ _ a k

/-- The reciprocal of a box's area, from the box's edges. -/
theorem V_26 (c : Dev nD) (a : Fin 8) (k : Fin 50) {u d l r : ℕ} (hu : u < d) (hd : d ≤ 100) (hl : l < r) (hr : r ≤ 346)
    (el : m ((c : Thread nD τ).loc main_arg1) (ValueIdx.ix3 a k 0) = BitVec.ofNat 32 l) (er : m ((c : Thread nD τ).loc main_arg1) (ValueIdx.ix3 a k 1) = BitVec.ofNat 32 r)
    (eu : m ((c : Thread nD τ).loc main_arg1) (ValueIdx.ix3 a k 2) = BitVec.ofNat 32 u) (ed : m ((c : Thread nD τ).loc main_arg1) (ValueIdx.ix3 a k 3) = BitVec.ofNat 32 d) :
    V m c main_v26 (ValueIdx.ix3 a k 0) = ((1 / (((d - u) * (r - l) : ℕ) : ℝ) : ℝ) : EReal) := by
  rw [← inva_eq hu hd hl hr, ← el, ← er, ← eu, ← ed]
  unfold V; after_reads_simp
  refine (congrArg₂ Ideal.div ?_ (congrArg (fun w : BitVec 32 => ((w.toInt : ℝ) : EReal)) (congrArg₂ (· * ·) (congrArg₂ (· - ·) ?_ ?_) (congrArg₂ (· - ·) ?_ ?_))))
  · exact Ideal.ofBits_one_f32
  · exact edge_at 3 (by decide) _ _ _ _ a k
  · exact edge_at 2 (by decide) _ _ _ _ a k
  · exact edge_at 1 (by decide) _ _ _ _ a k
  · exact edge_at 0 (by decide) _ _ _ _ a k

theorem V_29 (c : Dev nD) (p : Fin 8800) : V m c main_v29 (ValueIdx.ix2 0 p) = BitVec.ofNat 32 (p.val / 88) := by
  unfold V; after_reads_simp
  refine (shapeCast_apply _ shapeCasts_S8800_S1x8800 _ (ValueIdx.ix1 p) ?_).trans ?_
  · rw [Shape.rowMajor_val_two, Shape.rowMajor_val_one]
    show p.val = 0 * 8800 + p.val
    omega
  · simp only [StableHlo.TRef.ofBuf_toBuf]
    show quo88 (BitVec.ofNat 32 p.val) = _
    have h := quo88_eq ⟨p.val / 88, by omega⟩ ⟨p.val % 88, by omega⟩
    rwa [show 88 * (p.val / 88) + p.val % 88 = p.val by omega] at h
theorem V_31 (c : Dev nD) (p : Fin 8800) : V m c main_v31 (ValueIdx.ix2 0 p) = BitVec.ofNat 32 (p.val % 88) := by
  unfold V; after_reads_simp
  refine (shapeCast_apply _ shapeCasts_S8800_S1x8800 _ (ValueIdx.ix1 p) ?_).trans ?_
  · rw [Shape.rowMajor_val_two, Shape.rowMajor_val_one]
    show p.val = 0 * 8800 + p.val
    omega
  · simp only [StableHlo.TRef.ofBuf_toBuf]
    show rem88 (BitVec.ofNat 32 p.val) = _
    have h := rem88_eq ⟨p.val / 88, by omega⟩ ⟨p.val % 88, by omega⟩
    rwa [show 88 * (p.val / 88) + p.val % 88 = p.val by omega] at h

end Cert.KernelIdeal.Gen

end
-- ==== Proof.KIBlocks.lean ====
/-
  The blocks of the arrays that a grid point holds: an image's rows of the box arrays, and every other array whole.
-/
module

public import proofs.«01_k».proof.Proof.KIHost
public import Idealize.ShloMosaic.Lib.Pipeline.ValueKit

@[expose] public section

set_option maxRecDepth 65536

noncomputable section

namespace Cert.KernelIdeal.Gen

open Idealize.ShloMosaic Idealize.ShloMosaic.TcCoe Idealize.SL.Sem
open Cert.Super

variable (m : (ℓ : Loc nD τ sig) → Buf (Elt Ideal) ℓ)

theorem coords_0 : ∀ t : Fin cfg0.N, (grid0.coords t 0).val = t.val / 4 := by decide
theorem coords_1 : ∀ t : Fin cfg0.N, (grid0.coords t 1).val = t.val % 4 := by decide

/-- The image of a grid point. -/
def img (t : Fin cfg0.N) : Fin 8 := ⟨t.val / 4, by have := t.isLt; change t.val < 32 at this; omega⟩

theorem index_0 : ∀ t : Fin cfg0.N, (cfg0.win 0).index t 0 = t.val / 4 ∧ (cfg0.win 0).index t 1 = 0 ∧ (cfg0.win 0).index t 2 = 0 := by decide +kernel
theorem iblk_0 (c : Dev nD) (t : Fin cfg0.N) (k : Fin 50) : (iblk m c 0 t : Vec Ideal S1x50x1 .i32) (ValueIdx.ix3 0 k 0) = V m c main_v17 (ValueIdx.ix3 (img t) k 0) := by
  obtain ⟨e0, e1, e2⟩ := index_0 t
  blk_ext [iblk, img, e0, e1, e2]
theorem index_1 : ∀ t : Fin cfg0.N, (cfg0.win 1).index t 0 = t.val / 4 ∧ (cfg0.win 1).index t 1 = 0 ∧ (cfg0.win 1).index t 2 = 0 := by decide +kernel
theorem iblk_1 (c : Dev nD) (t : Fin cfg0.N) (k : Fin 50) : (iblk m c 1 t : Vec Ideal S1x50x1 .i32) (ValueIdx.ix3 0 k 0) = V m c main_v20 (ValueIdx.ix3 (img t) k 0) := by
  obtain ⟨e0, e1, e2⟩ := index_1 t
  blk_ext [iblk, img, e0, e1, e2]
theorem index_2 : ∀ t : Fin cfg0.N, (cfg0.win 2).index t 0 = t.val / 4 ∧ (cfg0.win 2).index t 1 = 0 ∧ (cfg0.win 2).index t 2 = 0 := by decide +kernel
theorem iblk_2 (c : Dev nD) (t : Fin cfg0.N) (k : Fin 50) : (iblk m c 2 t : Vec Ideal S1x50x1 .i32) (ValueIdx.ix3 0 k 0) = V m c main_v11 (ValueIdx.ix3 (img t) k 0) := by
  obtain ⟨e0, e1, e2⟩ := index_2 t
  blk_ext [iblk, img, e0, e1, e2]
theorem index_3 : ∀ t : Fin cfg0.N, (cfg0.win 3).index t 0 = t.val / 4 ∧ (cfg0.win 3).index t 1 = 0 ∧ (cfg0.win 3).index t 2 = 0 := by decide +kernel
theorem iblk_3 (c : Dev nD) (t : Fin cfg0.N) (k : Fin 50) : (iblk m c 3 t : Vec Ideal S1x50x1 .i32) (ValueIdx.ix3 0 k 0) = V m c main_v14 (ValueIdx.ix3 (img t) k 0) := by
  obtain ⟨e0, e1, e2⟩ := index_3 t
  blk_ext [iblk, img, e0, e1, e2]
theorem index_4 : ∀ t : Fin cfg0.N, (cfg0.win 4).index t 0 = t.val / 4 ∧ (cfg0.win 4).index t 1 = 0 ∧ (cfg0.win 4).index t 2 = 0 := by decide +kernel
theorem iblk_4 (c : Dev nD) (t : Fin cfg0.N) (k : Fin 50) : (iblk m c 4 t : Vec Ideal S1x50x1 .f32) (ValueIdx.ix3 0 k 0) = V m c main_v26 (ValueIdx.ix3 (img t) k 0) := by
  obtain ⟨e0, e1, e2⟩ := index_4 t
  blk_ext [iblk, img, e0, e1, e2]
theorem index_5 : ∀ (t : Fin cfg0.N) a, (cfg0.win 5).index t a = 0 := by decide +kernel
theorem iblk_5 (c : Dev nD) (t : Fin cfg0.N) (y : S1x8800.Idx) : (iblk m c 5 t : Vec Ideal S1x8800 .i32) y = V m c main_v29 y := by
  blk_ext [iblk, index_5 t]
theorem index_6 : ∀ (t : Fin cfg0.N) a, (cfg0.win 6).index t a = 0 := by decide +kernel
theorem iblk_6 (c : Dev nD) (t : Fin cfg0.N) (y : S1x8800.Idx) : (iblk m c 6 t : Vec Ideal S1x8800 .i32) y = V m c main_v31 y := by
  blk_ext [iblk, index_6 t]
theorem index_7 : ∀ (t : Fin cfg0.N) a, (cfg0.win 7).index t a = 0 := by decide +kernel
theorem iblk_7 (c : Dev nD) (t : Fin cfg0.N) (y : S9x64x128.Idx) : (iblk m c 7 t : Vec Ideal S9x64x128 .bf16) y = V m c main_v34 y := by
  blk_ext [iblk, index_7 t]
theorem index_8 : ∀ (t : Fin cfg0.N) a, (cfg0.win 8).index t a = 0 := by decide +kernel
theorem iblk_8 (c : Dev nD) (t : Fin cfg0.N) (y : S1x128.Idx) : (iblk m c 8 t : Vec Ideal S1x128 .f32) y = V m c main_v35 y := by
  blk_ext [iblk, index_8 t]
theorem index_9 : ∀ (t : Fin cfg0.N) a, (cfg0.win 9).index t a = 0 := by decide +kernel
theorem iblk_9 (c : Dev nD) (t : Fin cfg0.N) (y : S9x128x128.Idx) : (iblk m c 9 t : Vec Ideal S9x128x128 .bf16) y = V m c main_v38 y := by
  blk_ext [iblk, index_9 t]
theorem index_10 : ∀ (t : Fin cfg0.N) a, (cfg0.win 10).index t a = 0 := by decide +kernel
theorem iblk_10 (c : Dev nD) (t : Fin cfg0.N) (y : S1x128.Idx) : (iblk m c 10 t : Vec Ideal S1x128 .f32) y = V m c main_v39 y := by
  blk_ext [iblk, index_10 t]
theorem index_11 : ∀ (t : Fin cfg0.N) a, (cfg0.win 11).index t a = 0 := by decide +kernel
theorem iblk_11 (c : Dev nD) (t : Fin cfg0.N) (y : S9x128x128.Idx) : (iblk m c 11 t : Vec Ideal S9x128x128 .bf16) y = V m c main_v42 y := by
  blk_ext [iblk, index_11 t]
theorem index_12 : ∀ (t : Fin cfg0.N) a, (cfg0.win 12).index t a = 0 := by decide +kernel
theorem iblk_12 (c : Dev nD) (t : Fin cfg0.N) (y : S1x128.Idx) : (iblk m c 12 t : Vec Ideal S1x128 .f32) y = V m c main_v43 y := by
  blk_ext [iblk, index_12 t]
theorem index_13 : ∀ (t : Fin cfg0.N) a, (cfg0.win 13).index t a = 0 := by decide +kernel
theorem iblk_13 (c : Dev nD) (t : Fin cfg0.N) (y : S9x128x128.Idx) : (iblk m c 13 t : Vec Ideal S9x128x128 .bf16) y = V m c main_v46 y := by
  blk_ext [iblk, index_13 t]
theorem index_14 : ∀ (t : Fin cfg0.N) a, (cfg0.win 14).index t a = 0 := by decide +kernel
theorem iblk_14 (c : Dev nD) (t : Fin cfg0.N) (y : S1x128.Idx) : (iblk m c 14 t : Vec Ideal S1x128 .f32) y = V m c main_v47 y := by
  blk_ext [iblk, index_14 t]
theorem index_15 : ∀ (t : Fin cfg0.N) a, (cfg0.win 15).index t a = 0 := by decide +kernel
theorem iblk_15 (c : Dev nD) (t : Fin cfg0.N) (y : S9x128x256.Idx) : (iblk m c 15 t : Vec Ideal S9x128x256 .bf16) y = V m c main_v50 y := by
  blk_ext [iblk, index_15 t]
theorem index_16 : ∀ (t : Fin cfg0.N) a, (cfg0.win 16).index t a = 0 := by decide +kernel
theorem iblk_16 (c : Dev nD) (t : Fin cfg0.N) (y : S1x256.Idx) : (iblk m c 16 t : Vec Ideal S1x256 .f32) y = V m c main_v51 y := by
  blk_ext [iblk, index_16 t]
theorem index_17 : ∀ (t : Fin cfg0.N) a, (cfg0.win 17).index t a = 0 := by decide +kernel
theorem iblk_17 (c : Dev nD) (t : Fin cfg0.N) (y : S9x256x256.Idx) : (iblk m c 17 t : Vec Ideal S9x256x256 .bf16) y = V m c main_v54 y := by
  blk_ext [iblk, index_17 t]
theorem index_18 : ∀ (t : Fin cfg0.N) a, (cfg0.win 18).index t a = 0 := by decide +kernel
theorem iblk_18 (c : Dev nD) (t : Fin cfg0.N) (y : S1x256.Idx) : (iblk m c 18 t : Vec Ideal S1x256 .f32) y = V m c main_v55 y := by
  blk_ext [iblk, index_18 t]
theorem index_19 : ∀ (t : Fin cfg0.N) a, (cfg0.win 19).index t a = 0 := by decide +kernel
theorem iblk_19 (c : Dev nD) (t : Fin cfg0.N) (y : S9x256x256.Idx) : (iblk m c 19 t : Vec Ideal S9x256x256 .bf16) y = V m c main_v58 y := by
  blk_ext [iblk, index_19 t]
theorem index_20 : ∀ (t : Fin cfg0.N) a, (cfg0.win 20).index t a = 0 := by decide +kernel
theorem iblk_20 (c : Dev nD) (t : Fin cfg0.N) (y : S1x256.Idx) : (iblk m c 20 t : Vec Ideal S1x256 .f32) y = V m c main_v59 y := by
  blk_ext [iblk, index_20 t]
theorem index_21 : ∀ (t : Fin cfg0.N) a, (cfg0.win 21).index t a = 0 := by decide +kernel
theorem iblk_21 (c : Dev nD) (t : Fin cfg0.N) (y : S256x256.Idx) : (iblk m c 21 t : Vec Ideal S256x256 .bf16) y = V m c main_v5 y := by
  blk_ext [iblk, index_21 t]
theorem index_22 : ∀ (t : Fin cfg0.N) a, (cfg0.win 22).index t a = 0 := by decide +kernel
theorem iblk_22 (c : Dev nD) (t : Fin cfg0.N) (y : S1x256.Idx) : (iblk m c 22 t : Vec Ideal S1x256 .f32) y = V m c main_v60 y := by
  blk_ext [iblk, index_22 t]
theorem index_23 : ∀ (t : Fin cfg0.N) a, (cfg0.win 23).index t a = 0 := by decide +kernel
theorem iblk_23 (c : Dev nD) (t : Fin cfg0.N) (y : S256x256.Idx) : (iblk m c 23 t : Vec Ideal S256x256 .bf16) y = V m c main_v8 y := by
  blk_ext [iblk, index_23 t]
theorem index_24 : ∀ (t : Fin cfg0.N) a, (cfg0.win 24).index t a = 0 := by decide +kernel
theorem iblk_24 (c : Dev nD) (t : Fin cfg0.N) (y : S1x256.Idx) : (iblk m c 24 t : Vec Ideal S1x256 .f32) y = V m c main_v61 y := by
  blk_ext [iblk, index_24 t]

/-- The copied block of the padded features, at an index. -/
theorem copied_at (c : Dev nD) (i : grid0.Coords) (f : HbBuf0 (F := Ideal) c hbM0_0) (r : Fin 102) (j : Fin 104) (k : Fin 64) (a : Fin 8) (q : Fin 368)
    (ha : a.val = (i 0).val) (hq : q.val = 88 * (i 1).val + j.val) : copied c i f (ValueIdx.ix3 r j k) = f (ValueIdx.ix4 a r q k) := by
  unfold copied
  rw [Memref.read_squeeze_slice _ _ _ _ (show S1x102x104x64.ShapeCasts S102x104x64 by decide)]
  refine (shapeCast_apply _ _ _ (ValueIdx.ix4 (0 : Fin 1) r j k) ?_).trans ?_
  · rw [Shape.rowMajor_val_three, Shape.rowMajor_val_four]
    show ((0 * 102 + r.val) * 104 + j.val) * 64 + k.val = (r.val * 104 + j.val) * 64 + k.val
    omega
  · have h := k0_off1_eq i
    refine congrArg f (funext fun b => Fin.ext ?_)
    match b with
    | ⟨0, _⟩ => show k0_off1 i 0 + 1 * 0 = a.val; rw [h]; show (i 0).val + 1 * 0 = a.val; omega
    | ⟨1, _⟩ => show k0_off1 i 1 + 1 * r.val = r.val; rw [h]; show 0 + 1 * r.val = r.val; omega
    | ⟨2, _⟩ => show k0_off1 i 2 + 1 * j.val = q.val; rw [h]; show 88 * (i 1).val + 1 * j.val = q.val; omega
    | ⟨3, _⟩ => show k0_off1 i 3 + 1 * k.val = k.val; rw [h]; show 0 + 1 * k.val = k.val; omega

/-- The copied block is the strip of the features around the point's columns. -/
theorem copied_strip (c : Dev nD) (t : Fin cfg0.N) : Strip (t.val % 4) (img t) (copied c (grid0.coords t) (V m c main_v2)) (m ((c : Thread nD τ).loc main_arg0)) := fun r j k => by
  have hj := j.isLt
  have hs : t.val % 4 < 4 := Nat.mod_lt _ (by omega)
  rw [copied_at c _ (V m c main_v2) r j k (img t) ⟨88 * (t.val % 4) + j.val, by omega⟩ (coords_0 t).symm (by rw [coords_1])]
  exact V_2 m c _ _ _ _

end Cert.KernelIdeal.Gen

end
-- ==== Proof.KIFinal.lean ====
/-
  What the kernel leaves in its result: the average over each box of the map that the layers compute.
-/
module

public import proofs.«01_k».proof.Proof.KIBlocks

@[expose] public section

set_option maxRecDepth 65536

noncomputable section

namespace Cert.KernelIdeal.Gen

open Idealize.ShloMosaic Idealize.ShloMosaic.TcCoe Idealize.SL.Sem
open Idealize.ShloMosaic.Pipeline (Dat Cfg Window)
open Cert.Super
open scoped BigOperators

variable (m : (ℓ : Loc nD τ sig) → Buf (Elt Ideal) ℓ)

/-- The map of the layers, over the arguments' contents. -/
def theMap (c : Dev nD) : Map 256 :=
  feats (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

/-- The edges of a box of device `c`, as words of naturals. -/
structure Edges (c : Dev nD) (a : Fin 8) (k : Fin 50) (u d l r : ℕ) : Prop where
  el : m ((c : Thread nD τ).loc main_arg1) (ValueIdx.ix3 a k 0) = BitVec.ofNat 32 l
  er : m ((c : Thread nD τ).loc main_arg1) (ValueIdx.ix3 a k 1) = BitVec.ofNat 32 r
  eu : m ((c : Thread nD τ).loc main_arg1) (ValueIdx.ix3 a k 2) = BitVec.ofNat 32 u
  ed : m ((c : Thread nD τ).loc main_arg1) (ValueIdx.ix3 a k 3) = BitVec.ofNat 32 d
  hu : u < d
  hd : d ≤ 100
  hl : 6 ≤ l
  hlr : l < r
  hr : r ≤ 346

/-- The part of a box's sum in one strip. -/
def stripSum (y : Map 256) (a : Fin 8) (o : Fin 256) (u d l r s : ℕ) (hs : s < 4) : EReal :=
  ∑ h : Fin 100, ∑ j : Fin 88, if (u ≤ h.val ∧ h.val < d) ∧ l ≤ 88 * s + j.val ∧ 88 * s + j.val < r then y (ValueIdx.ix4 a o h ⟨88 * s + j.val, by omega⟩) else 0

/-- The four strips of a box make the box. -/
theorem strips_box (y : Map 256) (a : Fin 8) (o : Fin 256) (u d l r : ℕ) :
    ((stripSum y a o u d l r 0 (by omega) + stripSum y a o u d l r 1 (by omega)) + stripSum y a o u d l r 2 (by omega)) + stripSum y a o u d l r 3 (by omega) = boxSum y a o u d l r := by
  have e : boxSum y a o u d l r = ∑ s : Fin 4, stripSum y a o u d l r s.val s.isLt := by
    unfold boxSum stripSum
    refine Eq.trans (Finset.sum_congr rfl fun h _ => ?_) Finset.sum_comm
    refine Eq.trans ?_ (Fintype.sum_prod_type' (fun (s : Fin 4) (j : Fin 88) =>
      if (u ≤ h.val ∧ h.val < d) ∧ l ≤ 88 * s.val + j.val ∧ 88 * s.val + j.val < r then y (ValueIdx.ix4 a o h ⟨88 * s.val + j.val, by omega⟩) else (0 : EReal)))
    refine (Fintype.sum_equiv (finProdFinEquiv (m := 4) (n := 88)) _ _ fun x => ?_).symm
    have hx : (finProdFinEquiv x).val = 88 * x.1.val + x.2.val := by
      show x.2.val + 88 * x.1.val = 88 * x.1.val + x.2.val
      omega
    rw [show finProdFinEquiv x = (⟨88 * x.1.val + x.2.val, by omega⟩ : Fin (4 * 88)) from Fin.ext hx]
  rw [e, Fin.sum_univ_four]
  rfl

/-- What a grid point adds. -/
def partAt (c : Dev nD) (t : Fin cfg0.N) : FVec Ideal S50x256 .f32 :=
  pool (grid0.coords t) (iblk m c 0 t) (iblk m c 1 t) (iblk m c 2 t) (iblk m c 3 t) (iblk m c 4 t) (iblk m c 5 t) (iblk m c 6 t) (iblk m c 21 t) (iblk m c 22 t) (iblk m c 23 t) (iblk m c 24 t)
    (feat7 (copied c (grid0.coords t) (V m c main_v2)) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t))

theorem features_at (c : Dev nD) (t : Fin cfg0.N) :
    Holds 7 (t.val % 4) (img t) (feat7 (F := Ideal) (copied c (grid0.coords t) (V m c main_v2)) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t))
      (trunk (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) :=
  feat7_holds (copied_strip m c t) (fun t' c' o => (iblk_7 m c t _).trans (V_34 m c t' c' o)) (fun o => (iblk_8 m c t _).trans (V_35 m c o)) (fun t' c' o => (iblk_9 m c t _).trans (V_38 m c t' c' o)) (fun o => (iblk_10 m c t _).trans (V_39 m c o)) (fun t' c' o => (iblk_11 m c t _).trans (V_42 m c t' c' o)) (fun o => (iblk_12 m c t _).trans (V_43 m c o)) (fun t' c' o => (iblk_13 m c t _).trans (V_46 m c t' c' o)) (fun o => (iblk_14 m c t _).trans (V_47 m c o)) (fun t' c' o => (iblk_15 m c t _).trans (V_50 m c t' c' o)) (fun o => (iblk_16 m c t _).trans (V_51 m c o)) (fun t' c' o => (iblk_17 m c t _).trans (V_54 m c t' c' o)) (fun o => (iblk_18 m c t _).trans (V_55 m c o)) (fun t' c' o => (iblk_19 m c t _).trans (V_58 m c t' c' o)) (fun o => (iblk_20 m c t _).trans (V_59 m c o))

theorem partAt_eq (c : Dev nD) (t : Fin cfg0.N) (k : Fin 50) (o : Fin 256) {u d l r : ℕ} (E : Edges m c (img t) k u d l r) :
    partAt m c t (ValueIdx.ix2 k o) = stripSum (theMap m c) (img t) o u d l r (t.val % 4) (Nat.mod_lt _ (by omega)) * ((1 / (((d - u) * (r - l) : ℕ) : ℝ) : ℝ) : EReal) := by
  have hd := E.hd
  have hu := E.hu
  have hl := E.hl
  have hlr := E.hlr
  have hr := E.hr
  unfold partAt
  refine (pool_at (Nat.mod_lt _ (by omega)) (coords_1 t) (features_at m c t) (fun c' o => (iblk_21 m c t _).trans (V_5 m c c' o)) (fun o => (iblk_22 m c t _).trans (V_60 m c o))
    (fun c' o => (iblk_23 m c t _).trans (V_8 m c c' o)) (fun o => (iblk_24 m c t _).trans (V_61 m c o))
    (fun p => (iblk_5 m c t _).trans (V_29 m c p)) (fun p => (iblk_6 m c t _).trans (V_31 m c p)) k o
    (((iblk_0 m c t k).trans (V_17 m c _ k)).trans E.eu) (((iblk_1 m c t k).trans (V_20 m c _ k)).trans E.ed)
    (((iblk_2 m c t k).trans (V_11 m c _ k)).trans E.el) (((iblk_3 m c t k).trans (V_14 m c _ k)).trans E.er)
    (by omega) (by omega) (by omega) (by omega) (by omega)).trans ?_
  exact congrArg (stripSum (theMap m c) (img t) o u d l r (t.val % 4) (Nat.mod_lt _ (by omega)) * ·) ((iblk_4 m c t k).trans (V_26 m c _ k E.hu E.hd E.hlr E.hr E.el E.er E.eu E.ed))

theorem shape_at (P : FVec Ideal S50x256 .f32) (h : S50x256.ShapeCasts S1x50x256) (k : Fin 50) (o : Fin 256) :
    shapeCast S1x50x256 P h (ValueIdx.ix3 0 k o) = P (ValueIdx.ix2 k o) := by
  refine shapeCast_apply _ h _ _ ?_
  rw [Shape.rowMajor_val_two, Shape.rowMajor_val_three]
  show k.val * 256 + o.val = (0 * 50 + k.val) * 256 + o.val
  omega

theorem firstAt_at (c : Dev nD) (t : Fin cfg0.N) (k : Fin 50) (o : Fin 256) : firstAt m c t (ValueIdx.ix3 0 k o) = partAt m c t (ValueIdx.ix2 k o) := by
  unfold firstAt outA partAt
  exact shape_at _ _ k o

theorem nextAt_at (c : Dev nD) (t : Fin cfg0.N) (D : Vec Ideal S1x50x256 .f32) (k : Fin 50) (o : Fin 256) :
    nextAt m c t D (ValueIdx.ix3 0 k o) = (D (ValueIdx.ix3 0 k o) : EReal) + partAt m c t (ValueIdx.ix2 k o) := by
  unfold nextAt outB partAt k0_pay1
  refine congrArg₂ (fun x y : EReal => x + y) ?_ (shape_at _ _ k o)
  exact congrFun (shapeCast_self _ _) _

/-- A grid point, by its number. -/
def pt (a : Fin 8) (s : Fin 4) : Fin cfg0.N := ⟨4 * a.val + s.val, by show _ < 32; omega⟩

theorem held_sum (c : Dev nD) (a : Fin 8) (k : Fin 50) (o : Fin 256) :
    (heldAt m c (pt a 3).val (pt a 3).isLt (ValueIdx.ix3 0 k o) : EReal)
      = ((partAt m c (pt a 0) (ValueIdx.ix2 k o) + partAt m c (pt a 1) (ValueIdx.ix2 k o)) + partAt m c (pt a 2) (ValueIdx.ix2 k o)) + partAt m c (pt a 3) (ValueIdx.ix2 k o) := by
  have step : ∀ s : Fin 4, ∀ s' : Fin 4, s'.val = s.val + 1 → (heldAt m c (pt a s').val (pt a s').isLt (ValueIdx.ix3 0 k o) : EReal)
      = heldAt m c (pt a s).val (pt a s).isLt (ValueIdx.ix3 0 k o) + partAt m c (pt a s') (ValueIdx.ix2 k o) := fun s s' hs => by
    rw [heldAt_next m c (pt a s') (by show ¬(4 * a.val + s'.val) % 4 = 0; omega), nextAt_at]
    refine congrArg (fun x : EReal => x + _) ?_
    have e : (pt a s').val - 1 = (pt a s).val := by show 4 * a.val + s'.val - 1 = 4 * a.val + s.val; omega
    simp only [e]
  rw [step 2 3 rfl, step 1 2 rfl, step 0 1 rfl, heldAt_first m c (pt a 0) (by show (4 * a.val + 0) % 4 = 0; omega), firstAt_at]

/-- One box's average. -/
theorem held_eq (c : Dev nD) (a : Fin 8) (k : Fin 50) (o : Fin 256) {u d l r : ℕ} (E : Edges m c a k u d l r) :
    (heldAt m c (pt a 3).val (pt a 3).isLt (ValueIdx.ix3 0 k o) : EReal)
      = boxSum (theMap m c) a o u d l r * ((1 / (((d - u) * (r - l) : ℕ) : ℝ) : ℝ) : EReal) := by
  have hi : ∀ s : Fin 4, img (pt a s) = a := fun s => Fin.ext (by show (4 * a.val + s.val) / 4 = a.val; omega)
  have hs : ∀ s : Fin 4, (pt a s).val % 4 = s.val := fun s => by show (4 * a.val + s.val) % 4 = s.val; omega
  have h : ∀ s : Fin 4, partAt m c (pt a s) (ValueIdx.ix2 k o) = stripSum (theMap m c) a o u d l r s.val s.isLt * ((1 / (((d - u) * (r - l) : ℕ) : ℝ) : ℝ) : EReal) := fun s => by
    rw [partAt_eq m c (pt a s) k o ((hi s).symm ▸ E)]
    simp only [hi, hs]
  have h0 : (0 : EReal) ≤ ((1 / (((d - u) * (r - l) : ℕ) : ℝ) : ℝ) : EReal) := by exact_mod_cast by positivity
  rw [held_sum, h, h, h, h, ← strips_box,
    EReal.right_distrib_of_nonneg_of_ne_top h0 (EReal.coe_ne_top _), EReal.right_distrib_of_nonneg_of_ne_top h0 (EReal.coe_ne_top _), EReal.right_distrib_of_nonneg_of_ne_top h0 (EReal.coe_ne_top _)]
  rfl

theorem index_25 : ∀ t : Fin cfg0.N, (cfg0.win 25).index t 0 = t.val / 4 ∧ (cfg0.win 25).index t 1 = 0 ∧ (cfg0.win 25).index t 2 = 0 := by decide +kernel
theorem flush_25 : ∀ t : Fin cfg0.N, (cfg0.win 25).flush t = true → t.val % 4 = 3 := by decide +kernel

theorem held_congr (c : Dev nD) {n n' : ℕ} (hn : n < cfg0.N) (hn' : n' < cfg0.N) (e : n = n') {y y' : S1x50x256.Idx} (ey : y = y') : heldAt m c n hn y = heldAt m c n' hn' y' := by
  subst e; subst ey; rfl

/-- The result's array after the run. -/
theorem final_25 (c : Dev nD) : (pdat m 0 c).arrAt 25 cfg0.N = fun i : S8x50x256.Idx => heldAt m c (pt (i 0) 3).val (pt (i 0) 3).isLt (ValueIdx.ix3 0 (i 1) (i 2)) := by
  refine (pdat m 0 c).arrAt_eq_of_covers 25 _ (by decide +kernel) fun t hf y => ?_
  have h3 := flush_25 t hf
  obtain ⟨e0, e1, e2⟩ := index_25 t
  blk_simp
  rw [after_25]
  refine held_congr m c _ _ ?_ ?_
  · have h0 : (((win0_25.blk t).view.emb y) 0 : ℕ) = t.val / 4 + (y 0).val := by blk_simp [e0]
    have hy : (y 0).val < 1 := (y 0).isLt
    show t.val = 4 * (((win0_25.blk t).view.emb y) 0 : ℕ) + 3
    omega
  · have h1 : (((win0_25.blk t).view.emb y) 1 : ℕ) = (y 1).val := by blk_simp [e1]
    have h2 : (((win0_25.blk t).view.emb y) 2 : ℕ) = (y 2).val := by blk_simp [e2]
    have hy : (y 0).val < 1 := (y 0).isLt
    refine funext fun b => Fin.ext ?_
    match b with
    | ⟨0, _⟩ => show (y 0).val = 0; omega
    | ⟨1, _⟩ => exact h1.symm
    | ⟨2, _⟩ => exact h2.symm

end Cert.KernelIdeal.Gen

end
-- ==== Proof.RConv.lean ====
/-
  The reference's convolutions over the extended reals: a sum of shifted products for each of the nine taps, the bias and
  the maximum with zero, is the convolution of the specification.
-/
module

public import proofs.«01_k».proof.Proof.Spec
public import Idealize.ShloMosaic.Lib.Pipeline.Value
public import Idealize.ShloMosaic.Lib.ValueIdx
public import Idealize.ShloMosaic.Lib.KernelVsHost
public import Idealize.ShloMosaic.Lib.IdealHost

@[expose] public section

noncomputable section

namespace Cert.Super

open Idealize.ShloMosaic Idealize.ShloMosaic.ValueIdx
open scoped BigOperators

abbrev shX (C : ℕ) : Shape := ⟨4, ![8, C, 100, 352]⟩
abbrev shP (C : ℕ) : Shape := ⟨4, ![8, C, 102, 354]⟩
abbrev shY (O : ℕ) : Shape := ⟨4, ![8, 100, 352, O]⟩
abbrev shM (O C : ℕ) : Shape := ⟨2, ![O, C]⟩
abbrev sh1 (O C n : ℕ) : Shape := ⟨4, ![O, C, n, n]⟩
abbrev shB (O : ℕ) : Shape := ⟨1, ![O]⟩
abbrev shR (O : ℕ) : Shape := ⟨4, ![1, O, 1, 1]⟩
abbrev sh0 : Shape := ⟨0, ![]⟩

/-- What the reference's operations ask of the extents, for a convolution from `C` to `O` channels. -/
structure Side (C O : ℕ) : Prop where
  pads : (shX C).Pads ![0, 0, 1, 1] ![0, 0, 1, 1] ![0, 0, 0, 0] (shP C)
  pos : 0 < sh0.numel
  wf : DotDims.WF (shX C) (shM O C) (shY O) [1] [1] [0, 2, 3] [0] [] []
  cut : ∀ p q : Fin 3, (shP C).Slices ![0, 0, p.val, q.val] (shX C)
  cutW : ∀ p q : Fin 3, (sh1 O C 3).Slices ![0, 0, p.val, q.val] (sh1 O C 1)
  cast : (sh1 O C 1).ShapeCasts (shM O C)
  tr : (shY O).Transposes [0, 3, 1, 2] (shX O)
  zero : sh0.BroadcastsInDim (shX O) (![] : Fin 0 → Fin (shX O).rank)
  biasRow : (shB O).BroadcastsInDim (shR O) (![1] : Fin 1 → Fin (shR O).rank)
  biasAll : (shR O).BroadcastsInDim (shX O) (![0, 1, 2, 3] : Fin 4 → Fin (shX O).rank)

/-- A product over the channels. -/
def chan {C O : ℕ} (wf : DotDims.WF (shX C) (shM O C) (shY O) [1] [1] [0, 2, 3] [0] [] []) : DotDims (shX C) (shM O C) (shY O) where
  lhsContracting := [1]
  rhsContracting := [1]
  lhsNonContracting := [0, 2, 3]
  rhsNonContracting := [0]
  lhsBatch := []
  rhsBatch := []
  wf := wf

theorem chan_at {C O : ℕ} (wf : DotDims.WF (shX C) (shM O C) (shY O) [1] [1] [0, 2, 3] [0] [] []) (X : FVec Ideal (shX C) .f32) (M : FVec Ideal (shM O C) .f32)
    (a : Fin 8) (h : Fin 100) (w : Fin 352) (o : Fin O) :
    (Host.dotGeneral (chan wf) none X M (ix4 a h w o) : EReal) = ∑ c : Fin C, (X (ix4 a c h w) : EReal) * M (ix2 o c) := by
  simp only [Host.dotGeneral]
  rw [Ideal.dotGeneral_apply, ← Equiv.sum_comp (contrEquiv1 (chan wf) C rfl rfl).symm]
  refine Finset.sum_congr rfl fun k _ => ?_
  have hk := contrEquiv1_symm_val (chan wf) C rfl rfl k
  have el : (chan wf).lhsIdx (ix4 a h w o) ((contrEquiv1 (chan wf) C rfl rfl).symm k) = ix4 a k h w := funext fun b => Fin.ext (by
    match b with
    | ⟨0, _⟩ => rfl
    | ⟨1, _⟩ => exact ((chan wf).lhsIdx_val_of_single rfl _ _).trans hk
    | ⟨2, _⟩ => rfl
    | ⟨3, _⟩ => rfl)
  have er : (chan wf).rhsIdx (ix4 a h w o) ((contrEquiv1 (chan wf) C rfl rfl).symm k) = ix2 o k := funext fun b => Fin.ext (by
    match b with
    | ⟨0, _⟩ => rfl
    | ⟨1, _⟩ => exact ((chan wf).rhsIdx_val_of_single rfl _ _).trans hk)
  rw [el, er]

variable {C O : ℕ}

/-- The map with zeros around it. -/
def padded (S : Side C O) (X : FVec Ideal (shX C) .f32) : FVec Ideal (shP C) .f32 :=
  pad (shP C) ![0, 0, 1, 1] ![0, 0, 1, 1] ![0, 0, 0, 0] X (sitofp (F := Ideal) .f32 (constantI sh0 32 0#32)) S.pads S.pos

theorem padded_apply (S : Side C O) (X : FVec Ideal (shX C) .f32) (a : Fin 8) (c : Fin C) (i : Fin 102) (j : Fin 354) :
    padded S X (ix4 a c i j) = at0 X a c i.val j.val := by
  have hi := i.isLt
  have hj := j.isLt
  unfold padded at0
  split
  · rename_i h
    refine pad_apply_of_inside _ _ _ _ _ S.pads S.pos _ (ix4 a c (⟨i.val - 1, by omega⟩ : Fin 100) (⟨j.val - 1, by omega⟩ : Fin 352)) fun b => ?_
    match b with
    | ⟨0, _⟩ => show a.val = 0 + a.val * 1; omega
    | ⟨1, _⟩ => show c.val = 0 + c.val * 1; omega
    | ⟨2, _⟩ => show i.val = 1 + (i.val - 1) * 1; omega
    | ⟨3, _⟩ => show j.val = 1 + (j.val - 1) * 1; omega
  · rename_i h
    have hz : (sitofp (F := Ideal) .f32 (constantI sh0 32 0#32)) (Shape.Idx.first S.pos) = (0 : EReal) := by
      show (((0#32 : BitVec 32).toInt : ℝ) : EReal) = 0
      simp
    by_cases hi' : 1 ≤ i.val ∧ i.val ≤ 100
    · refine (pad_apply_of_not_inside _ _ _ _ _ S.pads S.pos _ 3 ?_).trans hz
      show ¬(1 ≤ j.val ∧ (j.val - 1) % 1 = 0 ∧ (j.val - 1) / 1 < 352)
      omega
    · refine (pad_apply_of_not_inside _ _ _ _ _ S.pads S.pos _ 2 ?_).trans hz
      show ¬(1 ≤ i.val ∧ (i.val - 1) % 1 = 0 ∧ (i.val - 1) / 1 < 100)
      omega

/-- One tap's product. -/
def tapProd (S : Side C O) (P : FVec Ideal (shP C) .f32) (W : FVec Ideal (sh1 O C 3) .f32) (p q : Fin 3) : FVec Ideal (shX O) .f32 :=
  transpose (shX O) [0, 3, 1, 2] (Host.dotGeneral (chan S.wf) none (extractStridedSlice (shX C) ![0, 0, p.val, q.val] P (S.cut p q))
    (shapeCast (shM O C) (extractStridedSlice (sh1 O C 1) ![0, 0, p.val, q.val] W (S.cutW p q)) S.cast)) S.tr

theorem tapProd_at (S : Side C O) (X : FVec Ideal (shX C) .f32) (W : FVec Ideal (sh1 O C 3) .f32) (t : Fin 9) (a : Fin 8) (o : Fin O) (h : Fin 100) (w : Fin 352) :
    tapProd S (padded S X) W (tdy t) (tdx t) (ix4 a o h w) = tapAt X W a o h.val w.val t := by
  unfold tapProd tapAt
  refine (transpose_apply _ _ S.tr _ (ix4 a h w o) fun b => ?_).trans ?_
  · match b with
    | ⟨0, _⟩ => rfl
    | ⟨1, _⟩ => rfl
    | ⟨2, _⟩ => rfl
    | ⟨3, _⟩ => rfl
  · rw [chan_at]
    refine Finset.sum_congr rfl fun c _ => ?_
    rw [mul_comm]
    refine congrArg₂ (fun x y : EReal => x * y) ?_ ?_
    · refine (shapeCast_apply _ S.cast _ (ix4 o c 0 0) ?_).trans ?_
      · rw [Shape.rowMajor_val_two, Shape.rowMajor_val_four]
        show ((o.val * C + c.val) * 1 + 0) * 1 + 0 = o.val * C + c.val
        omega
      · refine extractStridedSlice_apply _ _ (S.cutW (tdy t) (tdx t)) _ _ fun b => ?_
        match b with
        | ⟨0, _⟩ => show o.val = 0 + o.val; omega
        | ⟨1, _⟩ => show c.val = 0 + c.val; omega
        | ⟨2, _⟩ => rfl
        | ⟨3, _⟩ => rfl
    · have hy := (tdy t).isLt
      have hx := (tdx t).isLt
      refine (extractStridedSlice_apply _ _ (S.cut (tdy t) (tdx t)) _ (ix4 a c (⟨h.val + (tdy t).val, by omega⟩ : Fin 102) (⟨w.val + (tdx t).val, by omega⟩ : Fin 354)) fun b => ?_).trans
        (padded_apply S X a c _ _)
      match b with
      | ⟨0, _⟩ => show a.val = 0 + a.val; omega
      | ⟨1, _⟩ => show c.val = 0 + c.val; omega
      | ⟨2, _⟩ => show h.val + (tdy t).val = (tdy t).val + h.val; omega
      | ⟨3, _⟩ => show w.val + (tdx t).val = (tdx t).val + w.val; omega

/-- The bias of each channel, over the whole map. -/
def biasMap (S : Side C O) (b : FVec Ideal (shB O) .f32) : FVec Ideal (shX O) .f32 :=
  broadcastInDim (shX O) ![0, 1, 2, 3] S.biasAll (broadcastInDim (shR O) ![1] S.biasRow b)

theorem biasMap_at (S : Side C O) (b : FVec Ideal (shB O) .f32) (a : Fin 8) (o : Fin O) (h : Fin 100) (w : Fin 352) : biasMap S b (ix4 a o h w) = b (ix1 o) := by
  unfold biasMap
  refine (broadcastInDim_apply _ S.biasAll _ _ (ix4 (0 : Fin 1) o (0 : Fin 1) (0 : Fin 1)) fun e => ?_).trans (broadcastInDim_apply _ S.biasRow _ _ (ix1 o) fun e => ?_)
  · match e with
    | ⟨0, _⟩ => rfl
    | ⟨1, _⟩ => show o.val = if O = 1 then 0 else o.val; have := o.isLt; split <;> omega
    | ⟨2, _⟩ => rfl
    | ⟨3, _⟩ => rfl
  · match e with
    | ⟨0, _⟩ => show o.val = if O = 1 then 0 else o.val; have := o.isLt; split <;> omega

/-- Zeros over the whole map. -/
def zeroMap (S : Side C O) : FVec Ideal (shX O) .f32 := broadcastInDim (shX O) ![] S.zero (constant sh0 .f32 0x00000000#32)

theorem zeroMap_at (S : Side C O) (i : (shX O).Idx) : zeroMap S i = (0 : EReal) := Ideal.ofBits_zero_f32

/-- The reference's 3x3 convolution. -/
def refConv (S : Side C O) (X : FVec Ideal (shX C) .f32) (W : FVec Ideal (sh1 O C 3) .f32) (b : FVec Ideal (shB O) .f32) : FVec Ideal (shX O) .f32 :=
  maximumf (addf (addf (addf (addf (addf (addf (addf (addf (addf (addf (zeroMap S) (tapProd S (padded S X) W 0 0)) (tapProd S (padded S X) W 0 1)) (tapProd S (padded S X) W 0 2))
    (tapProd S (padded S X) W 1 0)) (tapProd S (padded S X) W 1 1)) (tapProd S (padded S X) W 1 2)) (tapProd S (padded S X) W 2 0)) (tapProd S (padded S X) W 2 1)) (tapProd S (padded S X) W 2 2))
    (biasMap S b)) (zeroMap S)

theorem refConv_eq (S : Side C O) (X : FVec Ideal (shX C) .f32) (W : FVec Ideal (sh1 O C 3) .f32) (b : FVec Ideal (shB O) .f32) : refConv S X W b = conv3 X W b := by
  funext i
  obtain ⟨a, o, h, w, rfl⟩ : ∃ a o h w, i = ix4 a o h w := ⟨i 0, i 1, i 2, i 3, funext fun b => by
    match b with
    | ⟨0, _⟩ => rfl
    | ⟨1, _⟩ => rfl
    | ⟨2, _⟩ => rfl
    | ⟨3, _⟩ => rfl⟩
  have T := fun t : Fin 9 => tapProd_at S X W t a o h w
  show max ((((((((((zeroMap S (ix4 a o h w) + tapProd S (padded S X) W (tdy 0) (tdx 0) (ix4 a o h w)) + tapProd S (padded S X) W (tdy 1) (tdx 1) (ix4 a o h w)) + tapProd S (padded S X) W (tdy 2) (tdx 2) (ix4 a o h w))
    + tapProd S (padded S X) W (tdy 3) (tdx 3) (ix4 a o h w)) + tapProd S (padded S X) W (tdy 4) (tdx 4) (ix4 a o h w)) + tapProd S (padded S X) W (tdy 5) (tdx 5) (ix4 a o h w)) + tapProd S (padded S X) W (tdy 6) (tdx 6) (ix4 a o h w))
    + tapProd S (padded S X) W (tdy 7) (tdx 7) (ix4 a o h w)) + tapProd S (padded S X) W (tdy 8) (tdx 8) (ix4 a o h w)) + biasMap S b (ix4 a o h w) : EReal) (zeroMap S (ix4 a o h w)) = _
  rw [T, T, T, T, T, T, T, T, T, zeroMap_at, biasMap_at, zero_add]
  unfold conv3
  have e : (∑ t : Fin 9, tapAt X W a o h.val w.val t) = tapAt X W a o h.val w.val 0 + tapAt X W a o h.val w.val 1 + tapAt X W a o h.val w.val 2 + tapAt X W a o h.val w.val 3 + tapAt X W a o h.val w.val 4
      + tapAt X W a o h.val w.val 5 + tapAt X W a o h.val w.val 6 + tapAt X W a o h.val w.val 7 + tapAt X W a o h.val w.val 8 := by
    rw [Fin.sum_univ_castSucc, Fin.sum_univ_eight]; rfl
  exact congrArg (fun x : EReal => max (x + b (ix1 o)) 0) e.symm

/-- The reference's 1x1 convolution: a padding by nothing, then the product over the channels. -/
def refOne (S : Side C C) (hp : (shX C).Pads ![0, 0, 0, 0] ![0, 0, 0, 0] ![0, 0, 0, 0] (shX C)) (X : FVec Ideal (shX C) .f32) (W : FVec Ideal (sh1 C C 1) .f32) (b : FVec Ideal (shB C) .f32) : FVec Ideal (shX C) .f32 :=
  maximumf (addf (addf (zeroMap S) (transpose (shX C) [0, 3, 1, 2] (Host.dotGeneral (chan S.wf) none
    (pad (shX C) ![0, 0, 0, 0] ![0, 0, 0, 0] ![0, 0, 0, 0] X (sitofp (F := Ideal) .f32 (constantI sh0 32 0#32)) hp S.pos) (shapeCast (shM C C) W S.cast)) S.tr)) (biasMap S b)) (zeroMap S)

theorem refOne_eq (S : Side C C) (hp : (shX C).Pads ![0, 0, 0, 0] ![0, 0, 0, 0] ![0, 0, 0, 0] (shX C)) (X : FVec Ideal (shX C) .f32) (W : FVec Ideal (sh1 C C 1) .f32) (b : FVec Ideal (shB C) .f32) :
    refOne S hp X W b = conv1 X W b := by
  funext i
  obtain ⟨a, o, h, w, rfl⟩ : ∃ a o h w, i = ix4 a o h w := ⟨i 0, i 1, i 2, i 3, funext fun b => by
    match b with
    | ⟨0, _⟩ => rfl
    | ⟨1, _⟩ => rfl
    | ⟨2, _⟩ => rfl
    | ⟨3, _⟩ => rfl⟩
  unfold refOne conv1
  refine congrArg₂ (fun x y : EReal => max x y) (congrArg₂ (fun x y : EReal => x + y) ?_ (biasMap_at S b a o h w)) (zeroMap_at S _)
  refine (congrArg₂ (fun x y : EReal => x + y) (zeroMap_at S _) ((transpose_apply _ _ S.tr _ (ix4 a h w o) fun b => ?_).trans (chan_at _ _ _ a h w o))).trans ?_
  · match b with
    | ⟨0, _⟩ => rfl
    | ⟨1, _⟩ => rfl
    | ⟨2, _⟩ => rfl
    | ⟨3, _⟩ => rfl
  · rw [zero_add]
    refine Finset.sum_congr rfl fun c _ => ?_
    rw [mul_comm]
    refine congrArg₂ (fun x y : EReal => x * y) ?_ ?_
    · refine shapeCast_apply _ S.cast _ (ix4 o c 0 0) ?_
      rw [Shape.rowMajor_val_two, Shape.rowMajor_val_four]
      show ((o.val * C + c.val) * 1 + 0) * 1 + 0 = o.val * C + c.val
      omega
    · refine pad_apply_of_inside _ _ _ _ _ hp S.pos _ (ix4 a c h w) fun b => ?_
      match b with
      | ⟨0, _⟩ => show a.val = 0 + a.val * 1; omega
      | ⟨1, _⟩ => show c.val = 0 + c.val * 1; omega
      | ⟨2, _⟩ => show h.val = 0 + h.val * 1; omega
      | ⟨3, _⟩ => show w.val = 0 + w.val * 1; omega

end Cert.Super

end
-- ==== Proof.RLayers.lean ====
/-
  The reference's map before the boxes are read: its layers, one after the other, are the specification's.
-/
module

public import proofs.«01_k».proof.Proof.RConv
public import proofs.«01_k».proof.Proof.Gen.ReferenceIdeal.Read

@[expose] public section

noncomputable section

namespace Cert.ReferenceIdeal.Read

open Idealize.ShloMosaic Idealize.ShloMosaic.ValueIdx
open Cert.ReferenceIdeal Cert.Super

theorem side_64_128 : Side 64 128 := ⟨by decide, by decide, by decide, by decide, by decide, by decide, by decide, by decide, by decide, by decide⟩
theorem side_128_128 : Side 128 128 := ⟨by decide, by decide, by decide, by decide, by decide, by decide, by decide, by decide, by decide, by decide⟩
theorem side_128_256 : Side 128 256 := ⟨by decide, by decide, by decide, by decide, by decide, by decide, by decide, by decide, by decide, by decide⟩
theorem side_256_256 : Side 256 256 := ⟨by decide, by decide, by decide, by decide, by decide, by decide, by decide, by decide, by decide, by decide⟩

variable (x0 : FVec Ideal S8x64x100x352 .f32)
variable (x2 : FVec Ideal S128x64x3x3 .f32) (x3 : FVec Ideal S128 .f32) (x4 : FVec Ideal S128x128x3x3 .f32) (x5 : FVec Ideal S128 .f32) (x6 : FVec Ideal S128x128x3x3 .f32) (x7 : FVec Ideal S128 .f32) (x8 : FVec Ideal S128x128x3x3 .f32) (x9 : FVec Ideal S128 .f32) (x10 : FVec Ideal S256x128x3x3 .f32) (x11 : FVec Ideal S256 .f32) (x12 : FVec Ideal S256x256x3x3 .f32) (x13 : FVec Ideal S256 .f32) (x14 : FVec Ideal S256x256x3x3 .f32) (x15 : FVec Ideal S256 .f32) (x16 : FVec Ideal S256x256x1x1 .f32) (x17 : FVec Ideal S256 .f32) (x18 : FVec Ideal S256x256x1x1 .f32) (x19 : FVec Ideal S256 .f32)

theorem layer_59 : val_main_v59 (F := Ideal) x0 x2 x3 = conv3 x0 x2 x3 :=
  (show _ = refConv side_64_128 x0 x2 x3 from rfl).trans (refConv_eq _ _ _ _)

theorem layer_119 : val_main_v119 (F := Ideal) x0 x2 x3 x4 x5 = conv3 (val_main_v59 (F := Ideal) x0 x2 x3) x4 x5 :=
  (show _ = refConv side_128_128 (val_main_v59 (F := Ideal) x0 x2 x3) x4 x5 from rfl).trans (refConv_eq _ _ _ _)

theorem layer_179 : val_main_v179 (F := Ideal) x0 x2 x3 x4 x5 x6 x7 = conv3 (val_main_v119 (F := Ideal) x0 x2 x3 x4 x5) x6 x7 :=
  (show _ = refConv side_128_128 (val_main_v119 (F := Ideal) x0 x2 x3 x4 x5) x6 x7 from rfl).trans (refConv_eq _ _ _ _)

theorem layer_239 : val_main_v239 (F := Ideal) x0 x2 x3 x4 x5 x6 x7 x8 x9 = conv3 (val_main_v179 (F := Ideal) x0 x2 x3 x4 x5 x6 x7) x8 x9 :=
  (show _ = refConv side_128_128 (val_main_v179 (F := Ideal) x0 x2 x3 x4 x5 x6 x7) x8 x9 from rfl).trans (refConv_eq _ _ _ _)

theorem layer_299 : val_main_v299 (F := Ideal) x0 x2 x3 x4 x5 x6 x7 x8 x9 x10 x11 = conv3 (val_main_v239 (F := Ideal) x0 x2 x3 x4 x5 x6 x7 x8 x9) x10 x11 :=
  (show _ = refConv side_128_256 (val_main_v239 (F := Ideal) x0 x2 x3 x4 x5 x6 x7 x8 x9) x10 x11 from rfl).trans (refConv_eq _ _ _ _)

theorem layer_359 : val_main_v359 (F := Ideal) x0 x2 x3 x4 x5 x6 x7 x8 x9 x10 x11 x12 x13 = conv3 (val_main_v299 (F := Ideal) x0 x2 x3 x4 x5 x6 x7 x8 x9 x10 x11) x12 x13 :=
  (show _ = refConv side_256_256 (val_main_v299 (F := Ideal) x0 x2 x3 x4 x5 x6 x7 x8 x9 x10 x11) x12 x13 from rfl).trans (refConv_eq _ _ _ _)

theorem layer_419 : val_main_v419 (F := Ideal) x0 x2 x3 x4 x5 x6 x7 x8 x9 x10 x11 x12 x13 x14 x15 = conv3 (val_main_v359 (F := Ideal) x0 x2 x3 x4 x5 x6 x7 x8 x9 x10 x11 x12 x13) x14 x15 :=
  (show _ = refConv side_256_256 (val_main_v359 (F := Ideal) x0 x2 x3 x4 x5 x6 x7 x8 x9 x10 x11 x12 x13) x14 x15 from rfl).trans (refConv_eq _ _ _ _)

theorem layer_429 : val_main_v429 (F := Ideal) x0 x2 x3 x4 x5 x6 x7 x8 x9 x10 x11 x12 x13 x14 x15 x16 x17 = conv1 (val_main_v419 (F := Ideal) x0 x2 x3 x4 x5 x6 x7 x8 x9 x10 x11 x12 x13 x14 x15) x16 x17 :=
  (show _ = refOne side_256_256 (by decide) (val_main_v419 (F := Ideal) x0 x2 x3 x4 x5 x6 x7 x8 x9 x10 x11 x12 x13 x14 x15) x16 x17 from rfl).trans (refOne_eq _ _ _ _ _)

theorem layer_439 : val_main_v439 (F := Ideal) x0 x2 x3 x4 x5 x6 x7 x8 x9 x10 x11 x12 x13 x14 x15 x16 x17 x18 x19 = conv1 (val_main_v429 (F := Ideal) x0 x2 x3 x4 x5 x6 x7 x8 x9 x10 x11 x12 x13 x14 x15 x16 x17) x18 x19 :=
  (show _ = refOne side_256_256 (by decide) (val_main_v429 (F := Ideal) x0 x2 x3 x4 x5 x6 x7 x8 x9 x10 x11 x12 x13 x14 x15 x16 x17) x18 x19 from rfl).trans (refOne_eq _ _ _ _ _)

/-- All nine layers. -/
theorem map_439 : val_main_v439 (F := Ideal) x0 x2 x3 x4 x5 x6 x7 x8 x9 x10 x11 x12 x13 x14 x15 x16 x17 x18 x19 = feats x0 x2 x3 x4 x5 x6 x7 x8 x9 x10 x11 x12 x13 x14 x15 x16 x17 x18 x19 := by
  rw [layer_439, layer_429, layer_419, layer_359, layer_299, layer_239, layer_179, layer_119, layer_59]
  rfl

end Cert.ReferenceIdeal.Read

end
-- ==== Proof.RBox.lean ====
/-
  Sums over boxes from running sums: what a windowed sum along one axis leaves, and the four corners of the table of
  sums, whose signed sum is the sum over the box when the map is real.
-/
module

public import proofs.«01_k».proof.Proof.Spec
public import Idealize.ShloMosaic.Lib.ValueIdx

@[expose] public section

noncomputable section

namespace Cert.Super

open Idealize.ShloMosaic Idealize.ShloMosaic.ValueIdx
open scoped BigOperators

theorem foldl_sum {N : ℕ} (g : Fin N → EReal) : (List.finRange N).foldl (fun r n => r + g n) 0 = ∑ n, g n := by
  rw [Fin.sum_univ_def, List.sum_eq_foldl, List.foldl_map]

/-- A window of `n + 1` places that ends at place `i` sums the places up to `i`. -/
theorem ending_at (n : ℕ) (f : ℕ → EReal) (i : ℕ) (hi : i ≤ n) :
    (∑ k : Fin (n + 1), if n ≤ i + k.val then f (i + k.val - n) else 0) = ∑ h : Fin (n + 1), if h.val ≤ i then f h.val else 0 := by
  rw [← Finset.sum_filter, ← Finset.sum_filter]
  refine Finset.sum_bij' (fun k _ => ⟨i + k.val - n, by omega⟩) (fun h hh => ⟨h.val + n - i, by have := (Finset.mem_filter.1 hh).2; omega⟩) ?_ ?_ ?_ ?_ ?_
  · intro k hk
    have := (Finset.mem_filter.1 hk).2
    exact Finset.mem_filter.2 ⟨Finset.mem_univ _, by show i + k.val - n ≤ i; omega⟩
  · intro h hh
    have := (Finset.mem_filter.1 hh).2
    exact Finset.mem_filter.2 ⟨Finset.mem_univ _, by show n ≤ i + (h.val + n - i); omega⟩
  · intro k hk
    have := (Finset.mem_filter.1 hk).2
    exact Fin.ext (by show i + k.val - n + n - i = k.val; omega)
  · intro h hh
    have := (Finset.mem_filter.1 hh).2
    exact Fin.ext (by show i + (h.val + n - i) - n = h.val; omega)
  · intro k _
    rfl

/-- The fold over the places of a window, whose places are one axis's. -/
theorem along {W : Shape} (n : ℕ) (e : Fin (n + 1) ≃ W.Idx) (g : W.Idx → EReal) (f : ℕ → EReal) (i : ℕ) (hi : i ≤ n)
    (hg : ∀ k : Fin (n + 1), g (e k) = if n ≤ i + k.val then f (i + k.val - n) else 0) :
    (List.finRange W.numel).foldl (fun r m => r + g (W.rowMajor.symm m)) 0 = ∑ h : Fin (n + 1), if h.val ≤ i then f h.val else 0 := by
  rw [foldl_sum, Equiv.sum_comp W.rowMajor.symm g, ← Equiv.sum_comp e g, ← ending_at n f i hi]
  exact Finset.sum_congr rfl fun k _ => hg k

/-- The rows of a window one column wide. -/
def rowsOf (n : ℕ) : Fin n ≃ (⟨4, ![1, 1, n, 1]⟩ : Shape).Idx where
  toFun k := ix4 0 0 k 0
  invFun i := i 2
  left_inv _ := rfl
  right_inv i := funext fun a => by
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _

/-- The columns of a window one row high. -/
def colsOf (n : ℕ) : Fin n ≃ (⟨4, ![1, 1, 1, n]⟩ : Shape).Idx where
  toFun k := ix4 0 0 0 k
  invFun i := i 3
  left_inv _ := rfl
  right_inv i := funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

variable {u : Shape}

/-- The running sum along the rows. -/
theorem sum_rows (y : FVec Ideal ⟨4, ![8, 256, 100, 352]⟩ .f32) (init : FVec Ideal u .f32)
    (hs : (⟨4, ![8, 256, 100, 352]⟩ : Shape).ReduceWindows ![1, 1, 100, 1] ![1, 1, 1, 1] ![0, 0, 99, 0] ![0, 0, 0, 0] ⟨4, ![8, 256, 100, 352]⟩) (hu : 0 < u.numel)
    (h0 : init (Shape.Idx.first hu) = (0 : EReal)) (a : Fin 8) (o : Fin 256) (i : Fin 100) (j : Fin 352) :
    (Host.reduceWindowAdd ![1, 1, 100, 1] ![1, 1, 1, 1] ![0, 0, 99, 0] ![0, 0, 0, 0] y init hs hu (ix4 a o i j) : EReal)
      = ∑ h : Fin 100, if h.val ≤ i.val then (y (ix4 a o h j) : EReal) else 0 := by
  have hi := i.isLt
  have hj := j.isLt
  have ha := a.isLt
  have ho := o.isLt
  unfold Host.reduceWindowAdd
  rw [Ideal.hostReduceWindowAdd_def]
  unfold Ideal.hostReduceWindowAdd Host.reduceWindow
  simp only [h0]
  refine (along (W := ⟨4, ![1, 1, 100, 1]⟩) 99 (rowsOf 100)
    (fun q => if hin : ∀ b : Fin 4, (![0, 0, 99, 0] : Fin 4 → ℕ) b ≤ (ix4 a o i j b).val * (![1, 1, 1, 1] : Fin 4 → ℕ) b + (q b).val
        ∧ (ix4 a o i j b).val * (![1, 1, 1, 1] : Fin 4 → ℕ) b + (q b).val - (![0, 0, 99, 0] : Fin 4 → ℕ) b < (![8, 256, 100, 352] : Fin 4 → ℕ) b
      then (y (fun b => ⟨(ix4 a o i j b).val * (![1, 1, 1, 1] : Fin 4 → ℕ) b + (q b).val - (![0, 0, 99, 0] : Fin 4 → ℕ) b, (hin b).2⟩) : EReal) else 0)
    (fun h => if hh : h < 100 then (y (ix4 a o ⟨h, hh⟩ j) : EReal) else 0) i.val (by omega) fun k => ?_).trans ?_
  · have hk := k.isLt
    dsimp only
    by_cases hle : 99 ≤ i.val + k.val
    · rw [if_pos hle, dif_pos (show i.val + k.val - 99 < 100 by omega), dif_pos ?_]
      · refine congrArg y (funext fun b => Fin.ext ?_)
        match b with
        | ⟨0, _⟩ => show a.val * 1 + 0 - 0 = a.val; omega
        | ⟨1, _⟩ => show o.val * 1 + 0 - 0 = o.val; omega
        | ⟨2, _⟩ => show i.val * 1 + k.val - 99 = i.val + k.val - 99; omega
        | ⟨3, _⟩ => show j.val * 1 + 0 - 0 = j.val; omega
      · intro b
        match b with
        | ⟨0, _⟩ => show 0 ≤ a.val * 1 + 0 ∧ a.val * 1 + 0 - 0 < 8; omega
        | ⟨1, _⟩ => show 0 ≤ o.val * 1 + 0 ∧ o.val * 1 + 0 - 0 < 256; omega
        | ⟨2, _⟩ => show 99 ≤ i.val * 1 + k.val ∧ i.val * 1 + k.val - 99 < 100; omega
        | ⟨3, _⟩ => show 0 ≤ j.val * 1 + 0 ∧ j.val * 1 + 0 - 0 < 352; omega
    · rw [if_neg hle, dif_neg]
      intro hin
      have h2 : 99 ≤ i.val * 1 + k.val := (hin 2).1
      omega
  · refine Finset.sum_congr rfl fun h _ => ?_
    rw [dif_pos h.isLt]

/-- The running sum along the columns. -/
theorem sum_cols (y : FVec Ideal ⟨4, ![8, 256, 100, 352]⟩ .f32) (init : FVec Ideal u .f32)
    (hs : (⟨4, ![8, 256, 100, 352]⟩ : Shape).ReduceWindows ![1, 1, 1, 352] ![1, 1, 1, 1] ![0, 0, 0, 351] ![0, 0, 0, 0] ⟨4, ![8, 256, 100, 352]⟩) (hu : 0 < u.numel)
    (h0 : init (Shape.Idx.first hu) = (0 : EReal)) (a : Fin 8) (o : Fin 256) (i : Fin 100) (j : Fin 352) :
    (Host.reduceWindowAdd ![1, 1, 1, 352] ![1, 1, 1, 1] ![0, 0, 0, 351] ![0, 0, 0, 0] y init hs hu (ix4 a o i j) : EReal)
      = ∑ w : Fin 352, if w.val ≤ j.val then (y (ix4 a o i w) : EReal) else 0 := by
  have hi := i.isLt
  have hj := j.isLt
  have ha := a.isLt
  have ho := o.isLt
  unfold Host.reduceWindowAdd
  rw [Ideal.hostReduceWindowAdd_def]
  unfold Ideal.hostReduceWindowAdd Host.reduceWindow
  simp only [h0]
  refine (along (W := ⟨4, ![1, 1, 1, 352]⟩) 351 (colsOf 352)
    (fun q => if hin : ∀ b : Fin 4, (![0, 0, 0, 351] : Fin 4 → ℕ) b ≤ (ix4 a o i j b).val * (![1, 1, 1, 1] : Fin 4 → ℕ) b + (q b).val
        ∧ (ix4 a o i j b).val * (![1, 1, 1, 1] : Fin 4 → ℕ) b + (q b).val - (![0, 0, 0, 351] : Fin 4 → ℕ) b < (![8, 256, 100, 352] : Fin 4 → ℕ) b
      then (y (fun b => ⟨(ix4 a o i j b).val * (![1, 1, 1, 1] : Fin 4 → ℕ) b + (q b).val - (![0, 0, 0, 351] : Fin 4 → ℕ) b, (hin b).2⟩) : EReal) else 0)
    (fun w => if hw : w < 352 then (y (ix4 a o i ⟨w, hw⟩) : EReal) else 0) j.val (by omega) fun k => ?_).trans ?_
  · have hk := k.isLt
    dsimp only
    by_cases hle : 351 ≤ j.val + k.val
    · rw [if_pos hle, dif_pos (show j.val + k.val - 351 < 352 by omega), dif_pos ?_]
      · refine congrArg y (funext fun b => Fin.ext ?_)
        match b with
        | ⟨0, _⟩ => show a.val * 1 + 0 - 0 = a.val; omega
        | ⟨1, _⟩ => show o.val * 1 + 0 - 0 = o.val; omega
        | ⟨2, _⟩ => show i.val * 1 + 0 - 0 = i.val; omega
        | ⟨3, _⟩ => show j.val * 1 + k.val - 351 = j.val + k.val - 351; omega
      · intro b
        match b with
        | ⟨0, _⟩ => show 0 ≤ a.val * 1 + 0 ∧ a.val * 1 + 0 - 0 < 8; omega
        | ⟨1, _⟩ => show 0 ≤ o.val * 1 + 0 ∧ o.val * 1 + 0 - 0 < 256; omega
        | ⟨2, _⟩ => show 0 ≤ i.val * 1 + 0 ∧ i.val * 1 + 0 - 0 < 100; omega
        | ⟨3, _⟩ => show 351 ≤ j.val * 1 + k.val ∧ j.val * 1 + k.val - 351 < 352; omega
    · rw [if_neg hle, dif_neg]
      intro hin
      have h2 : 351 ≤ j.val * 1 + k.val := (hin 3).1
      omega
  · refine Finset.sum_congr rfl fun w _ => ?_
    rw [dif_pos w.isLt]

/-- The sum of a map over the rows before `i` and the columns before `j`. -/
def before (y : Map 256) (a : Fin 8) (o : Fin 256) (i j : ℕ) : EReal :=
  ∑ w : Fin 352, if w.val < j then ∑ h : Fin 100, if h.val < i then y (ix4 a o h w) else 0 else 0

theorem coe_sum_fin {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

theorem coe_ite (p : Prop) [Decidable p] (x : ℝ) : (if p then (x : EReal) else 0) = ((if p then x else 0 : ℝ) : EReal) := by
  split <;> simp

/-- The same over the reals. -/
def beforeR (f : Fin 100 → Fin 352 → ℝ) (i j : ℕ) : ℝ := ∑ w : Fin 352, if w.val < j then ∑ h : Fin 100, if h.val < i then f h w else 0 else 0

theorem corners_real (f : Fin 100 → Fin 352 → ℝ) (u d l r : ℕ) (hu : u ≤ d) (hl : l ≤ r) :
    beforeR f d r - beforeR f u r - beforeR f d l + beforeR f u l = ∑ h : Fin 100, ∑ w : Fin 352, if (u ≤ h.val ∧ h.val < d) ∧ l ≤ w.val ∧ w.val < r then f h w else 0 := by
  unfold beforeR
  rw [Finset.sum_comm, ← Finset.sum_sub_distrib, ← Finset.sum_sub_distrib, ← Finset.sum_add_distrib]
  refine Finset.sum_congr rfl fun w _ => ?_
  have hrow : (∑ h : Fin 100, if h.val < d then f h w else 0) - (∑ h : Fin 100, if h.val < u then f h w else 0)
      = ∑ h : Fin 100, if u ≤ h.val ∧ h.val < d then f h w else 0 := by
    rw [← Finset.sum_sub_distrib]
    refine Finset.sum_congr rfl fun h _ => ?_
    by_cases h1 : h.val < u
    · rw [if_pos h1, if_pos (by omega), if_neg (by omega), sub_self]
    · rw [if_neg h1, sub_zero]
      by_cases h2 : h.val < d
      · rw [if_pos h2, if_pos ⟨by omega, h2⟩]
      · rw [if_neg h2, if_neg (by omega)]
  by_cases h1 : w.val < l
  · rw [if_pos h1, if_pos h1, if_pos (by omega), if_pos (by omega), sub_sub_cancel_left, neg_add_cancel]
    exact (Finset.sum_eq_zero fun h _ => if_neg (by omega)).symm
  · rw [if_neg h1, if_neg h1, sub_zero, add_zero]
    by_cases h2 : w.val < r
    · rw [if_pos h2, if_pos h2, hrow]
      refine Finset.sum_congr rfl fun h _ => ?_
      by_cases h3 : u ≤ h.val ∧ h.val < d
      · rw [if_pos h3, if_pos ⟨h3, by omega, h2⟩]
      · rw [if_neg h3, if_neg fun q => h3 q.1]
    · rw [if_neg h2, if_neg h2, sub_zero]
      exact (Finset.sum_eq_zero fun h _ => if_neg (by omega)).symm

/-- The four corners of a box. -/
theorem corners {y : Map 256} (hy : Real' y) (a : Fin 8) (o : Fin 256) (u d l r : ℕ) (hu : u ≤ d) (hl : l ≤ r) :
    before y a o d r - before y a o u r - before y a o d l + before y a o u l = boxSum y a o u d l r := by
  choose f hf using fun (h : Fin 100) (w : Fin 352) => hy (ix4 a o h w)
  have hb : ∀ i j, before y a o i j = (beforeR f i j : EReal) := fun i j => by
    unfold before beforeR
    simp only [hf, coe_ite, ← coe_sum_fin]
  rw [hb, hb, hb, hb, ← EReal.coe_sub, ← EReal.coe_sub, ← EReal.coe_add, corners_real f u d l r hu hl]
  unfold boxSum
  simp only [hf, coe_ite, ← coe_sum_fin]

end Cert.Super

end
-- ==== Proof.RFinal.lean ====
/-
  What the reference leaves: the four corners of each box, looked up in the table of running sums, their signed sum over
  the area of the box.
-/
module

public import proofs.«01_k».proof.Proof.RLayers
public import proofs.«01_k».proof.Proof.RBox
public import Idealize.ShloMosaic.Lib.WordCmp

@[expose] public section

noncomputable section

namespace Cert.ReferenceIdeal.Read

open Idealize.ShloMosaic Idealize.ShloMosaic.ValueIdx
open Cert.ReferenceIdeal Cert.Super
open scoped BigOperators

variable (x0 : FVec Ideal S8x64x100x352 .f32) (x1 : IVec S8x50x4 32)
variable (x2 : FVec Ideal S128x64x3x3 .f32) (x3 : FVec Ideal S128 .f32) (x4 : FVec Ideal S128x128x3x3 .f32) (x5 : FVec Ideal S128 .f32) (x6 : FVec Ideal S128x128x3x3 .f32) (x7 : FVec Ideal S128 .f32) (x8 : FVec Ideal S128x128x3x3 .f32) (x9 : FVec Ideal S128 .f32) (x10 : FVec Ideal S256x128x3x3 .f32) (x11 : FVec Ideal S256 .f32) (x12 : FVec Ideal S256x256x3x3 .f32) (x13 : FVec Ideal S256 .f32) (x14 : FVec Ideal S256x256x3x3 .f32) (x15 : FVec Ideal S256 .f32) (x16 : FVec Ideal S256x256x1x1 .f32) (x17 : FVec Ideal S256 .f32) (x18 : FVec Ideal S256x256x1x1 .f32) (x19 : FVec Ideal S256 .f32)

/-- The table of running sums: at `(i, j)` the sum over the rows before `i` and the columns before `j`. -/
theorem table_at (a : Fin 8) (o : Fin 256) (i : Fin 101) (j : Fin 353) :
    (val_main_v442 (F := Ideal) x0 x2 x3 x4 x5 x6 x7 x8 x9 x10 x11 x12 x13 x14 x15 x16 x17 x18 x19 (ix4 a o i j) : EReal) = before (val_main_v439 (F := Ideal) x0 x2 x3 x4 x5 x6 x7 x8 x9 x10 x11 x12 x13 x14 x15 x16 x17 x18 x19) a o i.val j.val := by
  have hi := i.isLt
  have hj := j.isLt
  have hz : (val_main_call20_v0 (F := Ideal)) (Shape.Idx.first Facts₀.h_S_) = (0 : EReal) := by
    show (((0#32 : BitVec 32).toInt : ℝ) : EReal) = 0
    simp
  unfold val_main_v442 before
  by_cases hi' : 1 ≤ i.val
  · by_cases hj' : 1 ≤ j.val
    · refine (pad_apply_of_inside _ _ _ _ _ _ _ _ (ix4 a o (⟨i.val - 1, by omega⟩ : Fin 100) (⟨j.val - 1, by omega⟩ : Fin 352)) fun b => ?_).trans ?_
      · match b with
        | ⟨0, _⟩ => show a.val = 0 + a.val * 1; omega
        | ⟨1, _⟩ => show o.val = 0 + o.val * 1; omega
        | ⟨2, _⟩ => show i.val = 1 + (i.val - 1) * 1; omega
        | ⟨3, _⟩ => show j.val = 1 + (j.val - 1) * 1; omega
      · unfold val_main_v441
        refine (sum_cols _ _ _ _ Ideal.ofBits_zero_f32 a o _ _).trans (Finset.sum_congr rfl fun w _ => ?_)
        by_cases hw : w.val < j.val
        · rw [if_pos hw, if_pos (show w.val ≤ j.val - 1 by omega)]
          unfold val_main_v440
          refine (sum_rows _ _ _ _ Ideal.ofBits_zero_f32 a o _ _).trans (Finset.sum_congr rfl fun h _ => ?_)
          by_cases hh : h.val < i.val
          · rw [if_pos hh, if_pos (show h.val ≤ i.val - 1 by omega)]
          · rw [if_neg hh, if_neg (show ¬h.val ≤ i.val - 1 by omega)]
        · rw [if_neg hw, if_neg (show ¬w.val ≤ j.val - 1 by omega)]
    · refine ((pad_apply_of_not_inside _ _ _ _ _ _ _ _ 3 ?_).trans hz).trans ?_
      · show ¬(1 ≤ j.val ∧ (j.val - 1) % 1 = 0 ∧ (j.val - 1) / 1 < 352)
        omega
      · exact (Finset.sum_eq_zero fun w _ => if_neg (by omega)).symm
  · refine ((pad_apply_of_not_inside _ _ _ _ _ _ _ _ 2 ?_).trans hz).trans ?_
    · show ¬(1 ≤ i.val ∧ (i.val - 1) % 1 = 0 ∧ (i.val - 1) / 1 < 100)
      omega
    · refine (Finset.sum_eq_zero fun w _ => ?_).symm
      split
      · exact Finset.sum_eq_zero fun h _ => if_neg (by omega)
      · rfl

/-- The table looked up at a pair of words. -/
theorem gather_at (T : FVec Ideal S8x256x101x353 .f32) (idx : IVec S8x50x2 32) (a : Fin 8) (o : Fin 256) (k : Fin 50) (i j : ℕ) (hi : i < 101) (hj : j < 353)
    (ei : idx (ix3 a k 0) = BitVec.ofNat 32 i) (ej : idx (ix3 a k 1) = BitVec.ofNat 32 j) :
    Host.gather gather_S8x256x101x353_S8x50x2_S8x256x50_1_23_0_0_23_2_125611 T idx (ix3 a o k) = T (ix4 a o ⟨i, hi⟩ ⟨j, hj⟩) := by
  unfold Host.gather
  refine congrArg T (funext fun b => Fin.ext ?_)
  match b with
  | ⟨0, _⟩ => exact (congrArg₂ (fun x y : ℕ => x + y) rfl rfl).trans (show 0 + a.val + 0 = a.val by omega)
  | ⟨1, _⟩ => exact (congrArg₂ (fun x y : ℕ => x + y) rfl rfl).trans (show 0 + 0 + o.val = o.val by omega)
  | ⟨2, _⟩ =>
    have hs : gather_S8x256x101x353_S8x50x2_S8x256x50_1_23_0_0_23_2_125611.siIdx (ix3 a o k) ⟨0, by decide⟩ = (ix3 a k 0 : S8x50x2.Idx) := funext fun e => Fin.ext (by
      match e with
      | ⟨0, _⟩ => rfl
      | ⟨1, _⟩ => rfl
      | ⟨2, _⟩ => rfl)
    refine (show _ = min (idx (gather_S8x256x101x353_S8x50x2_S8x256x50_1_23_0_0_23_2_125611.siIdx (ix3 a o k) ⟨0, by decide⟩)).toInt.toNat (101 - 1) + 0 + 0 from rfl).trans ?_
    rw [hs, ei, WordCmp.toInt_ofNat_of_lt (by omega)]
    show min i 100 + 0 + 0 = i
    omega
  | ⟨3, _⟩ =>
    have hs : gather_S8x256x101x353_S8x50x2_S8x256x50_1_23_0_0_23_2_125611.siIdx (ix3 a o k) ⟨1, by decide⟩ = (ix3 a k 1 : S8x50x2.Idx) := funext fun e => Fin.ext (by
      match e with
      | ⟨0, _⟩ => rfl
      | ⟨1, _⟩ => rfl
      | ⟨2, _⟩ => rfl)
    refine (show _ = min (idx (gather_S8x256x101x353_S8x50x2_S8x256x50_1_23_0_0_23_2_125611.siIdx (ix3 a o k) ⟨1, by decide⟩)).toInt.toNat (353 - 1) + 0 + 0 from rfl).trans ?_
    rw [hs, ej, WordCmp.toInt_ofNat_of_lt (by omega)]
    show min j 352 + 0 + 0 = j
    omega

/-- Two columns of words side by side. -/
theorem pair_at (p q : IVec S8x50 32) (hb : S8x50.BroadcastsInDim S8x50x1 (![0, 1] : Fin 2 → Fin S8x50x1.rank)) (hc : Shape.Concatenates [S8x50x1, S8x50x1] S8x50x2 2) (a : Fin 8) (k : Fin 50) :
    concatenate S8x50x2 2 [⟨S8x50x1, broadcastInDim S8x50x1 ![0, 1] hb p⟩, ⟨S8x50x1, broadcastInDim S8x50x1 ![0, 1] hb q⟩] hc (ix3 a k 0) = p (ix2 a k)
    ∧ concatenate S8x50x2 2 [⟨S8x50x1, broadcastInDim S8x50x1 ![0, 1] hb p⟩, ⟨S8x50x1, broadcastInDim S8x50x1 ![0, 1] hb q⟩] hc (ix3 a k 1) = q (ix2 a k) := by
  refine ⟨(concatenate_pair_apply_left 2 _ _ hc _ rfl (ix3 a k 0) fun b => ?_).trans (broadcastInDim_apply _ hb _ _ (ix2 a k) fun b => ?_),
    (concatenate_pair_apply_right 2 _ _ hc _ rfl rfl (ix3 a k 0) (fun b hb' => ?_) rfl).trans (broadcastInDim_apply _ hb _ _ (ix2 a k) fun b => ?_)⟩
  · match b with
    | ⟨0, _⟩ => rfl
    | ⟨1, _⟩ => rfl
    | ⟨2, _⟩ => rfl
  · match b with
    | ⟨0, _⟩ => rfl
    | ⟨1, _⟩ => rfl
  · match b with
    | ⟨0, _⟩ => rfl
    | ⟨1, _⟩ => rfl
    | ⟨2, _⟩ => exact absurd rfl hb'
  · match b with
    | ⟨0, _⟩ => rfl
    | ⟨1, _⟩ => rfl

/-- A word that is not negative is not wrapped. -/
theorem kept_word (n : ℕ) (hn : n < 2 ^ 31) (c : BitVec 32) :
    (if IntOp.cmpi .slt (BitVec.ofNat 32 n) 0#32 = 1#1 then IntOp.addi (BitVec.ofNat 32 n) c else BitVec.ofNat 32 n) = BitVec.ofNat 32 n := by
  rw [if_neg]
  intro h
  have : (BitVec.ofNat 32 n).slt 0#32 = true := by
    by_contra hf
    revert h
    show ¬(BitVec.ofBool ((BitVec.ofNat 32 n).slt 0#32) = 1#1)
    rw [Bool.not_eq_true] at hf
    rw [hf]
    decide
  rw [BitVec.slt_iff_toInt_lt, WordCmp.toInt_ofNat_of_lt (by omega)] at this
  simp at this
  omega

theorem col_444 (a : Fin 8) (k : Fin 50) : val_main_v444 (F := Ideal) x1 (ix2 a k) = x1 (ix3 a k 0) := by
  unfold val_main_v444 val_main_v443
  refine (shapeCast_apply _ _ _ (ix3 a k (0 : Fin 1)) ?_).trans (extractStridedSlice_apply _ _ _ _ _ fun b => ?_)
  · rw [Shape.rowMajor_val_two, Shape.rowMajor_val_three]
    show (a.val * 50 + k.val) * 1 + 0 = a.val * 50 + k.val
    omega
  · match b with
    | ⟨0, _⟩ => show a.val = 0 + a.val; omega
    | ⟨1, _⟩ => show k.val = 0 + k.val; omega
    | ⟨2, _⟩ => rfl

theorem col_446 (a : Fin 8) (k : Fin 50) : val_main_v446 (F := Ideal) x1 (ix2 a k) = x1 (ix3 a k 1) := by
  unfold val_main_v446 val_main_v445
  refine (shapeCast_apply _ _ _ (ix3 a k (0 : Fin 1)) ?_).trans (extractStridedSlice_apply _ _ _ _ _ fun b => ?_)
  · rw [Shape.rowMajor_val_two, Shape.rowMajor_val_three]
    show (a.val * 50 + k.val) * 1 + 0 = a.val * 50 + k.val
    omega
  · match b with
    | ⟨0, _⟩ => show a.val = 0 + a.val; omega
    | ⟨1, _⟩ => show k.val = 0 + k.val; omega
    | ⟨2, _⟩ => rfl

theorem col_448 (a : Fin 8) (k : Fin 50) : val_main_v448 (F := Ideal) x1 (ix2 a k) = x1 (ix3 a k 2) := by
  unfold val_main_v448 val_main_v447
  refine (shapeCast_apply _ _ _ (ix3 a k (0 : Fin 1)) ?_).trans (extractStridedSlice_apply _ _ _ _ _ fun b => ?_)
  · rw [Shape.rowMajor_val_two, Shape.rowMajor_val_three]
    show (a.val * 50 + k.val) * 1 + 0 = a.val * 50 + k.val
    omega
  · match b with
    | ⟨0, _⟩ => show a.val = 0 + a.val; omega
    | ⟨1, _⟩ => show k.val = 0 + k.val; omega
    | ⟨2, _⟩ => rfl

theorem col_450 (a : Fin 8) (k : Fin 50) : val_main_v450 (F := Ideal) x1 (ix2 a k) = x1 (ix3 a k 3) := by
  unfold val_main_v450 val_main_v449
  refine (shapeCast_apply _ _ _ (ix3 a k (0 : Fin 1)) ?_).trans (extractStridedSlice_apply _ _ _ _ _ fun b => ?_)
  · rw [Shape.rowMajor_val_two, Shape.rowMajor_val_three]
    show (a.val * 50 + k.val) * 1 + 0 = a.val * 50 + k.val
    omega
  · match b with
    | ⟨0, _⟩ => show a.val = 0 + a.val; omega
    | ⟨1, _⟩ => show k.val = 0 + k.val; omega
    | ⟨2, _⟩ => rfl

theorem word_455 (a : Fin 8) (k : Fin 50) (n : ℕ) (hn : n < 2 ^ 31) (e : x1 (ix3 a k 3) = BitVec.ofNat 32 n) : val_main_v455 (F := Ideal) x1 (ix2 a k) = BitVec.ofNat 32 n := by
  have h := (col_450 x1 a k).trans e
  show (if IntOp.cmpi .slt (val_main_v450 (F := Ideal) x1 (ix2 a k)) 0#32 = 1#1 then IntOp.addi (val_main_v450 (F := Ideal) x1 (ix2 a k)) _ else val_main_v450 (F := Ideal) x1 (ix2 a k)) = _
  rw [h]
  exact kept_word n hn _

theorem word_460 (a : Fin 8) (k : Fin 50) (n : ℕ) (hn : n < 2 ^ 31) (e : x1 (ix3 a k 1) = BitVec.ofNat 32 n) : val_main_v460 (F := Ideal) x1 (ix2 a k) = BitVec.ofNat 32 n := by
  have h := (col_446 x1 a k).trans e
  show (if IntOp.cmpi .slt (val_main_v446 (F := Ideal) x1 (ix2 a k)) 0#32 = 1#1 then IntOp.addi (val_main_v446 (F := Ideal) x1 (ix2 a k)) _ else val_main_v446 (F := Ideal) x1 (ix2 a k)) = _
  rw [h]
  exact kept_word n hn _

theorem word_469 (a : Fin 8) (k : Fin 50) (n : ℕ) (hn : n < 2 ^ 31) (e : x1 (ix3 a k 2) = BitVec.ofNat 32 n) : val_main_v469 (F := Ideal) x1 (ix2 a k) = BitVec.ofNat 32 n := by
  have h := (col_448 x1 a k).trans e
  show (if IntOp.cmpi .slt (val_main_v448 (F := Ideal) x1 (ix2 a k)) 0#32 = 1#1 then IntOp.addi (val_main_v448 (F := Ideal) x1 (ix2 a k)) _ else val_main_v448 (F := Ideal) x1 (ix2 a k)) = _
  rw [h]
  exact kept_word n hn _

theorem word_474 (a : Fin 8) (k : Fin 50) (n : ℕ) (hn : n < 2 ^ 31) (e : x1 (ix3 a k 1) = BitVec.ofNat 32 n) : val_main_v474 (F := Ideal) x1 (ix2 a k) = BitVec.ofNat 32 n := by
  have h := (col_446 x1 a k).trans e
  show (if IntOp.cmpi .slt (val_main_v446 (F := Ideal) x1 (ix2 a k)) 0#32 = 1#1 then IntOp.addi (val_main_v446 (F := Ideal) x1 (ix2 a k)) _ else val_main_v446 (F := Ideal) x1 (ix2 a k)) = _
  rw [h]
  exact kept_word n hn _

theorem word_484 (a : Fin 8) (k : Fin 50) (n : ℕ) (hn : n < 2 ^ 31) (e : x1 (ix3 a k 3) = BitVec.ofNat 32 n) : val_main_v484 (F := Ideal) x1 (ix2 a k) = BitVec.ofNat 32 n := by
  have h := (col_450 x1 a k).trans e
  show (if IntOp.cmpi .slt (val_main_v450 (F := Ideal) x1 (ix2 a k)) 0#32 = 1#1 then IntOp.addi (val_main_v450 (F := Ideal) x1 (ix2 a k)) _ else val_main_v450 (F := Ideal) x1 (ix2 a k)) = _
  rw [h]
  exact kept_word n hn _

theorem word_489 (a : Fin 8) (k : Fin 50) (n : ℕ) (hn : n < 2 ^ 31) (e : x1 (ix3 a k 0) = BitVec.ofNat 32 n) : val_main_v489 (F := Ideal) x1 (ix2 a k) = BitVec.ofNat 32 n := by
  have h := (col_444 x1 a k).trans e
  show (if IntOp.cmpi .slt (val_main_v444 (F := Ideal) x1 (ix2 a k)) 0#32 = 1#1 then IntOp.addi (val_main_v444 (F := Ideal) x1 (ix2 a k)) _ else val_main_v444 (F := Ideal) x1 (ix2 a k)) = _
  rw [h]
  exact kept_word n hn _

theorem word_499 (a : Fin 8) (k : Fin 50) (n : ℕ) (hn : n < 2 ^ 31) (e : x1 (ix3 a k 2) = BitVec.ofNat 32 n) : val_main_v499 (F := Ideal) x1 (ix2 a k) = BitVec.ofNat 32 n := by
  have h := (col_448 x1 a k).trans e
  show (if IntOp.cmpi .slt (val_main_v448 (F := Ideal) x1 (ix2 a k)) 0#32 = 1#1 then IntOp.addi (val_main_v448 (F := Ideal) x1 (ix2 a k)) _ else val_main_v448 (F := Ideal) x1 (ix2 a k)) = _
  rw [h]
  exact kept_word n hn _

theorem word_504 (a : Fin 8) (k : Fin 50) (n : ℕ) (hn : n < 2 ^ 31) (e : x1 (ix3 a k 0) = BitVec.ofNat 32 n) : val_main_v504 (F := Ideal) x1 (ix2 a k) = BitVec.ofNat 32 n := by
  have h := (col_444 x1 a k).trans e
  show (if IntOp.cmpi .slt (val_main_v444 (F := Ideal) x1 (ix2 a k)) 0#32 = 1#1 then IntOp.addi (val_main_v444 (F := Ideal) x1 (ix2 a k)) _ else val_main_v444 (F := Ideal) x1 (ix2 a k)) = _
  rw [h]
  exact kept_word n hn _

section
variable (a : Fin 8) (k : Fin 50) (o : Fin 256) (u d l r : ℕ)

theorem corner_464 (hd : d ≤ 100) (hr : r ≤ 352) (ed : x1 (ix3 a k 3) = BitVec.ofNat 32 d) (er : x1 (ix3 a k 1) = BitVec.ofNat 32 r) :
    (val_main_v464 (F := Ideal) x0 x1 x2 x3 x4 x5 x6 x7 x8 x9 x10 x11 x12 x13 x14 x15 x16 x17 x18 x19 (ix3 a o k) : EReal) = before (val_main_v439 (F := Ideal) x0 x2 x3 x4 x5 x6 x7 x8 x9 x10 x11 x12 x13 x14 x15 x16 x17 x18 x19) a o d r := by
  have P := pair_at (val_main_v455 (F := Ideal) x1) (val_main_v460 (F := Ideal) x1) Facts₀.bcast_S8x50_S8x50x1_0_1 Facts₀.concatenates_S8x50x1_S8x50x1_S8x50x2_d2 a k
  exact (gather_at _ (val_main_v463 (F := Ideal) x1) a o k d r (by omega) (by omega) (P.1.trans (word_455 x1 a k d (by omega) ed)) (P.2.trans (word_460 x1 a k r (by omega) er))).trans
    (table_at x0 x2 x3 x4 x5 x6 x7 x8 x9 x10 x11 x12 x13 x14 x15 x16 x17 x18 x19 a o _ _)

theorem corner_478 (hu : u ≤ 100) (hr : r ≤ 352) (eu : x1 (ix3 a k 2) = BitVec.ofNat 32 u) (er : x1 (ix3 a k 1) = BitVec.ofNat 32 r) :
    (val_main_v478 (F := Ideal) x0 x1 x2 x3 x4 x5 x6 x7 x8 x9 x10 x11 x12 x13 x14 x15 x16 x17 x18 x19 (ix3 a o k) : EReal) = before (val_main_v439 (F := Ideal) x0 x2 x3 x4 x5 x6 x7 x8 x9 x10 x11 x12 x13 x14 x15 x16 x17 x18 x19) a o u r := by
  have P := pair_at (val_main_v469 (F := Ideal) x1) (val_main_v474 (F := Ideal) x1) Facts₀.bcast_S8x50_S8x50x1_0_1 Facts₀.concatenates_S8x50x1_S8x50x1_S8x50x2_d2 a k
  exact (gather_at _ (val_main_v477 (F := Ideal) x1) a o k u r (by omega) (by omega) (P.1.trans (word_469 x1 a k u (by omega) eu)) (P.2.trans (word_474 x1 a k r (by omega) er))).trans
    (table_at x0 x2 x3 x4 x5 x6 x7 x8 x9 x10 x11 x12 x13 x14 x15 x16 x17 x18 x19 a o _ _)

theorem corner_493 (hd : d ≤ 100) (hl : l ≤ 352) (ed : x1 (ix3 a k 3) = BitVec.ofNat 32 d) (el : x1 (ix3 a k 0) = BitVec.ofNat 32 l) :
    (val_main_v493 (F := Ideal) x0 x1 x2 x3 x4 x5 x6 x7 x8 x9 x10 x11 x12 x13 x14 x15 x16 x17 x18 x19 (ix3 a o k) : EReal) = before (val_main_v439 (F := Ideal) x0 x2 x3 x4 x5 x6 x7 x8 x9 x10 x11 x12 x13 x14 x15 x16 x17 x18 x19) a o d l := by
  have P := pair_at (val_main_v484 (F := Ideal) x1) (val_main_v489 (F := Ideal) x1) Facts₀.bcast_S8x50_S8x50x1_0_1 Facts₀.concatenates_S8x50x1_S8x50x1_S8x50x2_d2 a k
  exact (gather_at _ (val_main_v492 (F := Ideal) x1) a o k d l (by omega) (by omega) (P.1.trans (word_484 x1 a k d (by omega) ed)) (P.2.trans (word_489 x1 a k l (by omega) el))).trans
    (table_at x0 x2 x3 x4 x5 x6 x7 x8 x9 x10 x11 x12 x13 x14 x15 x16 x17 x18 x19 a o _ _)

theorem corner_508 (hu : u ≤ 100) (hl : l ≤ 352) (eu : x1 (ix3 a k 2) = BitVec.ofNat 32 u) (el : x1 (ix3 a k 0) = BitVec.ofNat 32 l) :
    (val_main_v508 (F := Ideal) x0 x1 x2 x3 x4 x5 x6 x7 x8 x9 x10 x11 x12 x13 x14 x15 x16 x17 x18 x19 (ix3 a o k) : EReal) = before (val_main_v439 (F := Ideal) x0 x2 x3 x4 x5 x6 x7 x8 x9 x10 x11 x12 x13 x14 x15 x16 x17 x18 x19) a o u l := by
  have P := pair_at (val_main_v499 (F := Ideal) x1) (val_main_v504 (F := Ideal) x1) Facts₀.bcast_S8x50_S8x50x1_0_1 Facts₀.concatenates_S8x50x1_S8x50x1_S8x50x2_d2 a k
  exact (gather_at _ (val_main_v507 (F := Ideal) x1) a o k u l (by omega) (by omega) (P.1.trans (word_499 x1 a k u (by omega) eu)) (P.2.trans (word_504 x1 a k l (by omega) el))).trans
    (table_at x0 x2 x3 x4 x5 x6 x7 x8 x9 x10 x11 x12 x13 x14 x15 x16 x17 x18 x19 a o _ _)

/-- The area of a box, as the divisor. -/
theorem area_at (hu : u < d) (hd : d ≤ 100) (hl : l < r) (hr : r ≤ 352) (el : x1 (ix3 a k 0) = BitVec.ofNat 32 l) (er : x1 (ix3 a k 1) = BitVec.ofNat 32 r)
    (eu : x1 (ix3 a k 2) = BitVec.ofNat 32 u) (ed : x1 (ix3 a k 3) = BitVec.ofNat 32 d) :
    (val_main_v515 (F := Ideal) x1 (ix3 a o k) : EReal) = ((((d - u) * (r - l) : ℕ) : ℝ) : EReal) := by
  have hm : (d - u) * (r - l) ≤ 100 * 352 := Nat.mul_le_mul (by omega) (by omega)
  have hw : val_main_v512 (F := Ideal) x1 (ix2 a k) = BitVec.ofNat 32 ((d - u) * (r - l)) := by
    show (val_main_v450 (F := Ideal) x1 (ix2 a k) - val_main_v448 (F := Ideal) x1 (ix2 a k)) * (val_main_v446 (F := Ideal) x1 (ix2 a k) - val_main_v444 (F := Ideal) x1 (ix2 a k)) = _
    rw [col_444, col_446, col_448, col_450, el, er, eu, ed]
    have e1 : BitVec.ofNat 32 d - BitVec.ofNat 32 u = BitVec.ofNat 32 (d - u) := by
      rw [show d = (d - u) + u by omega, BitVec.ofNat_add, BitVec.add_sub_cancel, Nat.add_sub_cancel]
    have e2 : BitVec.ofNat 32 r - BitVec.ofNat 32 l = BitVec.ofNat 32 (r - l) := by
      rw [show r = (r - l) + l by omega, BitVec.ofNat_add, BitVec.add_sub_cancel, Nat.add_sub_cancel]
    rw [e1, e2, ← BitVec.ofNat_mul]
  have h513 : (val_main_v513 (F := Ideal) x1 (ix2 a k) : EReal) = ((((d - u) * (r - l) : ℕ) : ℝ) : EReal) := by
    show (((val_main_v512 (F := Ideal) x1 (ix2 a k)).toInt : ℝ) : EReal) = _
    rw [hw, WordCmp.toInt_ofNat_of_lt (by omega)]
    norm_cast
  unfold val_main_v515 val_main_v514
  refine (broadcastInDim_apply _ _ _ _ (ix3 a (0 : Fin 1) k) fun b => ?_).trans ((broadcastInDim_apply _ _ _ _ (ix2 a k) fun b => ?_).trans h513)
  · match b with
    | ⟨0, _⟩ => rfl
    | ⟨1, _⟩ => rfl
    | ⟨2, _⟩ => rfl
  · match b with
    | ⟨0, _⟩ => rfl
    | ⟨1, _⟩ => rfl

/-- What the reference leaves for a box inside the map. -/
theorem result_at (hy : Real' (val_main_v439 (F := Ideal) x0 x2 x3 x4 x5 x6 x7 x8 x9 x10 x11 x12 x13 x14 x15 x16 x17 x18 x19)) (hu : u < d) (hd : d ≤ 100) (hl : l < r) (hr : r ≤ 352) (el : x1 (ix3 a k 0) = BitVec.ofNat 32 l)
    (er : x1 (ix3 a k 1) = BitVec.ofNat 32 r) (eu : x1 (ix3 a k 2) = BitVec.ofNat 32 u) (ed : x1 (ix3 a k 3) = BitVec.ofNat 32 d) :
    (val_main_v517 (F := Ideal) x0 x1 x2 x3 x4 x5 x6 x7 x8 x9 x10 x11 x12 x13 x14 x15 x16 x17 x18 x19 (ix3 a k o) : EReal)
      = boxSum (val_main_v439 (F := Ideal) x0 x2 x3 x4 x5 x6 x7 x8 x9 x10 x11 x12 x13 x14 x15 x16 x17 x18 x19) a o u d l r * ((1 / (((d - u) * (r - l) : ℕ) : ℝ) : ℝ) : EReal) := by
  unfold val_main_v517
  refine (transpose_apply _ _ _ _ (ix3 a o k) fun b => ?_).trans ?_
  · match b with
    | ⟨0, _⟩ => rfl
    | ⟨1, _⟩ => rfl
    | ⟨2, _⟩ => rfl
  · show Ideal.div (val_main_v464 (F := Ideal) x0 x1 x2 x3 x4 x5 x6 x7 x8 x9 x10 x11 x12 x13 x14 x15 x16 x17 x18 x19 (ix3 a o k) - val_main_v478 (F := Ideal) x0 x1 x2 x3 x4 x5 x6 x7 x8 x9 x10 x11 x12 x13 x14 x15 x16 x17 x18 x19 (ix3 a o k) - val_main_v493 (F := Ideal) x0 x1 x2 x3 x4 x5 x6 x7 x8 x9 x10 x11 x12 x13 x14 x15 x16 x17 x18 x19 (ix3 a o k)
      + val_main_v508 (F := Ideal) x0 x1 x2 x3 x4 x5 x6 x7 x8 x9 x10 x11 x12 x13 x14 x15 x16 x17 x18 x19 (ix3 a o k)) (val_main_v515 (F := Ideal) x1 (ix3 a o k)) = _
    rw [corner_464 x0 x1 x2 x3 x4 x5 x6 x7 x8 x9 x10 x11 x12 x13 x14 x15 x16 x17 x18 x19 a k o d r hd hr ed er, corner_478 x0 x1 x2 x3 x4 x5 x6 x7 x8 x9 x10 x11 x12 x13 x14 x15 x16 x17 x18 x19 a k o u r (by omega) hr eu er, corner_493 x0 x1 x2 x3 x4 x5 x6 x7 x8 x9 x10 x11 x12 x13 x14 x15 x16 x17 x18 x19 a k o d l hd (by omega) ed el,
      corner_508 x0 x1 x2 x3 x4 x5 x6 x7 x8 x9 x10 x11 x12 x13 x14 x15 x16 x17 x18 x19 a k o u l (by omega) (by omega) eu el, area_at x1 a k o u d l r hu hd hl hr el er eu ed, corners hy a o u d l r (by omega) (by omega)]
    refine Ideal.div_coe ?_ _
    have := Nat.mul_pos (show 0 < d - u by omega) (show 0 < r - l by omega)
    exact_mod_cast this.ne'
end

end Cert.ReferenceIdeal.Read

end
-- ==== Proof.Inside.lean ====
/-
  What the precondition and the mask say: the first, that every entry of the map, the weights and the biases is a real
  number; the second, that the box of an entry lies inside the columns 6 to 346.
-/
module

public import proofs.«01_k».proof.Pre_finite_inputs
public import proofs.«01_k».proof.On_boxes_inside
public import proofs.«01_k».proof.Proof.Spec
public import Idealize.ShloMosaic.Lib.Affine
public import Idealize.ShloMosaic.Lib.WordCmp
public import Idealize.ShloMosaic.Lib.Pipeline.Value
public import Idealize.ShloMosaic.Lib.ValueIdx

@[expose] public section

noncomputable section

namespace Cert.Super

open Idealize.ShloMosaic Idealize.ShloMosaic.ValueIdx

theorem facts_finite : Cert.Pre_finite_inputs.Facts := ⟨by decide, by decide, by decide, by decide, by decide, by decide, by decide, by decide⟩
theorem facts_inside : Cert.On_boxes_inside.Facts := ⟨by decide, by decide, by decide, by decide, by decide, by decide, by decide, by decide⟩

/-- An entry below infinity in absolute value is a real number. -/
theorem real_of_bit {s : Shape} (x : FVec Ideal s .f32) (hb : (⟨0, ![]⟩ : Shape).BroadcastsInDim s (![] : Fin 0 → Fin s.rank)) (i : s.Idx)
    (h : cmpf .olt (Host.absf x) (broadcastInDim s ![] hb (constant ⟨0, ![]⟩ .f32 0x7F800000#32)) i = 1#1) : ∃ r : ℝ, (x i : EReal) = (r : EReal) := by
  have hi : Ideal.ofBits .f32 0x7F800000#32 = ⊤ := by simp [Ideal.ofBits, Ideal.ieee]
  have h' : BitVec.ofBool (decide (max (x i : EReal) (-(x i : EReal)) < Ideal.ofBits .f32 0x7F800000#32)) = 1#1 := h
  rw [hi] at h'
  have hlt : max (x i : EReal) (-(x i : EReal)) < ⊤ := by
    by_contra hn
    rw [decide_eq_false hn] at h'
    exact absurd h' (by decide)
  obtain ⟨h1, h2⟩ := max_lt_iff.1 hlt
  refine ⟨(x i : EReal).toReal, (EReal.coe_toReal h1.ne ?_).symm⟩
  intro hbot
  rw [hbot] at h2
  exact absurd h2 (by simp)

/-- Two bits together. -/
theorem both {p q : BitVec 1} (h : IntOp.andi p q = 1#1) : p = 1#1 ∧ q = 1#1 := by
  revert p q; decide

section
variable (x0 : FVec Ideal ⟨4, ![8, 64, 100, 352]⟩ .f32) (x1 : IVec ⟨3, ![8, 50, 4]⟩ 32) (x2 : FVec Ideal ⟨4, ![128, 64, 3, 3]⟩ .f32) (x3 : FVec Ideal ⟨1, ![128]⟩ .f32) (x4 : FVec Ideal ⟨4, ![128, 128, 3, 3]⟩ .f32) (x5 : FVec Ideal ⟨1, ![128]⟩ .f32) (x6 : FVec Ideal ⟨4, ![128, 128, 3, 3]⟩ .f32) (x7 : FVec Ideal ⟨1, ![128]⟩ .f32) (x8 : FVec Ideal ⟨4, ![128, 128, 3, 3]⟩ .f32) (x9 : FVec Ideal ⟨1, ![128]⟩ .f32) (x10 : FVec Ideal ⟨4, ![256, 128, 3, 3]⟩ .f32) (x11 : FVec Ideal ⟨1, ![256]⟩ .f32) (x12 : FVec Ideal ⟨4, ![256, 256, 3, 3]⟩ .f32) (x13 : FVec Ideal ⟨1, ![256]⟩ .f32) (x14 : FVec Ideal ⟨4, ![256, 256, 3, 3]⟩ .f32) (x15 : FVec Ideal ⟨1, ![256]⟩ .f32) (x16 : FVec Ideal ⟨4, ![256, 256, 1, 1]⟩ .f32) (x17 : FVec Ideal ⟨1, ![256]⟩ .f32) (x18 : FVec Ideal ⟨4, ![256, 256, 1, 1]⟩ .f32) (x19 : FVec Ideal ⟨1, ![256]⟩ .f32)

/-- The precondition read. -/
theorem all_real [Cert.Pre_finite_inputs.Facts]
    (h : (Cert.Pre_finite_inputs.fn (F := Ideal) x0 x1 x2 x3 x4 x5 x6 x7 x8 x9 x10 x11 x12 x13 x14 x15 x16 x17 x18 x19).1 = (fun _ => 1#1)
      ∧ (Cert.Pre_finite_inputs.fn (F := Ideal) x0 x1 x2 x3 x4 x5 x6 x7 x8 x9 x10 x11 x12 x13 x14 x15 x16 x17 x18 x19).2.1 = (fun _ => 1#1)
      ∧ (Cert.Pre_finite_inputs.fn (F := Ideal) x0 x1 x2 x3 x4 x5 x6 x7 x8 x9 x10 x11 x12 x13 x14 x15 x16 x17 x18 x19).2.2.1 = (fun _ => 1#1)
      ∧ (Cert.Pre_finite_inputs.fn (F := Ideal) x0 x1 x2 x3 x4 x5 x6 x7 x8 x9 x10 x11 x12 x13 x14 x15 x16 x17 x18 x19).2.2.2.1 = (fun _ => 1#1)
      ∧ (Cert.Pre_finite_inputs.fn (F := Ideal) x0 x1 x2 x3 x4 x5 x6 x7 x8 x9 x10 x11 x12 x13 x14 x15 x16 x17 x18 x19).2.2.2.2.1 = (fun _ => 1#1)
      ∧ (Cert.Pre_finite_inputs.fn (F := Ideal) x0 x1 x2 x3 x4 x5 x6 x7 x8 x9 x10 x11 x12 x13 x14 x15 x16 x17 x18 x19).2.2.2.2.2.1 = (fun _ => 1#1)
      ∧ (Cert.Pre_finite_inputs.fn (F := Ideal) x0 x1 x2 x3 x4 x5 x6 x7 x8 x9 x10 x11 x12 x13 x14 x15 x16 x17 x18 x19).2.2.2.2.2.2.1 = (fun _ => 1#1)
      ∧ (Cert.Pre_finite_inputs.fn (F := Ideal) x0 x1 x2 x3 x4 x5 x6 x7 x8 x9 x10 x11 x12 x13 x14 x15 x16 x17 x18 x19).2.2.2.2.2.2.2 = (fun _ => 1#1)) :
    Real' (s := ⟨4, ![8, 64, 100, 352]⟩) x0 ∧ Real' (s := ⟨4, ![128, 64, 3, 3]⟩) x2 ∧ Real' (s := ⟨1, ![128]⟩) x3 ∧ Real' (s := ⟨4, ![128, 128, 3, 3]⟩) x4 ∧ Real' (s := ⟨1, ![128]⟩) x5 ∧ Real' (s := ⟨4, ![128, 128, 3, 3]⟩) x6 ∧ Real' (s := ⟨1, ![128]⟩) x7 ∧ Real' (s := ⟨4, ![128, 128, 3, 3]⟩) x8 ∧ Real' (s := ⟨1, ![128]⟩) x9 ∧ Real' (s := ⟨4, ![256, 128, 3, 3]⟩) x10 ∧ Real' (s := ⟨1, ![256]⟩) x11 ∧ Real' (s := ⟨4, ![256, 256, 3, 3]⟩) x12 ∧ Real' (s := ⟨1, ![256]⟩) x13 ∧ Real' (s := ⟨4, ![256, 256, 3, 3]⟩) x14 ∧ Real' (s := ⟨1, ![256]⟩) x15 ∧ Real' (s := ⟨4, ![256, 256, 1, 1]⟩) x16 ∧ Real' (s := ⟨1, ![256]⟩) x17 ∧ Real' (s := ⟨4, ![256, 256, 1, 1]⟩) x18 ∧ Real' (s := ⟨1, ![256]⟩) x19 := by
  obtain ⟨h0, h1, h2, h3, h4, h5, h6, h7⟩ := h
  refine ⟨fun i => ?_, fun i => ?_, fun i => ?_, fun i => ?_, fun i => ?_, fun i => ?_, fun i => ?_, fun i => ?_, fun i => ?_, fun i => ?_, fun i => ?_, fun i => ?_, fun i => ?_, fun i => ?_, fun i => ?_, fun i => ?_, fun i => ?_, fun i => ?_, fun i => ?_⟩
  · exact real_of_bit x0 _ i (congrFun h0 i)
  · exact real_of_bit x2 _ i (congrFun h1 i)
  · exact real_of_bit x3 _ i (both (both (both (congrFun h6 i)).1).1).1
  · exact real_of_bit x4 _ i (both (both (congrFun h2 i)).1).1
  · exact real_of_bit x5 _ i (both (both (both (congrFun h6 i)).1).1).2
  · exact real_of_bit x6 _ i (both (both (congrFun h2 i)).1).2
  · exact real_of_bit x7 _ i (both (both (congrFun h6 i)).1).2
  · exact real_of_bit x8 _ i (both (congrFun h2 i)).2
  · exact real_of_bit x9 _ i (both (congrFun h6 i)).2
  · exact real_of_bit x10 _ i (congrFun h3 i)
  · exact real_of_bit x11 _ i (both (both (both (both (congrFun h7 i)).1).1).1).1
  · exact real_of_bit x12 _ i (both (congrFun h4 i)).1
  · exact real_of_bit x13 _ i (both (both (both (both (congrFun h7 i)).1).1).1).2
  · exact real_of_bit x14 _ i (both (congrFun h4 i)).2
  · exact real_of_bit x15 _ i (both (both (both (congrFun h7 i)).1).1).2
  · exact real_of_bit x16 _ i (both (congrFun h5 i)).1
  · exact real_of_bit x17 _ i (both (both (congrFun h7 i)).1).2
  · exact real_of_bit x18 _ i (both (congrFun h5 i)).2
  · exact real_of_bit x19 _ i (both (congrFun h7 i)).2

/-- A word that is not negative is the word of a natural number. -/
theorem word_nat (w : BitVec 32) (h : 0 ≤ w.toInt) : w = BitVec.ofNat 32 w.toInt.toNat := by
  have hlt : w.toInt < 2 ^ 31 := by simpa using BitVec.toInt_lt (x := w)
  refine BitVec.eq_of_toInt_eq ?_
  rw [WordCmp.toInt_ofNat_of_lt (by omega)]
  omega

theorem mask_col {off : Fin 3 → ℕ} (j : Fin 4) (h0 : off 0 = 0) (h1 : off 1 = 0) (h2 : off 2 = j.val) (hs : (⟨3, ![8, 50, 4]⟩ : Shape).Slices off ⟨3, ![8, 50, 1]⟩)
    (hc : (⟨3, ![8, 50, 1]⟩ : Shape).ShapeCasts ⟨2, ![8, 50]⟩) (y : IVec ⟨3, ![8, 50, 4]⟩ 32) (a : Fin 8) (k : Fin 50) :
    shapeCast ⟨2, ![8, 50]⟩ (extractStridedSlice ⟨3, ![8, 50, 1]⟩ off y hs) hc (ix2 a k) = y (ix3 a k j) := by
  refine (shapeCast_apply _ hc _ (ix3 a k (0 : Fin 1)) ?_).trans (extractStridedSlice_apply _ _ hs _ _ fun b => ?_)
  · rw [Shape.rowMajor_val_two, Shape.rowMajor_val_three]
    show (a.val * 50 + k.val) * 1 + 0 = a.val * 50 + k.val
    omega
  · match b with
    | ⟨0, _⟩ => show a.val = off 0 + a.val; omega
    | ⟨1, _⟩ => show k.val = off 1 + k.val; omega
    | ⟨2, _⟩ => show j.val = off 2 + 0; omega

/-- The mask read: the four edges of the box, as naturals. -/
theorem inside_edges [Cert.On_boxes_inside.Facts] (a : Fin 8) (k : Fin 50) (o : Fin 256)
    (h : Cert.On_boxes_inside.fn (F := Ideal) x0 x1 x2 x3 x4 x5 x6 x7 x8 x9 x10 x11 x12 x13 x14 x15 x16 x17 x18 x19 (ix3 a k o) = 1#1) :
    ∃ u d l r : ℕ, x1 (ix3 a k 0) = BitVec.ofNat 32 l ∧ x1 (ix3 a k 1) = BitVec.ofNat 32 r ∧ x1 (ix3 a k 2) = BitVec.ofNat 32 u ∧ x1 (ix3 a k 3) = BitVec.ofNat 32 d
      ∧ u < d ∧ d ≤ 100 ∧ 6 ≤ l ∧ l < r ∧ r ≤ 346 := by
  unfold Cert.On_boxes_inside.fn Cert.On_boxes_inside.fn_part1 at h
  dsimp only at h
  rw [broadcastInDim_apply _ _ _ (ix3 a k o) (ix3 a k (0 : Fin 1)) (fun b => by
    match b with
    | ⟨0, _⟩ => rfl
    | ⟨1, _⟩ => rfl
    | ⟨2, _⟩ => rfl),
    broadcastInDim_apply _ _ _ (ix3 a k (0 : Fin 1)) (ix2 a k) (fun b => by
    match b with
    | ⟨0, _⟩ => rfl
    | ⟨1, _⟩ => rfl)] at h
  have hA := both h
  have hB := both hA.1
  have hC := both hB.1
  have hD := both hC.1
  have hE := both hD.1
  have c0 := mask_col 0 rfl rfl rfl Cert.On_boxes_inside.Facts.slices_S8x50x4_S8x50x1_0_0_0 Cert.On_boxes_inside.Facts.shapeCasts_S8x50x1_S8x50 x1 a k
  have c1 := mask_col 1 rfl rfl rfl Cert.On_boxes_inside.Facts.slices_S8x50x4_S8x50x1_0_0_1 Cert.On_boxes_inside.Facts.shapeCasts_S8x50x1_S8x50 x1 a k
  have c2 := mask_col 2 rfl rfl rfl Cert.On_boxes_inside.Facts.slices_S8x50x4_S8x50x1_0_0_2 Cert.On_boxes_inside.Facts.shapeCasts_S8x50x1_S8x50 x1 a k
  have c3 := mask_col 3 rfl rfl rfl Cert.On_boxes_inside.Facts.slices_S8x50x4_S8x50x1_0_0_3 Cert.On_boxes_inside.Facts.shapeCasts_S8x50x1_S8x50 x1 a k
  have e1 := IntOp.cmpi_sge.1 (show IntOp.cmpi .sge _ 6#32 = 1#1 from hE.1)
  have e2 := IntOp.cmpi_slt.1 (show IntOp.cmpi .slt _ _ = 1#1 from hE.2)
  have e3 := IntOp.cmpi_sle.1 (show IntOp.cmpi .sle _ 346#32 = 1#1 from hD.2)
  have e4 := IntOp.cmpi_sge.1 (show IntOp.cmpi .sge _ 0#32 = 1#1 from hC.2)
  have e5 := IntOp.cmpi_slt.1 (show IntOp.cmpi .slt _ _ = 1#1 from hB.2)
  have e6 := IntOp.cmpi_sle.1 (show IntOp.cmpi .sle _ 100#32 = 1#1 from hA.2)
  rw [c0] at e1
  rw [c0, c1] at e2
  rw [c1] at e3
  rw [c2] at e4
  rw [c2, c3] at e5
  rw [c3] at e6
  have k6 : (6#32 : BitVec 32).toInt = 6 := by decide
  have k346 : (346#32 : BitVec 32).toInt = 346 := by decide
  have k0 : (0#32 : BitVec 32).toInt = 0 := by decide
  have k100 : (100#32 : BitVec 32).toInt = 100 := by decide
  rw [k6] at e1
  rw [k346] at e3
  rw [k0] at e4
  rw [k100] at e6
  exact ⟨(x1 (ix3 a k 2)).toInt.toNat, (x1 (ix3 a k 3)).toInt.toNat, (x1 (ix3 a k 0)).toInt.toNat, (x1 (ix3 a k 1)).toInt.toNat,
    word_nat _ (by omega), word_nat _ (by omega), word_nat _ (by omega), word_nat _ (by omega), by omega, by omega, by omega, by omega, by omega⟩
end

end Cert.Super

end
-- ==== Proof.lean ====
/- The claims' proof, put together from the modules under Proof/. -/
module

public import proofs.«01_k».proof.Defs
public import proofs.«01_k».proof.Proof.KFrame
public import proofs.«01_k».proof.Proof.KIFinal
public import proofs.«01_k».proof.Proof.RFinal
public import proofs.«01_k».proof.Proof.Inside
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.ShloMosaic.ValueIdx Idealize.SL.Sem Cert.Super

/-- The kernel as printed runs, keeps its arguments and leaves every counter at zero. -/
theorem quiet_kernel : Cert.quiescent_Kernel (hKernel := Cert.Kernel.Gen.facts) := fun m g _ =>
  Cert.Kernel.Gen.frame_quiet m g

/-- So does the kernel over the extended reals. -/
theorem quiet_ideal : Cert.quiescent_KernelIdeal (hKernelIdeal := Cert.KernelIdeal.Gen.facts) := fun m g _ =>
  Cert.KernelIdeal.Gen.frame_quiet m g

/-- And the reference, which has no counter at all. -/
theorem quiet_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run (F := Ideal) m g)

section
variable (m : (ℓ : Loc Cert.KernelIdeal.nD Cert.KernelIdeal.τ Cert.KernelIdeal.sig) → Buf (Elt Ideal) ℓ)

/-- Layers of real maps, weights and biases give a real map. -/
theorem real_feats {x0 : Cert.Super.Map 64} {x2 : Cert.Super.Wts 128 64 3} {x3 : Cert.Super.Bias 128} {x4 : Cert.Super.Wts 128 128 3} {x5 : Cert.Super.Bias 128} {x6 : Cert.Super.Wts 128 128 3} {x7 : Cert.Super.Bias 128} {x8 : Cert.Super.Wts 128 128 3} {x9 : Cert.Super.Bias 128} {x10 : Cert.Super.Wts 256 128 3} {x11 : Cert.Super.Bias 256} {x12 : Cert.Super.Wts 256 256 3} {x13 : Cert.Super.Bias 256} {x14 : Cert.Super.Wts 256 256 3} {x15 : Cert.Super.Bias 256} {x16 : Cert.Super.Wts 256 256 1} {x17 : Cert.Super.Bias 256} {x18 : Cert.Super.Wts 256 256 1} {x19 : Cert.Super.Bias 256}
    (h : Cert.Super.Real' x0 ∧ Cert.Super.Real' x2 ∧ Cert.Super.Real' x3 ∧ Cert.Super.Real' x4 ∧ Cert.Super.Real' x5 ∧ Cert.Super.Real' x6 ∧ Cert.Super.Real' x7 ∧ Cert.Super.Real' x8 ∧ Cert.Super.Real' x9 ∧ Cert.Super.Real' x10 ∧ Cert.Super.Real' x11 ∧ Cert.Super.Real' x12 ∧ Cert.Super.Real' x13 ∧ Cert.Super.Real' x14 ∧ Cert.Super.Real' x15 ∧ Cert.Super.Real' x16 ∧ Cert.Super.Real' x17 ∧ Cert.Super.Real' x18 ∧ Cert.Super.Real' x19) :
    Cert.Super.Real' (Cert.Super.feats x0 x2 x3 x4 x5 x6 x7 x8 x9 x10 x11 x12 x13 x14 x15 x16 x17 x18 x19) := by
  obtain ⟨h0, h2, h3, h4, h5, h6, h7, h8, h9, h10, h11, h12, h13, h14, h15, h16, h17, h18, h19⟩ := h
  exact real_conv1 (real_conv1 (real_conv3 (real_conv3 (real_conv3 (real_conv3 (real_conv3 (real_conv3 (real_conv3 h0 h2 h3) h4 h5) h6 h7) h8 h9) h10 h11) h12 h13) h14 h15) h16 h17) h18 h19

/-- An entry whose box lies inside: the reference's mean, from the kernel's arguments, is what the kernel holds after its
    last strip. -/
theorem same_mean [Cert.Pre_finite_inputs.Facts] [Cert.On_boxes_inside.Facts] (c : Dev Cert.KernelIdeal.nD) (hp : Cert.Pre_KernelIdeal_finite_inputs m) (i : (⟨3, ![8, 50, 256]⟩ : Shape).Idx)
    (hi : Cert.On_boxes_inside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) i = 1#1) :
    Cert.ReferenceIdeal.Read.val_main_v517 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) i
      = (Cert.KernelIdeal.Gen.pdat m 0 c).arrAt 25 Cert.KernelIdeal.cfg0.N i := by
  have hy := real_feats (all_real (x0 := (m ((c.tc : Thread Cert.KernelIdeal.nD Cert.KernelIdeal.τ).loc Cert.KernelIdeal.main_arg0))) (x1 := (m ((c.tc : Thread Cert.KernelIdeal.nD Cert.KernelIdeal.τ).loc Cert.KernelIdeal.main_arg1))) (x2 := (m ((c.tc : Thread Cert.KernelIdeal.nD Cert.KernelIdeal.τ).loc Cert.KernelIdeal.main_arg2))) (x3 := (m ((c.tc : Thread Cert.KernelIdeal.nD Cert.KernelIdeal.τ).loc Cert.KernelIdeal.main_arg3))) (x4 := (m ((c.tc : Thread Cert.KernelIdeal.nD Cert.KernelIdeal.τ).loc Cert.KernelIdeal.main_arg4))) (x5 := (m ((c.tc : Thread Cert.KernelIdeal.nD Cert.KernelIdeal.τ).loc Cert.KernelIdeal.main_arg5))) (x6 := (m ((c.tc : Thread Cert.KernelIdeal.nD Cert.KernelIdeal.τ).loc Cert.KernelIdeal.main_arg6))) (x7 := (m ((c.tc : Thread Cert.KernelIdeal.nD Cert.KernelIdeal.τ).loc Cert.KernelIdeal.main_arg7))) (x8 := (m ((c.tc : Thread Cert.KernelIdeal.nD Cert.KernelIdeal.τ).loc Cert.KernelIdeal.main_arg8))) (x9 := (m ((c.tc : Thread Cert.KernelIdeal.nD Cert.KernelIdeal.τ).loc Cert.KernelIdeal.main_arg9))) (x10 := (m ((c.tc : Thread Cert.KernelIdeal.nD Cert.KernelIdeal.τ).loc Cert.KernelIdeal.main_arg10))) (x11 := (m ((c.tc : Thread Cert.KernelIdeal.nD Cert.KernelIdeal.τ).loc Cert.KernelIdeal.main_arg11))) (x12 := (m ((c.tc : Thread Cert.KernelIdeal.nD Cert.KernelIdeal.τ).loc Cert.KernelIdeal.main_arg12))) (x13 := (m ((c.tc : Thread Cert.KernelIdeal.nD Cert.KernelIdeal.τ).loc Cert.KernelIdeal.main_arg13))) (x14 := (m ((c.tc : Thread Cert.KernelIdeal.nD Cert.KernelIdeal.τ).loc Cert.KernelIdeal.main_arg14))) (x15 := (m ((c.tc : Thread Cert.KernelIdeal.nD Cert.KernelIdeal.τ).loc Cert.KernelIdeal.main_arg15))) (x16 := (m ((c.tc : Thread Cert.KernelIdeal.nD Cert.KernelIdeal.τ).loc Cert.KernelIdeal.main_arg16))) (x17 := (m ((c.tc : Thread Cert.KernelIdeal.nD Cert.KernelIdeal.τ).loc Cert.KernelIdeal.main_arg17))) (x18 := (m ((c.tc : Thread Cert.KernelIdeal.nD Cert.KernelIdeal.τ).loc Cert.KernelIdeal.main_arg18))) (x19 := (m ((c.tc : Thread Cert.KernelIdeal.nD Cert.KernelIdeal.τ).loc Cert.KernelIdeal.main_arg19))) (hp c))
  rw [Cert.KernelIdeal.Gen.final_25 m c]
  obtain ⟨a, k, o, rfl⟩ : ∃ (a : Fin 8) (k : Fin 50) (o : Fin 256), i = ValueIdx.ix3 a k o := ⟨i 0, i 1, i 2, by
    funext b
    match b with
    | ⟨0, _⟩ => rfl
    | ⟨1, _⟩ => rfl
    | ⟨2, _⟩ => rfl⟩
  obtain ⟨u, d, l, r, el, er, eu, ed, hu, hd, hl, hlr, hr⟩ := inside_edges (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) a k o hi
  have hm := Cert.ReferenceIdeal.Read.map_439 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))
  refine (Cert.ReferenceIdeal.Read.result_at (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) a k o u d l r (hm ▸ hy) hu hd hlr (by omega) el er eu ed).trans ?_
  rw [hm]
  exact (Cert.KernelIdeal.Gen.held_eq m c a k o ⟨el, er, eu, ed, hu, hd, hl, hlr, hr⟩).symm
end

/-- Where the box lies inside, the two leave the same mean. -/
theorem same_result : Cert.algebraic_KernelIdeal_ReferenceIdeal_on_boxes_inside_pre_finite_inputs (hKernelIdeal := Cert.KernelIdeal.Gen.facts)
    (hReferenceIdeal := Cert.ReferenceIdeal.Gen.facts) (hPre_finite_inputs := facts_finite) (hOn_boxes_inside := facts_inside) := by
  intro m g m' g' hp hag
  refine ⟨fun c => (Cert.KernelIdeal.Gen.pdat m 0 c).arrAt 25 Cert.KernelIdeal.cfg0.N, ?_, ?_⟩
  · refine (θ_run _ _ _).mono (fun r h c => ⟨fun i _ => congrFun ((h c).1 25) i, ?_⟩) (Cert.KernelIdeal.Gen.ran m g)
    exact ⟨((h c).2 Cert.KernelIdeal.main_arg0 (Pipeline.mem_restRefs_of Cert.KernelIdeal.main_arg0 (by decide) (by decide))).trans (Cert.KernelIdeal.Gen.V_main_arg0 m c), ((h c).2 Cert.KernelIdeal.main_arg1 (Pipeline.mem_restRefs_of Cert.KernelIdeal.main_arg1 (by decide) (by decide))).trans (Cert.KernelIdeal.Gen.V_main_arg1 m c), ((h c).2 Cert.KernelIdeal.main_arg2 (Pipeline.mem_restRefs_of Cert.KernelIdeal.main_arg2 (by decide) (by decide))).trans (Cert.KernelIdeal.Gen.V_main_arg2 m c), ((h c).2 Cert.KernelIdeal.main_arg3 (Pipeline.mem_restRefs_of Cert.KernelIdeal.main_arg3 (by decide) (by decide))).trans (Cert.KernelIdeal.Gen.V_main_arg3 m c), ((h c).2 Cert.KernelIdeal.main_arg4 (Pipeline.mem_restRefs_of Cert.KernelIdeal.main_arg4 (by decide) (by decide))).trans (Cert.KernelIdeal.Gen.V_main_arg4 m c), ((h c).2 Cert.KernelIdeal.main_arg5 (Pipeline.mem_restRefs_of Cert.KernelIdeal.main_arg5 (by decide) (by decide))).trans (Cert.KernelIdeal.Gen.V_main_arg5 m c), ((h c).2 Cert.KernelIdeal.main_arg6 (Pipeline.mem_restRefs_of Cert.KernelIdeal.main_arg6 (by decide) (by decide))).trans (Cert.KernelIdeal.Gen.V_main_arg6 m c), ((h c).2 Cert.KernelIdeal.main_arg7 (Pipeline.mem_restRefs_of Cert.KernelIdeal.main_arg7 (by decide) (by decide))).trans (Cert.KernelIdeal.Gen.V_main_arg7 m c), ((h c).2 Cert.KernelIdeal.main_arg8 (Pipeline.mem_restRefs_of Cert.KernelIdeal.main_arg8 (by decide) (by decide))).trans (Cert.KernelIdeal.Gen.V_main_arg8 m c), ((h c).2 Cert.KernelIdeal.main_arg9 (Pipeline.mem_restRefs_of Cert.KernelIdeal.main_arg9 (by decide) (by decide))).trans (Cert.KernelIdeal.Gen.V_main_arg9 m c), ((h c).2 Cert.KernelIdeal.main_arg10 (Pipeline.mem_restRefs_of Cert.KernelIdeal.main_arg10 (by decide) (by decide))).trans (Cert.KernelIdeal.Gen.V_main_arg10 m c), ((h c).2 Cert.KernelIdeal.main_arg11 (Pipeline.mem_restRefs_of Cert.KernelIdeal.main_arg11 (by decide) (by decide))).trans (Cert.KernelIdeal.Gen.V_main_arg11 m c), ((h c).2 Cert.KernelIdeal.main_arg12 (Pipeline.mem_restRefs_of Cert.KernelIdeal.main_arg12 (by decide) (by decide))).trans (Cert.KernelIdeal.Gen.V_main_arg12 m c), ((h c).2 Cert.KernelIdeal.main_arg13 (Pipeline.mem_restRefs_of Cert.KernelIdeal.main_arg13 (by decide) (by decide))).trans (Cert.KernelIdeal.Gen.V_main_arg13 m c), ((h c).2 Cert.KernelIdeal.main_arg14 (Pipeline.mem_restRefs_of Cert.KernelIdeal.main_arg14 (by decide) (by decide))).trans (Cert.KernelIdeal.Gen.V_main_arg14 m c), ((h c).2 Cert.KernelIdeal.main_arg15 (Pipeline.mem_restRefs_of Cert.KernelIdeal.main_arg15 (by decide) (by decide))).trans (Cert.KernelIdeal.Gen.V_main_arg15 m c), ((h c).2 Cert.KernelIdeal.main_arg16 (Pipeline.mem_restRefs_of Cert.KernelIdeal.main_arg16 (by decide) (by decide))).trans (Cert.KernelIdeal.Gen.V_main_arg16 m c), ((h c).2 Cert.KernelIdeal.main_arg17 (Pipeline.mem_restRefs_of Cert.KernelIdeal.main_arg17 (by decide) (by decide))).trans (Cert.KernelIdeal.Gen.V_main_arg17 m c), ((h c).2 Cert.KernelIdeal.main_arg18 (Pipeline.mem_restRefs_of Cert.KernelIdeal.main_arg18 (by decide) (by decide))).trans (Cert.KernelIdeal.Gen.V_main_arg18 m c), ((h c).2 Cert.KernelIdeal.main_arg19 (Pipeline.mem_restRefs_of Cert.KernelIdeal.main_arg19 (by decide) (by decide))).trans (Cert.KernelIdeal.Gen.V_main_arg19 m c)⟩
  · refine (θ_run _ _ _).mono (fun r h c => ⟨fun i hi => ?_, (h c).2⟩) (Cert.ReferenceIdeal.Value.run (F := Ideal) m' g')
    obtain ⟨e0, e1, e2, e3, e4, e5, e6, e7, e8, e9, e10, e11, e12, e13, e14, e15, e16, e17, e18, e19⟩ := hag c
    have hv : r.2.mem ((c.tc : Thread Cert.ReferenceIdeal.nD Cert.ReferenceIdeal.τ).loc Cert.ReferenceIdeal.main_v517)
        = Cert.ReferenceIdeal.Read.val_main_v517 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) :=
      (h c).1.trans (Cert.ReferenceIdeal.Read.val_main_v517_eq (Idealize.ShloMosaic.StableHlo.launchContents m' c))
    rw [e0, e1, e2, e3, e4, e5, e6, e7, e8, e9, e10, e11, e12, e13, e14, e15, e16, e17, e18, e19] at hv
    exact (congrFun hv i).trans (@same_mean m facts_finite facts_inside c hp i hi)

theorem claim : Cert.Claim :=
  ⟨Cert.Kernel.Gen.facts, Cert.KernelIdeal.Gen.facts, Cert.ReferenceIdeal.Gen.facts, facts_finite, facts_inside,
    quiet_kernel, quiet_ideal, fun m g _ => quiet_ideal m g trivial, quiet_reference, fun m g _ => quiet_reference m g trivial, trivial, same_result⟩

end Cert.Proof

end
